-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_router [hPre_finite_router : Cert.Pre_finite_router.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_router.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_router.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_router [hPre_finite_router : Cert.Pre_finite_router.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_router.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_router.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scan [hPre_finite_scan : Cert.Pre_finite_scan.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scan.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).1 = (fun _ => 1#1)
    ∧ (Cert.Pre_finite_scan.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scan [hPre_finite_scan : Cert.Pre_finite_scan.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scan.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).1 = (fun _ => 1#1)
    ∧ (Cert.Pre_finite_scan.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_router [hKernel2Ideal : Cert.Kernel2Ideal.Facts] [hPre_finite_router : Cert.Pre_finite_router.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_router m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_router [hReference2Ideal : Cert.Reference2Ideal.Facts] [hPre_finite_router : Cert.Pre_finite_router.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_router m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Kernel5Ideal_pre_finite_scan [hKernel5Ideal : Cert.Kernel5Ideal.Facts] [hPre_finite_scan : Cert.Pre_finite_scan.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scan m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Reference5Ideal_pre_finite_scan [hReference5Ideal : Cert.Reference5Ideal.Facts] [hPre_finite_scan : Cert.Pre_finite_scan.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scan m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_router [hKernel2Ideal : Cert.Kernel2Ideal.Facts] [hReference2Ideal : Cert.Reference2Ideal.Facts] [hPre_finite_router : Cert.Pre_finite_router.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_router m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_scan [hKernel5Ideal : Cert.Kernel5Ideal.Facts] [hReference5Ideal : Cert.Reference5Ideal.Facts] [hPre_finite_scan : Cert.Pre_finite_scan.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scan m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v87) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_router : Cert.Pre_finite_router.Facts) (hPre_finite_scan : Cert.Pre_finite_scan.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_router (hKernel2Ideal := hKernel2Ideal) (hPre_finite_router := hPre_finite_router)
    ∧ quiescent_Reference2Ideal (hReference2Ideal := hReference2Ideal)
    ∧ quiescent_Reference2Ideal_pre_finite_router (hReference2Ideal := hReference2Ideal) (hPre_finite_router := hPre_finite_router)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scan (hKernel5Ideal := hKernel5Ideal) (hPre_finite_scan := hPre_finite_scan)
    ∧ quiescent_Reference5Ideal (hReference5Ideal := hReference5Ideal)
    ∧ quiescent_Reference5Ideal_pre_finite_scan (hReference5Ideal := hReference5Ideal) (hPre_finite_scan := hPre_finite_scan)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_router (hKernel2Ideal := hKernel2Ideal) (hReference2Ideal := hReference2Ideal) (hPre_finite_router := hPre_finite_router)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scan (hKernel5Ideal := hKernel5Ideal) (hReference5Ideal := hReference5Ideal) (hPre_finite_scan := hPre_finite_scan)
-- ==== Pre_finite_router.lean ====
abbrev S16384x1024 : Shape := ⟨2, ![16384, 1024]⟩
abbrev S16x6x1024 : Shape := ⟨3, ![16, 6, 1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S1024 : Shape := ⟨1, ![1024]⟩
abbrev S9x2x1024 : Shape := ⟨3, ![9, 2, 1024]⟩
abbrev S_ : Shape := ⟨0, ![]⟩

class Facts : Prop where
  slices_S16x6x1024_S9x2x1024_0_3_0 : S16x6x1024.Slices ![0, 3, 0] S9x2x1024
  bcast_S_S9x2x1024 : S_.BroadcastsInDim S9x2x1024 (![] : Fin 0 → Fin S9x2x1024.rank)
  bcast_S_S1024x8 : S_.BroadcastsInDim S1024x8 (![] : Fin 0 → Fin S1024x8.rank)

variable [Facts]

def fn {F : FTy → Type} [FloatOps F] (main_arg0 : FVec F S16384x1024 .f32) (main_arg1 : FVec F S16x6x1024 .f32) (main_arg2 : FVec F S1024x8 .f32) (main_arg3 : FVec F S8 .f32) (main_arg4 : FVec F S8x1024x2816 .f32) (main_arg5 : FVec F S8x1408x1024 .f32) (main_arg6 : FVec F S1024 .f32) (main_arg7 : FVec F S1024 .f32) : IVec S9x2x1024 1 × IVec S1024x8 1 :=
  let main_v0 : FVec F S9x2x1024 .f32 := (extractStridedSlice S9x2x1024 ![0, 3, 0] · slices_S16x6x1024_S9x2x1024_0_3_0) main_arg1
  let main_v1 : FVec F S9x2x1024 .f32 := Host.absf main_v0
  let main_cst : FVec F S_ .f32 := constant S_ .f32 0x7F800000#32
  let main_v2 : FVec F S9x2x1024 .f32 := broadcastInDim S9x2x1024 ![] bcast_S_S9x2x1024 main_cst
  let main_v3 : IVec S9x2x1024 1 := cmpf .olt main_v1 main_v2
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  (main_v3, main_v6)
-- ==== Pre_finite_scan.lean ====
abbrev S16384x512 : Shape := ⟨2, ![16384, 512]⟩
abbrev S16384x2048 : Shape := ⟨2, ![16384, 2048]⟩
abbrev S16384x1024 : Shape := ⟨2, ![16384, 1024]⟩
abbrev S16x6x1024 : Shape := ⟨3, ![16, 6, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x2048 .f32) (main_arg6 : FVec F S16384x1024 .f32) (main_arg7 : FVec F S16x6x1024 .f32) (main_arg8 : FVec F S512 .f32) (main_arg9 : FVec F S512 .f32) (main_arg10 : FVec F S512x1024 .f32) (main_arg11 : FVec F S512x1024 .f32) (main_arg12 : FVec F S1024x1024 .f32) (main_arg13 : FVec F S1024 .f32) (main_arg14 : FVec F S1024 .f32) : IVec S16384x512 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  (main_v2, main_v5)
-- ==== Kernel.lean ====
abbrev S256x64x512 : Shape := ⟨3, ![256, 64, 512]⟩
abbrev S64x64x512 : Shape := ⟨3, ![64, 64, 512]⟩
abbrev S32x64x128 : Shape := ⟨3, ![32, 64, 128]⟩
abbrev S64x64x128 : Shape := ⟨3, ![64, 64, 128]⟩
abbrev S1x64x128 : Shape := ⟨3, ![1, 64, 128]⟩
abbrev S64x128 : Shape := ⟨2, ![64, 128]⟩
abbrev S8x8x128 : Shape := ⟨3, ![8, 8, 128]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩

abbrev nBuf : Space → Nat
  | .hbm => 9
  | .vmem => 19
  | .smem => 0
  | _ => 0

abbrev bufTy : (tb : Table) → Fin (tcTables nBuf tb) → BufTy
  | .hbm, ⟨0, _⟩ => ⟨S256x64x512, .f32⟩
  | .hbm, ⟨1, _⟩ => ⟨S256x64x512, .f32⟩
  | .hbm, ⟨2, _⟩ => ⟨S256x64x512, .f32⟩
  | .hbm, ⟨3, _⟩ => ⟨S256x64x512, .f32⟩
  | .hbm, ⟨4, _⟩ => ⟨S256x64x512, .f32⟩
  | .hbm, ⟨5, _⟩ => ⟨S256x64x512, .f32⟩
  | .hbm, ⟨6, _⟩ => ⟨S64x64x512, .f32⟩
  | .hbm, ⟨7, _⟩ => ⟨S256x64x512, .f32⟩
  | .hbm, ⟨8, _⟩ => ⟨S64x64x512, .f32⟩
  | .local _ .vmem, ⟨0, _⟩ => ⟨S32x64x128, .f32⟩
  | .local _ .vmem, ⟨1, _⟩ => ⟨S32x64x128, .f32⟩
  | .local _ .vmem, ⟨2, _⟩ => ⟨S32x64x128, .f32⟩
  | .local _ .vmem, ⟨3, _⟩ => ⟨S32x64x128, .f32⟩
  | .local _ .vmem, ⟨4, _⟩ => ⟨S32x64x128, .f32⟩
  | .local _ .vmem, ⟨5, _⟩ => ⟨S32x64x128, .f32⟩
  | .local _ .vmem, ⟨6, _⟩ => ⟨S32x64x128, .f32⟩
  | .local _ .vmem, ⟨7, _⟩ => ⟨S32x64x128, .f32⟩
  | .local _ .vmem, ⟨8, _⟩ => ⟨S32x64x128, .f32⟩
  | .local _ .vmem, ⟨9, _⟩ => ⟨S32x64x128, .f32⟩
  | .local _ .vmem, ⟨10, _⟩ => ⟨S32x64x128, .f32⟩
  | .local _ .vmem, ⟨11, _⟩ => ⟨S32x64x128, .f32⟩
  | .local _ .vmem, ⟨12, _⟩ => ⟨S64x64x128, .f32⟩
  | .local _ .vmem, ⟨13, _⟩ => ⟨S64x64x128, .f32⟩
  | .local _ .vmem, ⟨14, _⟩ => ⟨S32x64x128, .f32⟩
  | .local _ .vmem, ⟨15, _⟩ => ⟨S32x64x128, .f32⟩
  | .local _ .vmem, ⟨16, _⟩ => ⟨S64x64x128, .f32⟩
  | .local _ .vmem, ⟨17, _⟩ => ⟨S64x64x128, .f32⟩
  | .local _ .vmem, ⟨18, _⟩ => ⟨S64x64x128, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) (c0_i32_4 : BitVec 32) : Fin 3 → Nat :=
  let c0_i32_1 : BitVec 32 := 0#32
  let c1_i32 : BitVec 32 := 1#32
  let arg12 : BitVec 32 := Scf.iv c0_i32_1 c1_i32 k0_t1
  let c4_i32 : BitVec 32 := 4#32
  let v7 : BitVec 32 := Scalar.muli arg12 c4_i32
  let v8 : BitVec 32 := Scalar.addi v7 c0_i32_4
  let v9 : Index := Scalar.indexCast v8
  let c0 : Index := 0#32
  let c0_5 : Index := 0#32
  ![v9.toNat, 0, 0]
@[reducible] def k0_t2_loop : Scf.Loop 32 :=
  let c0_i32_13 : BitVec 32 := 0#32
  let c32_i32 : BitVec 32 := 32#32
  let v28 : BitVec 32 := Scalar.addi c0_i32_13 c32_i32
  let c1_i32_14 : BitVec 32 := 1#32
  ⟨c0_i32_13, v28, c1_i32_14⟩
def k0_off2 (k0_t2 : Fin k0_t2_loop.trips) : Fin 3 → Nat :=
  let c0_i32_13 : BitVec 32 := 0#32
  let c1_i32_14 : BitVec 32 := 1#32
  let arg13 : BitVec 32 := Scf.iv c0_i32_13 c1_i32_14 k0_t2
  let v54 : Index := Scalar.indexCast arg13
  let c0_28 : Index := 0#32
  let c0_29 : Index := 0#32
  ![v54.toNat, 0, 0]
def k0_off3 (k0_t1 : Fin k0_t1_loop.trips) (k0_t2 : Fin k0_t2_loop.trips) (c0_i32_41 : BitVec 32) : Fin 3 → Nat :=
  let c0_i32_13 : BitVec 32 := 0#32
  let c1_i32_14 : BitVec 32 := 1#32
  let arg13 : BitVec 32 := Scf.iv c0_i32_13 c1_i32_14 k0_t2
  let v83 : Index := Scalar.indexCast arg13
  let c0_i32_1 : BitVec 32 := 0#32
  let c1_i32 : BitVec 32 := 1#32
  let arg12 : BitVec 32 := Scf.iv c0_i32_1 c1_i32 k0_t1
  let c4_i32 : BitVec 32 := 4#32
  let v7 : BitVec 32 := Scalar.muli arg12 c4_i32
  let v82 : BitVec 32 := Scalar.addi v7 c0_i32_41
  let v84 : Index := Scalar.indexCast v82
  let c0_42 : Index := 0#32
  ![v83.toNat, v84.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S256x64x512 : Shape := ⟨3, ![256, 64, 512]⟩
abbrev S64x64x512 : Shape := ⟨3, ![64, 64, 512]⟩
abbrev S256x512x64 : Shape := ⟨3, ![256, 512, 64]⟩
abbrev S512x64x64 : Shape := ⟨3, ![512, 64, 64]⟩
abbrev S_ : Shape := ⟨0, ![]⟩
abbrev S1x512x64 : Shape := ⟨3, ![1, 512, 64]⟩
abbrev S512x64 : Shape := ⟨2, ![512, 64]⟩
abbrev S512x1x64 : Shape := ⟨3, ![512, 1, 64]⟩
abbrev S512x64x1 : Shape := ⟨3, ![512, 64, 1]⟩

abbrev nBuf : Space → Nat
  | .hbm => 77
  | .vmem => 0
  | .smem => 0
  | _ => 0

abbrev bufTy : (tb : Table) → Fin (tcTables nBuf tb) → BufTy
  | .hbm, ⟨0, _⟩ => ⟨S256x64x512, .f32⟩
  | .hbm, ⟨1, _⟩ => ⟨S256x64x512, .f32⟩
  | .hbm, ⟨2, _⟩ => ⟨S256x64x512, .f32⟩
  | .hbm, ⟨3, _⟩ => ⟨S256x64x512, .f32⟩
  | .hbm, ⟨4, _⟩ => ⟨S256x64x512, .f32⟩
  | .hbm, ⟨5, _⟩ => ⟨S256x64x512, .f32⟩
  | .hbm, ⟨6, _⟩ => ⟨S64x64x512, .f32⟩
  | .hbm, ⟨7, _⟩ => ⟨S256x512x64, .f32⟩
  | .hbm, ⟨8, _⟩ => ⟨S256x512x64, .f32⟩
  | .hbm, ⟨9, _⟩ => ⟨S256x512x64, .f32⟩
  | .hbm, ⟨10, _⟩ => ⟨S256x512x64, .f32⟩
  | .hbm, ⟨11, _⟩ => ⟨S256x512x64, .f32⟩
  | .hbm, ⟨12, _⟩ => ⟨S256x512x64, .f32⟩
  | .hbm, ⟨13, _⟩ => ⟨S512x64x64, .f32⟩
  | .hbm, ⟨14, _⟩ => ⟨S_, .f32⟩
  | .hbm, ⟨15, _⟩ => ⟨S256x512x64, .f32⟩
  | .hbm, ⟨16, _⟩ => ⟨S_, .i32⟩
  | .hbm, ⟨17, _⟩ => ⟨S256x512x64, .f32⟩
  | .hbm, ⟨18, _⟩ => ⟨S256x512x64, .f32⟩
  | .hbm, ⟨19, _⟩ => ⟨S256x512x64, .f32⟩
  | .hbm, ⟨20, _⟩ => ⟨S256x512x64, .f32⟩
  | .hbm, ⟨21, _⟩ => ⟨S256x512x64, .f32⟩
  | .hbm, ⟨22, _⟩ => ⟨S256x512x64, .f32⟩
  | .hbm, ⟨23, _⟩ => ⟨S_, .i32⟩
  | .hbm, ⟨24, _⟩ => ⟨S512x64x64, .f32⟩
  | .hbm, ⟨25, _⟩ => ⟨S256x512x64, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x512x64, .f32⟩
  | .hbm, ⟨31, _⟩ => ⟨S512x64, .f32⟩
  | .hbm, ⟨32, _⟩ => ⟨S_, .i32⟩
  | .hbm, ⟨33, _⟩ => ⟨S_, .i32⟩
  | .hbm, ⟨34, _⟩ => ⟨S1x512x64, .f32⟩
  | .hbm, ⟨35, _⟩ => ⟨S512x64, .f32⟩
  | .hbm, ⟨36, _⟩ => ⟨S_, .i32⟩
  | .hbm, ⟨37, _⟩ => ⟨S_, .i32⟩
  | .hbm, ⟨38, _⟩ => ⟨S1x512x64, .f32⟩
  | .hbm, ⟨39, _⟩ => ⟨S512x64, .f32⟩
  | .hbm, ⟨40, _⟩ => ⟨S_, .i32⟩
  | .hbm, ⟨41, _⟩ => ⟨S_, .i32⟩
  | .hbm, ⟨42, _⟩ => ⟨S1x512x64, .f32⟩
  | .hbm, ⟨43, _⟩ => ⟨S512x64, .f32⟩
  | .hbm, ⟨44, _⟩ => ⟨S_, .i32⟩
  | .hbm, ⟨45, _⟩ => ⟨S_, .i32⟩
  | .hbm, ⟨46, _⟩ => ⟨S1x512x64, .f32⟩
  | .hbm, ⟨47, _⟩ => ⟨S512x64, .f32⟩
  | .hbm, ⟨48, _⟩ => ⟨S_, .i32⟩
  | .hbm, ⟨49, _⟩ => ⟨S_, .i32⟩
  | .hbm, ⟨50, _⟩ => ⟨S1x512x64, .f32⟩
  | .hbm, ⟨51, _⟩ => ⟨S512x64, .f32⟩
  | .hbm, ⟨52, _⟩ => ⟨S512x64, .f32⟩
  | .hbm, ⟨53, _⟩ => ⟨S512x1x64, .f32⟩
  | .hbm, ⟨54, _⟩ => ⟨S512x64x64, .f32⟩
  | .hbm, ⟨55, _⟩ => ⟨S512x64x64, .f32⟩
  | .hbm, ⟨56, _⟩ => ⟨S512x64x1, .f32⟩
  | .hbm, ⟨57, _⟩ => ⟨S512x1x64, .f32⟩
  | .hbm, ⟨58, _⟩ => ⟨S512x64x64, .f32⟩
  | .hbm, ⟨59, _⟩ => ⟨S512x64x64, .f32⟩
  | .hbm, ⟨60, _⟩ => ⟨S512x64x64, .f32⟩
  | .hbm, ⟨61, _⟩ => ⟨S512x64x64, .f32⟩
  | .hbm, ⟨62, _⟩ => ⟨S512x64x1, .f32⟩
  | .hbm, ⟨63, _⟩ => ⟨S512x1x64, .f32⟩
  | .hbm, ⟨64, _⟩ => ⟨S512x64x64, .f32⟩
  | .hbm, ⟨65, _⟩ => ⟨S512x64x64, .f32⟩
  | .hbm, ⟨66, _⟩ => ⟨S512x64x64, .f32⟩
  | .hbm, ⟨67, _⟩ => ⟨S512x64x64, .f32⟩
  | .hbm, ⟨68, _⟩ => ⟨S512x64, .f32⟩
  | .hbm, ⟨69, _⟩ => ⟨S1x512x64, .f32⟩
  | .hbm, ⟨70, _⟩ => ⟨S_, .i32⟩
  | .hbm, ⟨71, _⟩ => ⟨S_, .i32⟩
  | .hbm, ⟨72, _⟩ => ⟨S256x512x64, .f32⟩
  | .hbm, ⟨73, _⟩ => ⟨S_, .i32⟩
  | .hbm, ⟨74, _⟩ => ⟨S_, .i32⟩
  | .hbm, ⟨75, _⟩ => ⟨S256x64x512, .f32⟩
  | .hbm, ⟨76, _⟩ => ⟨S64x64x512, .f32⟩
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v8_8 : Ref sig .tc := ⟨.hbm, 25, rfl⟩
abbrev main_while0c_c_8 : Ref sig .tc := ⟨.hbm, 26, rfl⟩
abbrev main_while0c_v11 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v11 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_v0 : Ref sig .tc := ⟨.hbm, 34, rfl⟩
abbrev main_while0b_v12 : Ref sig .tc := ⟨.hbm, 35, rfl⟩
abbrev main_while0b_call2_c : Ref sig .tc := ⟨.hbm, 36, rfl⟩
abbrev main_while0b_call2_c_0 : Ref sig .tc := ⟨.hbm, 37, rfl⟩
abbrev main_while0b_call2_v0 : Ref sig .tc := ⟨.hbm, 38, rfl⟩
abbrev main_while0b_v13 : Ref sig .tc := ⟨.hbm, 39, rfl⟩
abbrev main_while0b_call3_c : Ref sig .tc := ⟨.hbm, 40, rfl⟩
abbrev main_while0b_call3_c_0 : Ref sig .tc := ⟨.hbm, 41, rfl⟩
abbrev main_while0b_call3_v0 : Ref sig .tc := ⟨.hbm, 42, rfl⟩
abbrev main_while0b_v14 : Ref sig .tc := ⟨.hbm, 43, rfl⟩
abbrev main_while0b_call4_c : Ref sig .tc := ⟨.hbm, 44, rfl⟩
abbrev main_while0b_call4_c_0 : Ref sig .tc := ⟨.hbm, 45, rfl⟩
abbrev main_while0b_call4_v0 : Ref sig .tc := ⟨.hbm, 46, rfl⟩
abbrev main_while0b_v15 : Ref sig .tc := ⟨.hbm, 47, rfl⟩
abbrev main_while0b_call5_c : Ref sig .tc := ⟨.hbm, 48, rfl⟩
abbrev main_while0b_call5_c_0 : Ref sig .tc := ⟨.hbm, 49, rfl⟩
abbrev main_while0b_call5_v0 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_call6_v0 : Ref sig .tc := ⟨.hbm, 69, rfl⟩
abbrev main_while0b_call6_c : Ref sig .tc := ⟨.hbm, 70, rfl⟩
abbrev main_while0b_call6_c_0 : Ref sig .tc := ⟨.hbm, 71, rfl⟩
abbrev main_while0b_v34 : Ref sig .tc := ⟨.hbm, 72, rfl⟩
abbrev main_while0b_c_8 : Ref sig .tc := ⟨.hbm, 73, rfl⟩
abbrev main_while0b_v35 : Ref sig .tc := ⟨.hbm, 74, rfl⟩
abbrev main_v9 : Ref sig .tc := ⟨.hbm, 75, rfl⟩
abbrev main_v10 : Ref sig .tc := ⟨.hbm, 76, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x1024 : Shape := ⟨2, ![16384, 1024]⟩
abbrev S16x6x1024 : Shape := ⟨3, ![16, 6, 1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S1024 : Shape := ⟨1, ![1024]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S1x1024 : Shape := ⟨2, ![1, 1024]⟩
abbrev S512x1024 : Shape := ⟨2, ![512, 1024]⟩
abbrev S1x6x1024 : Shape := ⟨3, ![1, 6, 1024]⟩
abbrev S1x1024x1408 : Shape := ⟨3, ![1, 1024, 1408]⟩
abbrev S1x1408x1024 : Shape := ⟨3, ![1, 1408, 1024]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024x8, .f32⟩
  | .hbm, ⟨3, _⟩ => ⟨S8, .f32⟩
  | .hbm, ⟨4, _⟩ => ⟨S8x1024x2816, .f32⟩
  | .hbm, ⟨5, _⟩ => ⟨S8x1408x1024, .f32⟩
  | .hbm, ⟨6, _⟩ => ⟨S1024, .f32⟩
  | .hbm, ⟨7, _⟩ => ⟨S1024, .f32⟩
  | .hbm, ⟨8, _⟩ => ⟨S8x1024x2816, .bf16⟩
  | .hbm, ⟨9, _⟩ => ⟨S8x1408x1024, .bf16⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1024x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | .local _ .vmem, ⟨18, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 1 := Scalar.cmpi .slt v0 c32_i32
  let c32_i32_0 : BitVec 32 := 32#32
  let v2 : BitVec 32 := Scalar.subi v0 c32_i32_0
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg1.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S16x6x1024 : Shape := ⟨3, ![16, 6, 1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S1024 : Shape := ⟨1, ![1024]⟩
abbrev S1x6x1024 : Shape := ⟨3, ![1, 6, 1024]⟩
abbrev S6x1024 : Shape := ⟨2, ![6, 1024]⟩
abbrev S8192x6x1024 : Shape := ⟨3, ![8192, 6, 1024]⟩
abbrev S8x6x1024 : Shape := ⟨3, ![8, 6, 1024]⟩
abbrev S8x1x6x1024 : Shape := ⟨4, ![8, 1, 6, 1024]⟩
abbrev S8x1024x6x1024 : Shape := ⟨4, ![8, 1024, 6, 1024]⟩
abbrev S16384x6x1024 : Shape := ⟨3, ![16384, 6, 1024]⟩
abbrev S16384x1x1024 : Shape := ⟨3, ![16384, 1, 1024]⟩
abbrev S_ : Shape := ⟨0, ![]⟩
abbrev S16384x8 : Shape := ⟨2, ![16384, 8]⟩
abbrev S1x8 : Shape := ⟨2, ![1, 8]⟩
abbrev S16384 : Shape := ⟨1, ![16384]⟩
abbrev S16384x1 : Shape := ⟨2, ![16384, 1]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S16384x8x2816 : Shape := ⟨3, ![16384, 8, 2816]⟩
abbrev S16384x8x1408 : Shape := ⟨3, ![16384, 8, 1408]⟩
abbrev S16384x8x1 : Shape := ⟨3, ![16384, 8, 1]⟩
abbrev S1x1024 : Shape := ⟨2, ![1, 1024]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024x8, .f32⟩
  | .hbm, ⟨3, _⟩ => ⟨S8, .f32⟩
  | .hbm, ⟨4, _⟩ => ⟨S8x1024x2816, .f32⟩
  | .hbm, ⟨5, _⟩ => ⟨S8x1408x1024, .f32⟩
  | .hbm, ⟨6, _⟩ => ⟨S1024, .f32⟩
  | .hbm, ⟨7, _⟩ => ⟨S1024, .f32⟩
  | .hbm, ⟨8, _⟩ => ⟨S1x6x1024, .f32⟩
  | .hbm, ⟨9, _⟩ => ⟨S6x1024, .f32⟩
  | .hbm, ⟨10, _⟩ => ⟨S1x6x1024, .f32⟩
  | .hbm, ⟨11, _⟩ => ⟨S8192x6x1024, .f32⟩
  | .hbm, ⟨12, _⟩ => ⟨S8x6x1024, .f32⟩
  | .hbm, ⟨13, _⟩ => ⟨S8x1x6x1024, .f32⟩
  | .hbm, ⟨14, _⟩ => ⟨S8x1024x6x1024, .f32⟩
  | .hbm, ⟨15, _⟩ => ⟨S8192x6x1024, .f32⟩
  | .hbm, ⟨16, _⟩ => ⟨S16384x6x1024, .f32⟩
  | .hbm, ⟨17, _⟩ => ⟨S16384x1x1024, .f32⟩
  | .hbm, ⟨18, _⟩ => ⟨S16384x1024, .f32⟩
  | .hbm, ⟨19, _⟩ => ⟨S16384x1x1024, .f32⟩
  | .hbm, ⟨20, _⟩ => ⟨S16384x1024, .f32⟩
  | .hbm, ⟨21, _⟩ => ⟨S16384x1x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x8, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x8, .f32⟩
  | .hbm, ⟨45, _⟩ => ⟨S16384x8, .f32⟩
  | .hbm, ⟨46, _⟩ => ⟨S16384x2, .f32⟩
  | .hbm, ⟨47, _⟩ => ⟨S16384x2, .i32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x2, .f32⟩
  | .hbm, ⟨52, _⟩ => ⟨S16384x2, .f32⟩
  | .hbm, ⟨53, _⟩ => ⟨S16384x2x1, .i32⟩
  | .hbm, ⟨54, _⟩ => ⟨S1x1x8, .i32⟩
  | .hbm, ⟨55, _⟩ => ⟨S16384x2x8, .i32⟩
  | .hbm, ⟨56, _⟩ => ⟨S16384x2x8, .i32⟩
  | .hbm, ⟨57, _⟩ => ⟨S16384x2x8, .i1⟩
  | .hbm, ⟨58, _⟩ => ⟨S16384x2x8, .f32⟩
  | .hbm, ⟨59, _⟩ => ⟨S16384x2x1, .f32⟩
  | .hbm, ⟨60, _⟩ => ⟨S16384x2x8, .f32⟩
  | .hbm, ⟨61, _⟩ => ⟨S16384x2x8, .f32⟩
  | .hbm, ⟨62, _⟩ => ⟨S_, .f32⟩
  | .hbm, ⟨63, _⟩ => ⟨S16384x8, .f32⟩
  | .hbm, ⟨64, _⟩ => ⟨S16384x8x2816, .f32⟩
  | .hbm, ⟨65, _⟩ => ⟨S16384x8x1408, .f32⟩
  | .hbm, ⟨66, _⟩ => ⟨S16384x8x1408, .f32⟩
  | .hbm, ⟨67, _⟩ => ⟨S16384x8x1408, .f32⟩
  | .hbm, ⟨68, _⟩ => ⟨S16384x8x1408, .f32⟩
  | .hbm, ⟨69, _⟩ => ⟨S_, .f32⟩
  | .hbm, ⟨70, _⟩ => ⟨S16384x8x1408, .f32⟩
  | .hbm, ⟨71, _⟩ => ⟨S16384x8x1408, .f32⟩
  | .hbm, ⟨72, _⟩ => ⟨S_, .f32⟩
  | .hbm, ⟨73, _⟩ => ⟨S16384x8x1408, .f32⟩
  | .hbm, ⟨74, _⟩ => ⟨S16384x8x1408, .f32⟩
  | .hbm, ⟨75, _⟩ => ⟨S16384x8x1408, .f32⟩
  | .hbm, ⟨76, _⟩ => ⟨S16384x8x1408, .f32⟩
  | .hbm, ⟨77, _⟩ => ⟨S16384x8x1, .f32⟩
  | .hbm, ⟨78, _⟩ => ⟨S16384x8x1408, .f32⟩
  | .hbm, ⟨79, _⟩ => ⟨S16384x8x1408, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | .hbm, ⟨112, _⟩ => ⟨S1x1024, .f32⟩
  | .hbm, ⟨113, _⟩ => ⟨S16384x1024, .f32⟩
  | .hbm, ⟨114, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_values : Ref sig .tc := ⟨.hbm, 46, rfl⟩
abbrev main_indices : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_6 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_10 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Kernel3.lean ====
abbrev S16384x1024 : Shape := ⟨2, ![16384, 1024]⟩
abbrev S16x6x1024 : Shape := ⟨3, ![16, 6, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S1024x128 : Shape := ⟨2, ![1024, 128]⟩
abbrev S1x128 : Shape := ⟨2, ![1, 128]⟩
abbrev S1x1024 : Shape := ⟨2, ![1, 1024]⟩
abbrev S512x1024 : Shape := ⟨2, ![512, 1024]⟩
abbrev S1x6x1024 : Shape := ⟨3, ![1, 6, 1024]⟩
abbrev S1024x1408 : Shape := ⟨2, ![1024, 1408]⟩
abbrev S1408x1024 : Shape := ⟨2, ![1408, 1024]⟩
abbrev S512x128 : Shape := ⟨2, ![512, 128]⟩
abbrev S1x1x1024 : Shape := ⟨3, ![1, 1, 1024]⟩
abbrev S512x1408 : Shape := ⟨2, ![512, 1408]⟩
abbrev S512 : Shape := ⟨1, ![512]⟩
abbrev S512x1 : Shape := ⟨2, ![512, 1]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S_, .f32⟩
  | .hbm, ⟨9, _⟩ => ⟨S1024x128, .f32⟩
  | .hbm, ⟨10, _⟩ => ⟨S_, .f32⟩
  | .hbm, ⟨11, _⟩ => ⟨S1x128, .f32⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1024x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | .local _ .vmem, ⟨18, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 1 := Scalar.cmpi .slt v0 c32_i32
  let c32_i32_0 : BitVec 32 := 32#32
  let v2 : BitVec 32 := Scalar.subi v0 c32_i32_0
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 c8_i32 v19
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S16384x1024 : Shape := ⟨2, ![16384, 1024]⟩
abbrev S16x6x1024 : Shape := ⟨3, ![16, 6, 1024]⟩
abbrev S1024x5632 : Shape := ⟨2, ![1024, 5632]⟩
abbrev S2816x1024 : Shape := ⟨2, ![2816, 1024]⟩
abbrev S1024 : Shape := ⟨1, ![1024]⟩
abbrev S1x6x1024 : Shape := ⟨3, ![1, 6, 1024]⟩
abbrev S6x1024 : Shape := ⟨2, ![6, 1024]⟩
abbrev S8192x6x1024 : Shape := ⟨3, ![8192, 6, 1024]⟩
abbrev S8x6x1024 : Shape := ⟨3, ![8, 6, 1024]⟩
abbrev S8x1x6x1024 : Shape := ⟨4, ![8, 1, 6, 1024]⟩
abbrev S8x1024x6x1024 : Shape := ⟨4, ![8, 1024, 6, 1024]⟩
abbrev S16384x6x1024 : Shape := ⟨3, ![16384, 6, 1024]⟩
abbrev S16384x1x1024 : Shape := ⟨3, ![16384, 1, 1024]⟩
abbrev S_ : Shape := ⟨0, ![]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x6x1024, .f32⟩
  | .hbm, ⟨7, _⟩ => ⟨S6x1024, .f32⟩
  | .hbm, ⟨8, _⟩ => ⟨S1x6x1024, .f32⟩
  | .hbm, ⟨9, _⟩ => ⟨S8192x6x1024, .f32⟩
  | .hbm, ⟨10, _⟩ => ⟨S8x6x1024, .f32⟩
  | .hbm, ⟨11, _⟩ => ⟨S8x1x6x1024, .f32⟩
  | .hbm, ⟨12, _⟩ => ⟨S8x1024x6x1024, .f32⟩
  | .hbm, ⟨13, _⟩ => ⟨S8192x6x1024, .f32⟩
  | .hbm, ⟨14, _⟩ => ⟨S16384x6x1024, .f32⟩
  | .hbm, ⟨15, _⟩ => ⟨S16384x1x1024, .f32⟩
  | .hbm, ⟨16, _⟩ => ⟨S16384x1024, .f32⟩
  | .hbm, ⟨17, _⟩ => ⟨S16384x1x1024, .f32⟩
  | .hbm, ⟨18, _⟩ => ⟨S16384x1024, .f32⟩
  | .hbm, ⟨19, _⟩ => ⟨S16384x1x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel4.lean ====
abbrev S16384x1024 : Shape := ⟨2, ![16384, 1024]⟩
abbrev S16x6x1024 : Shape := ⟨3, ![16, 6, 1024]⟩
abbrev S1024x5504 : Shape := ⟨2, ![1024, 5504]⟩
abbrev S16384x1920 : Shape := ⟨2, ![16384, 1920]⟩
abbrev S16384x1536 : Shape := ⟨2, ![16384, 1536]⟩
abbrev S16384x2048 : Shape := ⟨2, ![16384, 2048]⟩
abbrev S256x1024 : Shape := ⟨2, ![256, 1024]⟩
abbrev S1x6x1024 : Shape := ⟨3, ![1, 6, 1024]⟩
abbrev S256x1920 : Shape := ⟨2, ![256, 1920]⟩
abbrev S256x1536 : Shape := ⟨2, ![256, 1536]⟩
abbrev S256x2048 : Shape := ⟨2, ![256, 2048]⟩
abbrev S1x1x1024 : Shape := ⟨3, ![1, 1, 1024]⟩
abbrev S1x1024 : Shape := ⟨2, ![1, 1024]⟩
abbrev S1024x1920 : Shape := ⟨2, ![1024, 1920]⟩
abbrev S1024x1536 : Shape := ⟨2, ![1024, 1536]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024x5504, .f32⟩
  | .hbm, ⟨3, _⟩ => ⟨S1024x5504, .bf16⟩
  | .hbm, ⟨4, _⟩ => ⟨S16384x1920, .f32⟩
  | .hbm, ⟨5, _⟩ => ⟨S16384x1536, .f32⟩
  | .hbm, ⟨6, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x5504, .bf16⟩
  | .local _ .vmem, ⟨5, _⟩ => ⟨S256x1920, .f32⟩
  | .local _ .vmem, ⟨6, _⟩ => ⟨S256x1920, .f32⟩
  | .local _ .vmem, ⟨7, _⟩ => ⟨S256x1536, .f32⟩
  | .local _ .vmem, ⟨8, _⟩ => ⟨S256x1536, .f32⟩
  | .local _ .vmem, ⟨9, _⟩ => ⟨S256x2048, .f32⟩
  | .local _ .vmem, ⟨10, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 c8_i32 v18
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S16x6x1024 : Shape := ⟨3, ![16, 6, 1024]⟩
abbrev S1024x5504 : Shape := ⟨2, ![1024, 5504]⟩
abbrev S1x6x1024 : Shape := ⟨3, ![1, 6, 1024]⟩
abbrev S6x1024 : Shape := ⟨2, ![6, 1024]⟩
abbrev S8192x6x1024 : Shape := ⟨3, ![8192, 6, 1024]⟩
abbrev S8x6x1024 : Shape := ⟨3, ![8, 6, 1024]⟩
abbrev S8x1x6x1024 : Shape := ⟨4, ![8, 1, 6, 1024]⟩
abbrev S8x1024x6x1024 : Shape := ⟨4, ![8, 1024, 6, 1024]⟩
abbrev S16384x6x1024 : Shape := ⟨3, ![16384, 6, 1024]⟩
abbrev S16384x1x1024 : Shape := ⟨3, ![16384, 1, 1024]⟩
abbrev S_ : Shape := ⟨0, ![]⟩
abbrev S16384x5504 : Shape := ⟨2, ![16384, 5504]⟩
abbrev S16384x1920 : Shape := ⟨2, ![16384, 1920]⟩
abbrev S16384x1536 : Shape := ⟨2, ![16384, 1536]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x6x1024, .f32⟩
  | .hbm, ⟨2, _⟩ => ⟨S1024x5504, .f32⟩
  | .hbm, ⟨3, _⟩ => ⟨S1x6x1024, .f32⟩
  | .hbm, ⟨4, _⟩ => ⟨S6x1024, .f32⟩
  | .hbm, ⟨5, _⟩ => ⟨S1x6x1024, .f32⟩
  | .hbm, ⟨6, _⟩ => ⟨S8192x6x1024, .f32⟩
  | .hbm, ⟨7, _⟩ => ⟨S8x6x1024, .f32⟩
  | .hbm, ⟨8, _⟩ => ⟨S8x1x6x1024, .f32⟩
  | .hbm, ⟨9, _⟩ => ⟨S8x1024x6x1024, .f32⟩
  | .hbm, ⟨10, _⟩ => ⟨S8192x6x1024, .f32⟩
  | .hbm, ⟨11, _⟩ => ⟨S16384x6x1024, .f32⟩
  | .hbm, ⟨12, _⟩ => ⟨S16384x1x1024, .f32⟩
  | .hbm, ⟨13, _⟩ => ⟨S16384x1024, .f32⟩
  | .hbm, ⟨14, _⟩ => ⟨S16384x1x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x5504, .f32⟩
  | .hbm, ⟨22, _⟩ => ⟨S16384x1920, .f32⟩
  | .hbm, ⟨23, _⟩ => ⟨S16384x1536, .f32⟩
  | .hbm, ⟨24, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel5.lean ====
abbrev S16384x512 : Shape := ⟨2, ![16384, 512]⟩
abbrev S16384x2048 : Shape := ⟨2, ![16384, 2048]⟩
abbrev S16384x1024 : Shape := ⟨2, ![16384, 1024]⟩
abbrev S16x6x1024 : Shape := ⟨3, ![16, 6, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S256x512 : Shape := ⟨2, ![256, 512]⟩
abbrev S256x2048 : Shape := ⟨2, ![256, 2048]⟩
abbrev S256x1024 : Shape := ⟨2, ![256, 1024]⟩
abbrev S1x6x1024 : Shape := ⟨3, ![1, 6, 1024]⟩
abbrev S512x512 : Shape := ⟨2, ![512, 512]⟩
abbrev S1x1x1024 : Shape := ⟨3, ![1, 1, 1024]⟩
abbrev S256 : Shape := ⟨1, ![256]⟩
abbrev S256x1 : Shape := ⟨2, ![256, 1]⟩

abbrev nBuf : Space → Nat
  | .hbm => 23
  | .vmem => 25
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x2048, .f32⟩
  | .hbm, ⟨6, _⟩ => ⟨S16384x1024, .f32⟩
  | .hbm, ⟨7, _⟩ => ⟨S16x6x1024, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1x512, .f32⟩
  | .hbm, ⟨16, _⟩ => ⟨S1x512, .f32⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S256x1024, .f32⟩
  | .local _ .vmem, ⟨13, _⟩ => ⟨S256x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 c8_i32 v18
  let c0_i32_5 : BitVec 32 := 0#32
  let c0_i32_6 : BitVec 32 := 0#32
  let c0_i32_7 : BitVec 32 := 0#32
  ![v19.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x512 : Shape := ⟨2, ![16384, 512]⟩
abbrev S16384x2048 : Shape := ⟨2, ![16384, 2048]⟩
abbrev S16384x1024 : Shape := ⟨2, ![16384, 1024]⟩
abbrev S16x6x1024 : Shape := ⟨3, ![16, 6, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1x6x1024 : Shape := ⟨3, ![1, 6, 1024]⟩
abbrev S6x1024 : Shape := ⟨2, ![6, 1024]⟩
abbrev S8192x6x1024 : Shape := ⟨3, ![8192, 6, 1024]⟩
abbrev S8x6x1024 : Shape := ⟨3, ![8, 6, 1024]⟩
abbrev S8x1x6x1024 : Shape := ⟨4, ![8, 1, 6, 1024]⟩
abbrev S8x1024x6x1024 : Shape := ⟨4, ![8, 1024, 6, 1024]⟩
abbrev S16384x6x1024 : Shape := ⟨3, ![16384, 6, 1024]⟩
abbrev S16384x1x1024 : Shape := ⟨3, ![16384, 1, 1024]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x512 : Shape := ⟨2, ![1, 512]⟩
abbrev S16384 : Shape := ⟨1, ![16384]⟩
abbrev S16384x1 : Shape := ⟨2, ![16384, 1]⟩
abbrev S1x1024 : Shape := ⟨2, ![1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x2048, .f32⟩
  | .hbm, ⟨6, _⟩ => ⟨S16384x1024, .f32⟩
  | .hbm, ⟨7, _⟩ => ⟨S16x6x1024, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1x6x1024, .f32⟩
  | .hbm, ⟨16, _⟩ => ⟨S6x1024, .f32⟩
  | .hbm, ⟨17, _⟩ => ⟨S1x6x1024, .f32⟩
  | .hbm, ⟨18, _⟩ => ⟨S8192x6x1024, .f32⟩
  | .hbm, ⟨19, _⟩ => ⟨S8x6x1024, .f32⟩
  | .hbm, ⟨20, _⟩ => ⟨S8x1x6x1024, .f32⟩
  | .hbm, ⟨21, _⟩ => ⟨S8x1024x6x1024, .f32⟩
  | .hbm, ⟨22, _⟩ => ⟨S8192x6x1024, .f32⟩
  | .hbm, ⟨23, _⟩ => ⟨S16384x6x1024, .f32⟩
  | .hbm, ⟨24, _⟩ => ⟨S16384x1x1024, .f32⟩
  | .hbm, ⟨25, _⟩ => ⟨S16384x1024, .f32⟩
  | .hbm, ⟨26, _⟩ => ⟨S16384x512, .f32⟩
  | .hbm, ⟨27, _⟩ => ⟨S16384x8x64, .f32⟩
  | .hbm, ⟨28, _⟩ => ⟨S_, .f32⟩
  | .hbm, ⟨29, _⟩ => ⟨S16384x8, .f32⟩
  | .hbm, ⟨30, _⟩ => ⟨S16384x8x1, .f32⟩
  | .hbm, ⟨31, _⟩ => ⟨S_, .f32⟩
  | .hbm, ⟨32, _⟩ => ⟨S16384x8x1, .f32⟩
  | .hbm, ⟨33, _⟩ => ⟨S16384x8x1, .f32⟩
  | .hbm, ⟨34, _⟩ => ⟨S16384x8x64, .f32⟩
  | .hbm, ⟨35, _⟩ => ⟨S16384x8x64, .f32⟩
  | .hbm, ⟨36, _⟩ => ⟨S16384x8x64, .f32⟩
  | .hbm, ⟨37, _⟩ => ⟨S_, .f32⟩
  | .hbm, ⟨38, _⟩ => ⟨S16384x8, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S16384x8x64, .f32⟩
  | .hbm, ⟨44, _⟩ => ⟨S16384x8x64, .f32⟩
  | .hbm, ⟨45, _⟩ => ⟨S_, .f32⟩
  | .hbm, ⟨46, _⟩ => ⟨S16384x8x1, .f32⟩
  | .hbm, ⟨47, _⟩ => ⟨S16384x8x1, .f32⟩
  | .hbm, ⟨48, _⟩ => ⟨S16384x8x1, .f32⟩
  | .hbm, ⟨49, _⟩ => ⟨S16384x8x64, .f32⟩
  | .hbm, ⟨50, _⟩ => ⟨S16384x8x64, .f32⟩
  | .hbm, ⟨51, _⟩ => ⟨S16384x512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | .hbm, ⟨104, _⟩ => ⟨S16384x1024, .f32⟩
  | .hbm, ⟨105, _⟩ => ⟨S16384x1024, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S16384x1, .f32⟩
  | .hbm, ⟨110, _⟩ => ⟨S16384x1024, .f32⟩
  | .hbm, ⟨111, _⟩ => ⟨S16384x1024, .f32⟩
  | .hbm, ⟨112, _⟩ => ⟨S1x1024, .f32⟩
  | .hbm, ⟨113, _⟩ => ⟨S16384x1024, .f32⟩
  | .hbm, ⟨114, _⟩ => ⟨S16384x1024, .f32⟩
  | .hbm, ⟨115, _⟩ => ⟨S1x1024, .f32⟩
  | .hbm, ⟨116, _⟩ => ⟨S16384x1024, .f32⟩
  | .hbm, ⟨117, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== Proof.ScanLoopI.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Pointwise

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A time block of one of the six inputs or of the output: 32 steps, 64 rows, 128 chains. -/
abbrev Blk (F : FTy → Type) : Type := S32x64x128.Idx → Elt F .f32
/-- The states of 128 chains: 64 value rows, 64 keys each. -/
abbrev St (F : FTy → Type) : Type := S64x64x128.Idx → Elt F .f32
/-- One value row of the states, its 64 keys as 8 groups of 8. -/
abbrev Row (F : FTy → Type) [FloatOps F] : Type := FVec F S8x8x128 .f32

theorem trips2 : k0_t2_loop.trips = 32 := by decide +kernel
theorem trips1 : k0_t1_loop.trips = 16 := by decide +kernel
theorem off2_eq : ∀ k : Fin k0_t2_loop.trips, k0_off2 k = ![k.val, 0, 0] := by decide +kernel
theorem off1_eq : ∀ (q : Fin k0_t1_loop.trips) (j : Fin 4), k0_off1 q (BitVec.ofNat 32 j.val) = ![4 * q.val + j.val, 0, 0] := by decide +kernel
theorem off3_eq : ∀ (q : Fin k0_t1_loop.trips) (k : Fin k0_t2_loop.trips) (j : Fin 4), k0_off3 q k (BitVec.ofNat 32 j.val) = ![k.val, 4 * q.val + j.val, 0] := by decide +kernel

theorem inbT (t : ℕ) (h : t < 32) : ∀ a, (![t, 0, 0] : Fin 3 → ℕ) a + S1x64x128.size a ≤ S32x64x128.size a := by
  intro a; fin_cases a
  · show t + 1 ≤ 32; omega
  · show 0 + 64 ≤ 64; omega
  · show 0 + 128 ≤ 128; omega
theorem inbV (t p : ℕ) (h : t < 32) (h' : p < 64) : ∀ a, (![t, p, 0] : Fin 3 → ℕ) a + S1x1x128.size a ≤ S32x64x128.size a := by
  intro a; fin_cases a
  · show t + 1 ≤ 32; omega
  · show p + 1 ≤ 64; omega
  · show 0 + 128 ≤ 128; omega
theorem inbS (p : ℕ) (h : p < 64) : ∀ a, (![p, 0, 0] : Fin 3 → ℕ) a + S1x64x128.size a ≤ S64x64x128.size a := by
  intro a; fin_cases a
  · show p + 1 ≤ 64; omega
  · show 0 + 64 ≤ 64; omega
  · show 0 + 128 ≤ 128; omega

/-- Step `t` of a time block: 64 rows by 128 chains. -/
def rowW (X : Blk F) (t : Fin 32) : Vec F S1x64x128 .f32 := VecWindow.window X ![t.val, 0, 0] S1x64x128.size (inbT t t.isLt)
/-- Step `t`, row `p` of a time block: 128 chains. -/
def valW (X : Blk F) (t : Fin 32) (p : Fin 64) : Vec F S1x1x128 .f32 := VecWindow.window X ![t.val, p.val, 0] S1x1x128.size (inbV t p t.isLt p.isLt)
/-- Value row `p` of the states. -/
def stW (X : St F) (p : Fin 64) : Vec F S1x64x128 .f32 := VecWindow.window X ![p.val, 0, 0] S1x64x128.size (inbS p p.isLt)

/-- One step of one value row, from the step's vectors. -/
def stepR (kk w b k : Vec F S1x64x128 .f32) (v : Vec F S1x1x128 .f32) (S : Row F) : Row F :=
  k0_pay13 S (k0_pay4 kk) (k0_pay5 w) (k0_pay6 b) (k0_pay7 k) v
/-- What that step puts out. -/
def outR (kk w b k r : Vec F S1x64x128 .f32) (v : Vec F S1x1x128 .f32) (S : Row F) : FVec F S1x1x128 .f32 :=
  k0_pay15 (k0_pay14 S (k0_pay4 kk) (k0_pay5 w) (k0_pay6 b) (k0_pay7 k) (k0_pay8 r) v) 2#32

/-- The six time blocks that the body reads. -/
structure Ins (F : FTy → Type) where
  r : Blk F
  w : Blk F
  k : Blk F
  v : Blk F
  kk : Blk F
  b : Blk F

def stepRow (I : Ins F) (p : Fin 64) (t : Fin 32) (S : Row F) : Row F :=
  stepR (rowW I.kk t) (rowW I.w t) (rowW I.b t) (rowW I.k t) (valW I.v t p) S
def outRow (I : Ins F) (p : Fin 64) (t : Fin 32) (S : Row F) : FVec F S1x1x128 .f32 :=
  outR (rowW I.kk t) (rowW I.w t) (rowW I.b t) (rowW I.k t) (rowW I.r t) (valW I.v t p) S

/-- Row `p` after the first `n` steps of the time block. -/
def rowAt (I : Ins F) (p : Fin 64) (S : Row F) : ℕ → Row F
  | 0 => S
  | n + 1 => if h : n < 32 then stepRow I p ⟨n, h⟩ (rowAt I p S n) else rowAt I p S n

theorem rowAt_succ (I : Ins F) (p : Fin 64) (S : Row F) (n : ℕ) (h : n < 32) :
    rowAt I p S (n + 1) = stepRow I p ⟨n, h⟩ (rowAt I p S n) := by rw [rowAt]; exact dif_pos h

/-- Row `4q + j` of the quad `q`. -/
def quad (q : Fin k0_t1_loop.trips) (j : Fin 4) : Fin 64 := ⟨4 * q.val + j.val, by have := Nat.lt_of_lt_of_eq q.isLt trips1; omega⟩
def stepOf (k : Fin k0_t2_loop.trips) : Fin 32 := k.cast trips2

section
variable (c : Dev nD) (i : grid0.Coords)
  (arg2 : Memref sig .tc .vmem S32x64x128 .f32) (harg2 : arg2.IsWhole) (arg3 : Memref sig .tc .vmem S32x64x128 .f32) (harg3 : arg3.IsWhole)
  (arg4 : Memref sig .tc .vmem S32x64x128 .f32) (harg4 : arg4.IsWhole) (arg5 : Memref sig .tc .vmem S32x64x128 .f32) (harg5 : arg5.IsWhole)
  (arg6 : Memref sig .tc .vmem S32x64x128 .f32) (harg6 : arg6.IsWhole) (arg7 : Memref sig .tc .vmem S32x64x128 .f32) (harg7 : arg7.IsWhole)
  (arg8 : Memref sig .tc .vmem S64x64x128 .f32) (harg8 : arg8.IsWhole) (arg9 : Memref sig .tc .vmem S32x64x128 .f32) (harg9 : arg9.IsWhole)
  (arg10 : Memref sig .tc .vmem S64x64x128 .f32) (harg10 : arg10.IsWhole) (arg11 : Memref sig .tc .vmem S64x64x128 .f32) (harg11 : arg11.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- The blocks behind the six memrefs' contents. -/
def insOf : Ins F := ⟨arg2.view.read (Elt F) X2, arg3.view.read (Elt F) X3, arg4.view.read (Elt F) X4, arg5.view.read (Elt F) X5, arg6.view.read (Elt F) X6, arg7.view.read (Elt F) X7⟩

theorem load_row (m : Memref sig .tc .vmem S32x64x128 .f32) (X : BufTy.Contents (Elt F) m.view.ty) (k : Fin k0_t2_loop.trips) (h) :
    m.view.readAt (Elt F) (Rect.unit (s := S32x64x128) (k0_off2 k) S1x64x128.size h).toLoadRect X = rowW (m.view.read (Elt F) X) (stepOf k) :=
  View.readAt_unit _ _ h (off2_eq k) _
theorem load_val (m : Memref sig .tc .vmem S32x64x128 .f32) (X : BufTy.Contents (Elt F) m.view.ty) (q : Fin k0_t1_loop.trips) (k : Fin k0_t2_loop.trips) (j : Fin 4) (h) :
    m.view.readAt (Elt F) (Rect.unit (s := S32x64x128) (k0_off3 q k (BitVec.ofNat 32 j.val)) S1x1x128.size h).toLoadRect X = valW (m.view.read (Elt F) X) (stepOf k) (quad q j) :=
  View.readAt_unit _ _ h (off3_eq q k j) (inbV (stepOf k) (quad q j) (stepOf k).isLt (quad q j).isLt)

/-- One trip of the inner loop advances each of the four rows by one step. -/
theorem tripR_eq (𝒱 : Variants) (bd : Option 𝒱.V) (c0 c1 : BitVec 32) (q : Fin k0_t1_loop.trips) (v7 : BitVec 32) (k : Fin k0_t2_loop.trips) (acc) :
    tripR_k0_t2 (F := F) 𝒱 c bd i arg2 harg2 arg3 harg3 arg4 harg4 arg5 harg5 arg6 harg6 arg7 harg7 arg8 harg8 arg9 harg9 arg10 harg10 arg11 harg11 c0 c1 q v7 X2 X3 X4 X5 X6 X7 k acc
      = (stepRow (insOf arg2 arg3 arg4 arg5 arg6 arg7 X2 X3 X4 X5 X6 X7) (quad q 0) (stepOf k) acc.1, stepRow (insOf arg2 arg3 arg4 arg5 arg6 arg7 X2 X3 X4 X5 X6 X7) (quad q 1) (stepOf k) acc.2.1, stepRow (insOf arg2 arg3 arg4 arg5 arg6 arg7 X2 X3 X4 X5 X6 X7) (quad q 2) (stepOf k) acc.2.2.1, stepRow (insOf arg2 arg3 arg4 arg5 arg6 arg7 X2 X3 X4 X5 X6 X7) (quad q 3) (stepOf k) acc.2.2.2) := by
  unfold stepRow insOf
  dsimp only
  rw [← load_row arg6 X6 k (k0_off2_inb k), ← load_row arg3 X3 k (k0_off2_inb k), ← load_row arg7 X7 k (k0_off2_inb k), ← load_row arg4 X4 k (k0_off2_inb k),
    ← load_val arg5 X5 q k 0 (k0_off3_inb q k 0), ← load_val arg5 X5 q k 1 (k0_off3_inb q k 1), ← load_val arg5 X5 q k 2 (k0_off3_inb q k 2), ← load_val arg5 X5 q k 3 (k0_off3_inb q k 3)]
  unfold tripR_k0_t2 trip_k0_t2
  rfl

/-- One trip of the inner loop stores the four rows' outputs of the step. -/
theorem tripL_eq (𝒱 : Variants) (bd : Option 𝒱.V) (c0 c1 : BitVec 32) (q : Fin k0_t1_loop.trips) (v7 : BitVec 32) (k : Fin k0_t2_loop.trips) (acc) :
    tripL_k0_t2 (F := F) 𝒱 c bd i arg2 harg2 arg3 harg3 arg4 harg4 arg5 harg5 arg6 harg6 arg7 harg7 arg8 harg8 arg9 harg9 arg10 harg10 arg11 harg11 c0 c1 q v7 X2 X3 X4 X5 X6 X7 k acc
      = [⟨Rect.unit (s := S32x64x128) (k0_off3 q k 3#32) S1x1x128.size (k0_off3_inb q k 3), outRow (insOf arg2 arg3 arg4 arg5 arg6 arg7 X2 X3 X4 X5 X6 X7) (quad q 3) (stepOf k) acc.2.2.2⟩,
         ⟨Rect.unit (s := S32x64x128) (k0_off3 q k 2#32) S1x1x128.size (k0_off3_inb q k 2), outRow (insOf arg2 arg3 arg4 arg5 arg6 arg7 X2 X3 X4 X5 X6 X7) (quad q 2) (stepOf k) acc.2.2.1⟩,
         ⟨Rect.unit (s := S32x64x128) (k0_off3 q k 1#32) S1x1x128.size (k0_off3_inb q k 1), outRow (insOf arg2 arg3 arg4 arg5 arg6 arg7 X2 X3 X4 X5 X6 X7) (quad q 1) (stepOf k) acc.2.1⟩,
         ⟨Rect.unit (s := S32x64x128) (k0_off3 q k 0#32) S1x1x128.size (k0_off3_inb q k 0), outRow (insOf arg2 arg3 arg4 arg5 arg6 arg7 X2 X3 X4 X5 X6 X7) (quad q 0) (stepOf k) acc.1⟩] := by
  unfold outRow insOf
  dsimp only
  rw [← load_row arg6 X6 k (k0_off2_inb k), ← load_row arg3 X3 k (k0_off2_inb k), ← load_row arg7 X7 k (k0_off2_inb k), ← load_row arg4 X4 k (k0_off2_inb k), ← load_row arg2 X2 k (k0_off2_inb k),
    ← load_val arg5 X5 q k 0 (k0_off3_inb q k 0), ← load_val arg5 X5 q k 1 (k0_off3_inb q k 1), ← load_val arg5 X5 q k 2 (k0_off3_inb q k 2), ← load_val arg5 X5 q k 3 (k0_off3_inb q k 3)]
  unfold tripL_k0_t2 trip_k0_t2
  rfl

/-- The four carried rows before trip `n` of the inner loop. -/
theorem st_rows (c0 c1 : BitVec 32) (q : Fin k0_t1_loop.trips) (v7 : BitVec 32) (init) : ∀ n, n ≤ k0_t2_loop.trips →
    (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init n).1
      = (rowAt (insOf arg2 arg3 arg4 arg5 arg6 arg7 X2 X3 X4 X5 X6 X7) (quad q 0) init.1 n, rowAt (insOf arg2 arg3 arg4 arg5 arg6 arg7 X2 X3 X4 X5 X6 X7) (quad q 1) init.2.1 n, rowAt (insOf arg2 arg3 arg4 arg5 arg6 arg7 X2 X3 X4 X5 X6 X7) (quad q 2) init.2.2.1 n, rowAt (insOf arg2 arg3 arg4 arg5 arg6 arg7 X2 X3 X4 X5 X6 X7) (quad q 3) init.2.2.2 n)
  | 0, _ => rfl
  | n + 1, h => by
    have hn : n < 32 := by rw [trips2] at h; omega
    have e := st_k0_t2_succ (F := F) Variants.none c none i arg2 harg2 arg3 harg3 arg4 harg4 arg5 harg5 arg6 harg6 arg7 harg7 arg8 harg8 arg9 harg9 arg10 harg10 arg11 harg11 c0 c1 q v7 X2 X3 X4 X5 X6 X7 init ⟨n, h⟩
    rw [show (⟨n, h⟩ : Fin k0_t2_loop.trips).val + 1 = n + 1 from rfl] at e
    rw [e]
    dsimp only
    rw [tripR_eq, st_rows c0 c1 q v7 init n (Nat.le_of_lt h), rowAt_succ _ _ _ n hn, rowAt_succ _ _ _ n hn, rowAt_succ _ _ _ n hn, rowAt_succ _ _ _ n hn]
    rfl

/-- What the output block holds after the first `n` steps of quad `q`, if it held `Y` before and row `p` started as `R p`. -/
def quadOut (I : Ins F) (R : Fin 64 → Row F) (q : ℕ) (Y : Blk F) (n : ℕ) : Blk F := fun y =>
  if (y 0).val < n ∧ 4 * q ≤ (y 1).val ∧ (y 1).val < 4 * q + 4 then
    outRow I (y 1) (y 0) (rowAt I (y 1) (R (y 1)) (y 0).val) (ix3 (n0 := 1) (n1 := 1) (n2 := 128) 0 0 (y 2))
  else Y y

theorem put_out (x : Blk F) (t p : ℕ) (w : FVec F S1x1x128 .f32) (y : S32x64x128.Idx) :
    VecWindow.put x ![t, p, 0] S1x1x128.size w y = if (y 0).val = t ∧ (y 1).val = p then w (ix3 (n0 := 1) (n1 := 1) (n2 := 128) 0 0 (y 2)) else x y := by
  unfold VecWindow.put
  by_cases h : (y 0).val = t ∧ (y 1).val = p
  · have hh : ∀ a : Fin 3, (![t, p, 0] : Fin 3 → ℕ) a ≤ (y a).val ∧ (y a).val < (![t, p, 0] : Fin 3 → ℕ) a + S1x1x128.size a := by
      intro a; fin_cases a
      · show t ≤ (y 0).val ∧ (y 0).val < t + 1; omega
      · show p ≤ (y 1).val ∧ (y 1).val < p + 1; omega
      · show 0 ≤ (y 2).val ∧ (y 2).val < 0 + 128; have := (y 2).isLt; exact ⟨Nat.zero_le _, by rw [Nat.zero_add]; exact this⟩
    rw [if_pos h]
    refine (dif_pos hh).trans (congrArg w ?_)
    funext a; apply Fin.ext; fin_cases a
    · show (y 0).val - t = 0; omega
    · show (y 1).val - p = 0; omega
    · show (y 2).val - 0 = (y 2).val; omega
  · rw [if_neg h]
    refine dif_neg fun hh => h ⟨?_, ?_⟩
    · have := hh (0 : Fin 3); change t ≤ (y 0).val ∧ (y 0).val < t + 1 at this; omega
    · have := hh (1 : Fin 3); change p ≤ (y 1).val ∧ (y 1).val < p + 1 at this; omega

theorem quadOut_succ (I : Ins F) (R : Fin 64 → Row F) (q : Fin k0_t1_loop.trips) (Y : Blk F) (t : Fin 32) :
    VecWindow.put (VecWindow.put (VecWindow.put (VecWindow.put (quadOut I R q Y t.val)
        ![t.val, 4 * q.val + 0, 0] S1x1x128.size (outRow I (quad q 0) t (rowAt I (quad q 0) (R (quad q 0)) t.val)))
        ![t.val, 4 * q.val + 1, 0] S1x1x128.size (outRow I (quad q 1) t (rowAt I (quad q 1) (R (quad q 1)) t.val)))
        ![t.val, 4 * q.val + 2, 0] S1x1x128.size (outRow I (quad q 2) t (rowAt I (quad q 2) (R (quad q 2)) t.val)))
        ![t.val, 4 * q.val + 3, 0] S1x1x128.size (outRow I (quad q 3) t (rowAt I (quad q 3) (R (quad q 3)) t.val))
      = quadOut I R q Y (t.val + 1) := by
  funext y
  have key : ∀ j : Fin 4, (y 0).val = t.val → (y 1).val = 4 * q.val + j.val →
      outRow I (quad q j) t (rowAt I (quad q j) (R (quad q j)) t.val) (ix3 (n0 := 1) (n1 := 1) (n2 := 128) 0 0 (y 2)) = quadOut I R q Y (t.val + 1) y := by
    intro j h0 h1
    have e0 : t = y 0 := Fin.ext h0.symm
    have e1 : quad q j = y 1 := Fin.ext h1.symm
    rw [e1, e0]
    exact (if_pos ⟨Nat.lt_succ_self _, by omega, by omega⟩).symm
  rw [put_out, put_out, put_out, put_out]
  split
  · next h => exact key 3 h.1 h.2
  · split
    · next h => exact key 2 h.1 h.2
    · split
      · next h => exact key 1 h.1 h.2
      · split
        · next h => exact key 0 h.1 h.2
        · next h3 h2 h1 h0 =>
          unfold quadOut
          refine if_congr (Iff.intro (fun h => ⟨by omega, h.2⟩) fun h => ⟨?_, h.2⟩) rfl rfl
          by_contra hc
          have : (y 0).val = t.val := by omega
          omega

/-- The output block after `n` trips of the inner loop. -/
theorem st_out (c0 c1 : BitVec 32) (q : Fin k0_t1_loop.trips) (v7 : BitVec 32) (R : Fin 64 → Row F) (init) (hinit : init = (R (quad q 0), R (quad q 1), R (quad q 2), R (quad q 3)))
    (G : BufTy.Contents (Elt F) arg9.view.ty) : ∀ n, n ≤ k0_t2_loop.trips →
    arg9.view.read (Elt F) (arg9.view.writes (Elt F) G (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init n).2)
      = quadOut (insOf arg2 arg3 arg4 arg5 arg6 arg7 X2 X3 X4 X5 X6 X7) R q (arg9.view.read (Elt F) G) n
  | 0, _ => by
    funext y
    exact (if_neg fun h => Nat.not_lt_zero _ h.1).symm
  | n + 1, h => by
    have hn : n < 32 := by rw [trips2] at h; omega
    have e := st_k0_t2_succ (F := F) Variants.none c none i arg2 harg2 arg3 harg3 arg4 harg4 arg5 harg5 arg6 harg6 arg7 harg7 arg8 harg8 arg9 harg9 arg10 harg10 arg11 harg11 c0 c1 q v7 X2 X3 X4 X5 X6 X7 init ⟨n, h⟩
    rw [show (⟨n, h⟩ : Fin k0_t2_loop.trips).val + 1 = n + 1 from rfl] at e
    rw [e]
    dsimp only
    rw [tripL_eq, st_rows c i arg2 harg2 arg3 harg3 arg4 harg4 arg5 harg5 arg6 harg6 arg7 harg7 arg8 harg8 arg9 harg9 arg10 harg10 arg11 harg11 X2 X3 X4 X5 X6 X7 c0 c1 q v7 init n (Nat.le_of_lt h), hinit]
    simp only [List.cons_append, List.nil_append]
    rw [View.read_writes_cons_put _ _ _ _ _ (off3_eq q ⟨n, h⟩ 3), View.read_writes_cons_put _ _ _ _ _ (off3_eq q ⟨n, h⟩ 2), View.read_writes_cons_put _ _ _ _ _ (off3_eq q ⟨n, h⟩ 1), View.read_writes_cons_put _ _ _ _ _ (off3_eq q ⟨n, h⟩ 0),
      ← hinit, st_out c0 c1 q v7 R init hinit G n (Nat.le_of_lt h)]
    exact quadOut_succ (insOf arg2 arg3 arg4 arg5 arg6 arg7 X2 X3 X4 X5 X6 X7) R q _ ⟨n, hn⟩

/-! ## The outer loop -/

/-- A loaded state row as 8 groups of 8 keys, and back. -/
def toRow (W : Vec F S1x64x128 .f32) : Row F := k0_pay21 W
def ofRow (S : Row F) : FVec F S1x64x128 .f32 := k0_pay26 S

/-- The rows of the states `S0`, as the loop carries them. -/
def rowsOf (S0 : St F) (p : Fin 64) : Row F := toRow (stW S0 p)
/-- The states after the time block, in rows below `n`. -/
def sOut (I : Ins F) (S0 : St F) (n : ℕ) : St F := fun y =>
  if (y 0).val < n then ofRow (rowAt I (y 0) (rowsOf S0 (y 0)) 32) (ix3 (n0 := 1) (n1 := 64) (n2 := 128) 0 (y 1) (y 2)) else S0 y
/-- The outputs of the time block, in rows below `n`. -/
def yOut (I : Ins F) (S0 : St F) (Y : Blk F) (n : ℕ) : Blk F := fun y =>
  if (y 1).val < n then outRow I (y 1) (y 0) (rowAt I (y 1) (rowsOf S0 (y 1)) (y 0).val) (ix3 (n0 := 1) (n1 := 1) (n2 := 128) 0 0 (y 2)) else Y y

theorem sOut_zero (I : Ins F) (S0 : St F) : sOut I S0 0 = S0 := funext fun _ => if_neg (Nat.not_lt_zero _)
theorem yOut_zero (I : Ins F) (S0 : St F) (Y : Blk F) : yOut I S0 Y 0 = Y := funext fun _ => if_neg (Nat.not_lt_zero _)

theorem yOut_quad (I : Ins F) (S0 : St F) (Y : Blk F) (q : ℕ) :
    quadOut I (rowsOf S0) q (yOut I S0 Y (4 * q)) 32 = yOut I S0 Y (4 * (q + 1)) := by
  funext y
  unfold quadOut yOut
  have h0 : (y 0).val < 32 := (y 0).isLt
  by_cases h : 4 * q ≤ (y 1).val ∧ (y 1).val < 4 * q + 4
  · rw [if_pos ⟨h0, h⟩, if_pos (by omega)]
  · rw [if_neg fun hh => h hh.2]
    exact if_congr (by omega) rfl rfl

theorem put_st (x : St F) (p : ℕ) (w : FVec F S1x64x128 .f32) (y : S64x64x128.Idx) :
    VecWindow.put x ![p, 0, 0] S1x64x128.size w y = if (y 0).val = p then w (ix3 (n0 := 1) (n1 := 64) (n2 := 128) 0 (y 1) (y 2)) else x y := by
  unfold VecWindow.put
  by_cases h : (y 0).val = p
  · have hh : ∀ a : Fin 3, (![p, 0, 0] : Fin 3 → ℕ) a ≤ (y a).val ∧ (y a).val < (![p, 0, 0] : Fin 3 → ℕ) a + S1x64x128.size a := by
      intro a; fin_cases a
      · show p ≤ (y 0).val ∧ (y 0).val < p + 1; omega
      · show 0 ≤ (y 1).val ∧ (y 1).val < 0 + 64; have := (y 1).isLt; exact ⟨Nat.zero_le _, by rw [Nat.zero_add]; exact this⟩
      · show 0 ≤ (y 2).val ∧ (y 2).val < 0 + 128; have := (y 2).isLt; exact ⟨Nat.zero_le _, by rw [Nat.zero_add]; exact this⟩
    rw [if_pos h]
    refine (dif_pos hh).trans (congrArg w ?_)
    funext a; apply Fin.ext; fin_cases a
    · show (y 0).val - p = 0; omega
    · show (y 1).val - 0 = (y 1).val; omega
    · show (y 2).val - 0 = (y 2).val; omega
  · rw [if_neg h]
    refine dif_neg fun hh => h ?_
    have := hh (0 : Fin 3); change p ≤ (y 0).val ∧ (y 0).val < p + 1 at this; omega

theorem stW_sOut (I : Ins F) (S0 : St F) (p : Fin 64) (n : ℕ) (h : n ≤ p.val) : stW (sOut I S0 n) p = stW S0 p := by
  funext y
  show sOut I S0 n _ = S0 _
  refine if_neg ?_
  rw [Rect.emb_apply]
  show ¬ (p.val + 1 * (y 0).val < n)
  omega

theorem sOut_quad (I : Ins F) (S0 : St F) (q : Fin k0_t1_loop.trips) :
    VecWindow.put (VecWindow.put (VecWindow.put (VecWindow.put (sOut I S0 (4 * q.val))
        ![4 * q.val + 0, 0, 0] S1x64x128.size (ofRow (rowAt I (quad q 0) (rowsOf S0 (quad q 0)) 32)))
        ![4 * q.val + 1, 0, 0] S1x64x128.size (ofRow (rowAt I (quad q 1) (rowsOf S0 (quad q 1)) 32)))
        ![4 * q.val + 2, 0, 0] S1x64x128.size (ofRow (rowAt I (quad q 2) (rowsOf S0 (quad q 2)) 32)))
        ![4 * q.val + 3, 0, 0] S1x64x128.size (ofRow (rowAt I (quad q 3) (rowsOf S0 (quad q 3)) 32))
      = sOut I S0 (4 * (q.val + 1)) := by
  funext y
  have key : ∀ j : Fin 4, (y 0).val = 4 * q.val + j.val →
      ofRow (rowAt I (quad q j) (rowsOf S0 (quad q j)) 32) (ix3 (n0 := 1) (n1 := 64) (n2 := 128) 0 (y 1) (y 2)) = sOut I S0 (4 * (q.val + 1)) y := by
    intro j h1
    have e1 : quad q j = y 0 := Fin.ext h1.symm
    rw [e1]
    exact (if_pos (by omega)).symm
  rw [put_st, put_st, put_st, put_st]
  split
  · next h => exact key 3 h
  · split
    · next h => exact key 2 h
    · split
      · next h => exact key 1 h
      · split
        · next h => exact key 0 h
        · next h3 h2 h1 h0 =>
          unfold sOut
          exact if_congr (by omega) rfl rfl

/-- Row `p` of the scratch before trip `q`. -/
theorem load_st (m : Memref sig .tc .vmem S64x64x128 .f32) (X : BufTy.Contents (Elt F) m.view.ty) (I : Ins F) (S0 : St F) (q : Fin k0_t1_loop.trips) (j : Fin 4) (h)
    (e : m.view.read (Elt F) X = sOut I S0 (4 * q.val)) :
    toRow (m.view.readAt (Elt F) (Rect.unit (s := S64x64x128) (k0_off1 q (BitVec.ofNat 32 j.val)) S1x64x128.size h).toLoadRect X) = rowsOf S0 (quad q j) := by
  have := View.readAt_unit m.view X h (off1_eq q j) (inbS (quad q j) (quad q j).isLt)
  rw [this, e]
  exact congrArg toRow (stW_sOut I S0 (quad q j) _ (Nat.le_add_right _ _))

/-- The output block after one trip. -/
theorem out_trip (c0 c1 : BitVec 32) (q : Fin k0_t1_loop.trips) (v7 : BitVec 32) (S0 : St F) (Y : Blk F) (init)
    (hinit : init = (rowsOf S0 (quad q 0), rowsOf S0 (quad q 1), rowsOf S0 (quad q 2), rowsOf S0 (quad q 3)))
    (f9 : BufTy.Contents (Elt F) arg9.view.ty) (h9 : arg9.view.read (Elt F) f9 = yOut (insOf arg2 arg3 arg4 arg5 arg6 arg7 X2 X3 X4 X5 X6 X7) S0 Y (4 * q.val)) :
    arg9.view.read (Elt F) (arg9.view.writes (Elt F) f9 (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init k0_t2_loop.trips).2) = yOut (insOf arg2 arg3 arg4 arg5 arg6 arg7 X2 X3 X4 X5 X6 X7) S0 Y (4 * (q.val + 1)) := by
  rw [st_out c i arg2 harg2 arg3 harg3 arg4 harg4 arg5 harg5 arg6 harg6 arg7 harg7 arg8 harg8 arg9 harg9 arg10 harg10 arg11 harg11 X2 X3 X4 X5 X6 X7 c0 c1 q v7 (rowsOf S0) init hinit f9 _ (Nat.le_refl _), h9, trips2]
  exact yOut_quad _ S0 Y q

/-- The scratch after one trip. -/
theorem scr_trip (c0 c1 : BitVec 32) (q : Fin k0_t1_loop.trips) (v7 : BitVec 32) (S0 : St F) (init)
    (hinit : init = (rowsOf S0 (quad q 0), rowsOf S0 (quad q 1), rowsOf S0 (quad q 2), rowsOf S0 (quad q 3)))
    (f11 : BufTy.Contents (Elt F) arg11.view.ty) (h11 : arg11.view.read (Elt F) f11 = sOut (insOf arg2 arg3 arg4 arg5 arg6 arg7 X2 X3 X4 X5 X6 X7) S0 (4 * q.val)) :
    arg11.view.read (Elt F) (arg11.view.writes (Elt F) f11
      [⟨Rect.unit (s := S64x64x128) (k0_off1 q 3#32) S1x64x128.size (k0_off1_inb q 3), k0_pay3 (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init k0_t2_loop.trips).1.2.2.2⟩,
       ⟨Rect.unit (s := S64x64x128) (k0_off1 q 2#32) S1x64x128.size (k0_off1_inb q 2), k0_pay2 (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init k0_t2_loop.trips).1.2.2.1⟩,
       ⟨Rect.unit (s := S64x64x128) (k0_off1 q 1#32) S1x64x128.size (k0_off1_inb q 1), k0_pay27 (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init k0_t2_loop.trips).1.2.1⟩,
       ⟨Rect.unit (s := S64x64x128) (k0_off1 q 0#32) S1x64x128.size (k0_off1_inb q 0), k0_pay26 (st_k0_t2 (F := F) Variants.none c none i arg2 harg2 arg3 harg3 arg4 harg4 arg5 harg5 arg6 harg6 arg7 harg7 arg8 harg8 arg9 harg9 arg10 harg10 arg11 harg11 c0 c1 q v7 X2 X3 X4 X5 X6 X7 init k0_t2_loop.trips).1.1⟩])
      = sOut (insOf arg2 arg3 arg4 arg5 arg6 arg7 X2 X3 X4 X5 X6 X7) S0 (4 * (q.val + 1)) := by
  rw [View.read_writes_cons_put _ _ _ _ _ (off1_eq q 3), View.read_writes_cons_put _ _ _ _ _ (off1_eq q 2), View.read_writes_cons_put _ _ _ _ _ (off1_eq q 1), View.read_writes_cons_put _ _ _ _ _ (off1_eq q 0),
    View.writes_nil, h11, st_rows c i arg2 harg2 arg3 harg3 arg4 harg4 arg5 harg5 arg6 harg6 arg7 harg7 arg8 harg8 arg9 harg9 arg10 harg10 arg11 harg11 X2 X3 X4 X5 X6 X7 c0 c1 q v7 init _ (Nat.le_refl _), hinit, trips2]
  exact sOut_quad _ S0 q

theorem init_trip (q : Fin k0_t1_loop.trips) (I : Ins F) (S0 : St F) (f11 : BufTy.Contents (Elt F) arg11.view.ty) (h11 : arg11.view.read (Elt F) f11 = sOut I S0 (4 * q.val)) :
    (k0_pay21 (arg11.view.readAt (Elt F) (Rect.unit (s := S64x64x128) (k0_off1 q 0#32) S1x64x128.size (k0_off1_inb q 0)).toLoadRect f11),
     k0_pay22 (arg11.view.readAt (Elt F) (Rect.unit (s := S64x64x128) (k0_off1 q 1#32) S1x64x128.size (k0_off1_inb q 1)).toLoadRect f11),
     k0_pay23 (arg11.view.readAt (Elt F) (Rect.unit (s := S64x64x128) (k0_off1 q 2#32) S1x64x128.size (k0_off1_inb q 2)).toLoadRect f11),
     k0_pay24 (arg11.view.readAt (Elt F) (Rect.unit (s := S64x64x128) (k0_off1 q 3#32) S1x64x128.size (k0_off1_inb q 3)).toLoadRect f11))
      = (rowsOf S0 (quad q 0), rowsOf S0 (quad q 1), rowsOf S0 (quad q 2), rowsOf S0 (quad q 3)) := by
  rw [← load_st arg11 f11 I S0 q 0 (k0_off1_inb q 0) h11, ← load_st arg11 f11 I S0 q 1 (k0_off1_inb q 1) h11, ← load_st arg11 f11 I S0 q 2 (k0_off1_inb q 2) h11, ← load_st arg11 f11 I S0 q 3 (k0_off1_inb q 3) h11]
  rfl

section
variable (G9 : BufTy.Contents (Elt F) arg9.view.ty) (G11 : BufTy.Contents (Elt F) arg11.view.ty)

abbrev inv1 (q : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f) ∗ ⌜arg9.view.read (Elt F) f = yOut (insOf arg2 arg3 arg4 arg5 arg6 arg7 X2 X3 X4 X5 X6 X7) (arg11.view.read (Elt F) G11) (arg9.view.read (Elt F) G9) (4 * q)⌝)
    ∗ (∃ f, (arg11.view.loc (c : Thread nD τ) ↦[arg11.view.set]{fullShare} f) ∗ ⌜arg11.view.read (Elt F) f = sOut (insOf arg2 arg3 arg4 arg5 arg6 arg7 X2 X3 X4 X5 X6 X7) (arg11.view.read (Elt F) G11) (4 * q)⌝))

@[sl_loop, instance_reducible] def loopInv_k0_t1 : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 where
  inv q _ := inv1 c arg2 arg3 arg4 arg5 arg6 arg7 arg9 arg11 X2 X3 X4 X5 X6 X7 G9 G11 q
  step q acc := by
    unfold inv1 k0_t1_body
    iintro ⟨H2, H3, H4, H5, H6, H7, ⟨%f9, H9, %h9⟩, ⟨%f11, H11, %h11⟩⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H9]
    · iexists _; isplitl [H9]; · iexact H9
      ipureintro
      exact out_trip c i arg2 harg2 arg3 harg3 arg4 harg4 arg5 harg5 arg6 harg6 arg7 harg7 arg8 harg8 arg9 harg9 arg10 harg10 arg11 harg11 X2 X3 X4 X5 X6 X7 _ _ q _ _ _ _ (init_trip arg11 q _ _ f11 h11) f9 h9
    · iexists _; isplitl [H11]; · iexact H11
      ipureintro
      exact scr_trip c i arg2 harg2 arg3 harg3 arg4 harg4 arg5 harg5 arg6 harg6 arg7 harg7 arg8 harg8 arg9 harg9 arg10 harg10 arg11 harg11 X2 X3 X4 X5 X6 X7 _ _ q _ _ _ (init_trip arg11 q _ _ f11 h11) f11 h11

end

end

end Cert.KernelIdeal.Scan

end
-- ==== Proof.ScanRunI.lean ====
module

public import proofs.«01_k».proof.Proof.ScanLoopI

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body at one grid point -/

/-- The point is a chain group's first: the states are taken from the argument. -/
abbrev first (i : grid0.Coords) : Prop :=
  Scalar.cmpi .ne (Scalar.extui (Scalar.cmpi .eq (BitVec.ofNat 32 (i 1).val) 0#32) : BitVec 32) 0#32 = 1#1

theorem fin_y {I I' : Ins F} {S S' : St F} {Y Z : Blk F} (h : Z = yOut I' S' Y (4 * k0_t1_loop.trips)) (hI : I' = I) (hS : S' = S) : Z = yOut I S Y 64 := by
  subst hI; subst hS; rw [h, trips1]
theorem fin_s {I I' : Ins F} {S S' Z : St F} (h : Z = sOut I' S' (4 * k0_t1_loop.trips)) (hI : I' = I) (hS : S' = S) : Z = sOut I S 64 := by
  subst hI; subst hS; rw [h, trips1]

theorem pay1_id (x : St F) : k0_pay1 x = x := shapeCast_id x _

/-- The scratch after the first point's copy of the argument's states. -/
theorem entry_read (a b : Memref sig .tc .vmem S64x64x128 .f32) (G : BufTy.Contents (Elt F) b.view.ty) (X : BufTy.Contents (Elt F) a.view.ty) (h h') :
    b.view.read (Elt F) (b.view.writes (Elt F) G [⟨Rect.unit (s := S64x64x128) ![0, 0, 0] S64x64x128.size h, k0_pay1 (a.view.readAt (Elt F) (Rect.unit (s := S64x64x128) ![0, 0, 0] S64x64x128.size h').toLoadRect X)⟩])
      = a.view.read (Elt F) X := by
  rw [View.read_writes_full, pay1_id, View.readAt_full]

/-- The result's block after the last point's copy of the scratch. -/
theorem exit_read (a b : Memref sig .tc .vmem S64x64x128 .f32) (G : BufTy.Contents (Elt F) b.view.ty) (X : BufTy.Contents (Elt F) a.view.ty) (h h') :
    b.view.read (Elt F) (b.view.writes (Elt F) G [⟨Rect.unit (s := S64x64x128) ![0, 0, 0] S64x64x128.size h, a.view.readAt (Elt F) (Rect.unit (s := S64x64x128) ![0, 0, 0] S64x64x128.size h').toLoadRect X⟩])
      = a.view.read (Elt F) X := by
  rw [View.read_writes_full, View.readAt_full]

theorem run_ff (c : Dev nD) (i : grid0.Coords) (arg2 : Memref sig .tc .vmem S32x64x128 .f32) (harg2 : arg2.IsWhole) (arg3 : Memref sig .tc .vmem S32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S64x64x128 .f32) (harg8 : arg8.IsWhole) (arg9 : Memref sig .tc .vmem S32x64x128 .f32) (harg9 : arg9.IsWhole) (arg10 : Memref sig .tc .vmem S64x64x128 .f32) (harg10 : arg10.IsWhole) (arg11 : Memref sig .tc .vmem S64x64x128 .f32) (harg11 : arg11.IsWhole) (A2 : Blk F) (A3 : Blk F) (A4 : Blk F) (A5 : Blk F) (A6 : Blk F) (A7 : Blk F) (A8 : St F) (A9 : Blk F) (A10 : St F) (A11 : St F) (h1 : ¬ first i) (h2 : ¬ k0_cond2 i = 1#1) (Q : PUnit → sProp 𝕄) :
    iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare A9 ∗ owns (c : Thread nD τ) arg10 fullShare A10 ∗ owns (c : Thread nD τ) arg11 fullShare A11 ∗ (iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare (yOut ⟨A2, A3, A4, A5, A6, A7⟩ A11 A9 64) ∗ owns (c : Thread nD τ) arg10 fullShare A10 ∗ owns (c : Thread nD τ) arg11 fullShare (sOut ⟨A2, A3, A4, A5, A6, A7⟩ A11 64)) -∗ Q ⟨⟩))
    ⊢ wp frame (wpE (defs₀ (F := F)) Variants.none (c : Thread nD τ) none) Set.univ
        (cc0_wkv_scan i arg2 harg2 arg3 harg3 arg4 harg4 arg5 harg5 arg6 harg6 arg7 harg7 arg8 harg8 arg9 harg9 arg10 harg10 arg11 harg11) Q := by
  simp only [cc0_wkv_scan_eq_skeleton]
  unfold cc0_wkv_scan_skel owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, Hk⟩
  subst h2; subst h3; subst h4; subst h5; subst h6; subst h7; subst h8; subst h9; subst h10; subst h11
  sl_exec (disch := assumption)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact fin_y hL7 rfl rfl
  isplitl [H10]
  · iexists _; isplitr; swap; · iexact H10
    ipureintro; rfl
  · iexists _; isplitr; swap; · iexact H11
    ipureintro; exact fin_s hL9 rfl rfl

theorem run_ft (c : Dev nD) (i : grid0.Coords) (arg2 : Memref sig .tc .vmem S32x64x128 .f32) (harg2 : arg2.IsWhole) (arg3 : Memref sig .tc .vmem S32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S64x64x128 .f32) (harg8 : arg8.IsWhole) (arg9 : Memref sig .tc .vmem S32x64x128 .f32) (harg9 : arg9.IsWhole) (arg10 : Memref sig .tc .vmem S64x64x128 .f32) (harg10 : arg10.IsWhole) (arg11 : Memref sig .tc .vmem S64x64x128 .f32) (harg11 : arg11.IsWhole) (A2 : Blk F) (A3 : Blk F) (A4 : Blk F) (A5 : Blk F) (A6 : Blk F) (A7 : Blk F) (A8 : St F) (A9 : Blk F) (A10 : St F) (A11 : St F) (h1 : ¬ first i) (h2 : k0_cond2 i = 1#1) (Q : PUnit → sProp 𝕄) :
    iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare A9 ∗ owns (c : Thread nD τ) arg10 fullShare A10 ∗ owns (c : Thread nD τ) arg11 fullShare A11 ∗ (iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare (yOut ⟨A2, A3, A4, A5, A6, A7⟩ A11 A9 64) ∗ owns (c : Thread nD τ) arg10 fullShare (sOut ⟨A2, A3, A4, A5, A6, A7⟩ A11 64) ∗ owns (c : Thread nD τ) arg11 fullShare (sOut ⟨A2, A3, A4, A5, A6, A7⟩ A11 64)) -∗ Q ⟨⟩))
    ⊢ wp frame (wpE (defs₀ (F := F)) Variants.none (c : Thread nD τ) none) Set.univ
        (cc0_wkv_scan i arg2 harg2 arg3 harg3 arg4 harg4 arg5 harg5 arg6 harg6 arg7 harg7 arg8 harg8 arg9 harg9 arg10 harg10 arg11 harg11) Q := by
  simp only [cc0_wkv_scan_eq_skeleton]
  unfold cc0_wkv_scan_skel owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, Hk⟩
  subst h2; subst h3; subst h4; subst h5; subst h6; subst h7; subst h8; subst h9; subst h10; subst h11
  sl_exec (disch := assumption)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact fin_y hL7 rfl rfl
  isplitl [H10]
  · iexists _; isplitr; swap; · iexact H10
    ipureintro; exact (exit_read arg11 arg10 _ fL1 _ _).trans (fin_s hL9 rfl rfl)
  · iexists _; isplitr; swap; · iexact H11
    ipureintro; exact fin_s hL9 rfl rfl

theorem run_tf (c : Dev nD) (i : grid0.Coords) (arg2 : Memref sig .tc .vmem S32x64x128 .f32) (harg2 : arg2.IsWhole) (arg3 : Memref sig .tc .vmem S32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S64x64x128 .f32) (harg8 : arg8.IsWhole) (arg9 : Memref sig .tc .vmem S32x64x128 .f32) (harg9 : arg9.IsWhole) (arg10 : Memref sig .tc .vmem S64x64x128 .f32) (harg10 : arg10.IsWhole) (arg11 : Memref sig .tc .vmem S64x64x128 .f32) (harg11 : arg11.IsWhole) (A2 : Blk F) (A3 : Blk F) (A4 : Blk F) (A5 : Blk F) (A6 : Blk F) (A7 : Blk F) (A8 : St F) (A9 : Blk F) (A10 : St F) (A11 : St F) (h1 : first i) (h2 : ¬ k0_cond2 i = 1#1) (Q : PUnit → sProp 𝕄) :
    iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare A9 ∗ owns (c : Thread nD τ) arg10 fullShare A10 ∗ owns (c : Thread nD τ) arg11 fullShare A11 ∗ (iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare (yOut ⟨A2, A3, A4, A5, A6, A7⟩ A8 A9 64) ∗ owns (c : Thread nD τ) arg10 fullShare A10 ∗ owns (c : Thread nD τ) arg11 fullShare (sOut ⟨A2, A3, A4, A5, A6, A7⟩ A8 64)) -∗ Q ⟨⟩))
    ⊢ wp frame (wpE (defs₀ (F := F)) Variants.none (c : Thread nD τ) none) Set.univ
        (cc0_wkv_scan i arg2 harg2 arg3 harg3 arg4 harg4 arg5 harg5 arg6 harg6 arg7 harg7 arg8 harg8 arg9 harg9 arg10 harg10 arg11 harg11) Q := by
  simp only [cc0_wkv_scan_eq_skeleton]
  unfold cc0_wkv_scan_skel owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, Hk⟩
  subst h2; subst h3; subst h4; subst h5; subst h6; subst h7; subst h8; subst h9; subst h10; subst h11
  sl_exec (disch := assumption)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact fin_y hL7 rfl (entry_read arg8 arg11 _ X8 _ _)
  isplitl [H10]
  · iexists _; isplitr; swap; · iexact H10
    ipureintro; rfl
  · iexists _; isplitr; swap; · iexact H11
    ipureintro; exact fin_s hL9 rfl (entry_read arg8 arg11 _ X8 _ _)

theorem run_tt (c : Dev nD) (i : grid0.Coords) (arg2 : Memref sig .tc .vmem S32x64x128 .f32) (harg2 : arg2.IsWhole) (arg3 : Memref sig .tc .vmem S32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S64x64x128 .f32) (harg8 : arg8.IsWhole) (arg9 : Memref sig .tc .vmem S32x64x128 .f32) (harg9 : arg9.IsWhole) (arg10 : Memref sig .tc .vmem S64x64x128 .f32) (harg10 : arg10.IsWhole) (arg11 : Memref sig .tc .vmem S64x64x128 .f32) (harg11 : arg11.IsWhole) (A2 : Blk F) (A3 : Blk F) (A4 : Blk F) (A5 : Blk F) (A6 : Blk F) (A7 : Blk F) (A8 : St F) (A9 : Blk F) (A10 : St F) (A11 : St F) (h1 : first i) (h2 : k0_cond2 i = 1#1) (Q : PUnit → sProp 𝕄) :
    iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare A9 ∗ owns (c : Thread nD τ) arg10 fullShare A10 ∗ owns (c : Thread nD τ) arg11 fullShare A11 ∗ (iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare (yOut ⟨A2, A3, A4, A5, A6, A7⟩ A8 A9 64) ∗ owns (c : Thread nD τ) arg10 fullShare (sOut ⟨A2, A3, A4, A5, A6, A7⟩ A8 64) ∗ owns (c : Thread nD τ) arg11 fullShare (sOut ⟨A2, A3, A4, A5, A6, A7⟩ A8 64)) -∗ Q ⟨⟩))
    ⊢ wp frame (wpE (defs₀ (F := F)) Variants.none (c : Thread nD τ) none) Set.univ
        (cc0_wkv_scan i arg2 harg2 arg3 harg3 arg4 harg4 arg5 harg5 arg6 harg6 arg7 harg7 arg8 harg8 arg9 harg9 arg10 harg10 arg11 harg11) Q := by
  simp only [cc0_wkv_scan_eq_skeleton]
  unfold cc0_wkv_scan_skel owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, Hk⟩
  subst h2; subst h3; subst h4; subst h5; subst h6; subst h7; subst h8; subst h9; subst h10; subst h11
  sl_exec (disch := assumption)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact fin_y hL7 rfl (entry_read arg8 arg11 _ X8 _ _)
  isplitl [H10]
  · iexists _; isplitr; swap; · iexact H10
    ipureintro; exact (exit_read arg11 arg10 _ fL1 _ _).trans (fin_s hL9 rfl (entry_read arg8 arg11 _ X8 _ _))
  · iexists _; isplitr; swap; · iexact H11
    ipureintro; exact fin_s hL9 rfl (entry_read arg8 arg11 _ X8 _ _)

/-- The body at a grid point: it steps the states through the time block, from the argument's states at a group's first
point and from the scratch's at the others, and copies them out at the group's last. -/
theorem run_all (c : Dev nD) (i : grid0.Coords) (arg2 : Memref sig .tc .vmem S32x64x128 .f32) (harg2 : arg2.IsWhole) (arg3 : Memref sig .tc .vmem S32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S64x64x128 .f32) (harg8 : arg8.IsWhole) (arg9 : Memref sig .tc .vmem S32x64x128 .f32) (harg9 : arg9.IsWhole) (arg10 : Memref sig .tc .vmem S64x64x128 .f32) (harg10 : arg10.IsWhole) (arg11 : Memref sig .tc .vmem S64x64x128 .f32) (harg11 : arg11.IsWhole) (A2 : Blk F) (A3 : Blk F) (A4 : Blk F) (A5 : Blk F) (A6 : Blk F) (A7 : Blk F) (A8 : St F) (A9 : Blk F) (A10 : St F) (A11 : St F) (Q : PUnit → sProp 𝕄) :
    iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare A9 ∗ owns (c : Thread nD τ) arg10 fullShare A10 ∗ owns (c : Thread nD τ) arg11 fullShare A11 ∗ (iprop(owns (c : Thread nD τ) arg2 fullShare A2 ∗ owns (c : Thread nD τ) arg3 fullShare A3 ∗ owns (c : Thread nD τ) arg4 fullShare A4 ∗ owns (c : Thread nD τ) arg5 fullShare A5 ∗ owns (c : Thread nD τ) arg6 fullShare A6 ∗ owns (c : Thread nD τ) arg7 fullShare A7 ∗ owns (c : Thread nD τ) arg8 fullShare A8 ∗ owns (c : Thread nD τ) arg9 fullShare (yOut ⟨A2, A3, A4, A5, A6, A7⟩ (if first i then A8 else A11) A9 64) ∗ owns (c : Thread nD τ) arg10 fullShare (if k0_cond2 i = 1#1 then sOut ⟨A2, A3, A4, A5, A6, A7⟩ (if first i then A8 else A11) 64 else A10) ∗ owns (c : Thread nD τ) arg11 fullShare (sOut ⟨A2, A3, A4, A5, A6, A7⟩ (if first i then A8 else A11) 64)) -∗ Q ⟨⟩))
    ⊢ wp frame (wpE (defs₀ (F := F)) Variants.none (c : Thread nD τ) none) Set.univ
        (cc0_wkv_scan i arg2 harg2 arg3 harg3 arg4 harg4 arg5 harg5 arg6 harg6 arg7 harg7 arg8 harg8 arg9 harg9 arg10 harg10 arg11 harg11) Q := by
  by_cases h1 : first i <;> by_cases h2 : k0_cond2 i = 1#1
  · rw [if_pos h1, if_pos h2]; exact run_tt c i arg2 harg2 arg3 harg3 arg4 harg4 arg5 harg5 arg6 harg6 arg7 harg7 arg8 harg8 arg9 harg9 arg10 harg10 arg11 harg11 A2 A3 A4 A5 A6 A7 A8 A9 A10 A11 h1 h2 Q
  · rw [if_pos h1, if_neg h2]; exact run_tf c i arg2 harg2 arg3 harg3 arg4 harg4 arg5 harg5 arg6 harg6 arg7 harg7 arg8 harg8 arg9 harg9 arg10 harg10 arg11 harg11 A2 A3 A4 A5 A6 A7 A8 A9 A10 A11 h1 h2 Q
  · rw [if_neg h1, if_pos h2]; exact run_ft c i arg2 harg2 arg3 harg3 arg4 harg4 arg5 harg5 arg6 harg6 arg7 harg7 arg8 harg8 arg9 harg9 arg10 harg10 arg11 harg11 A2 A3 A4 A5 A6 A7 A8 A9 A10 A11 h1 h2 Q
  · rw [if_neg h1, if_neg h2]; exact run_ff c i arg2 harg2 arg3 harg3 arg4 harg4 arg5 harg5 arg6 harg6 arg7 harg7 arg8 harg8 arg9 harg9 arg10 harg10 arg11 harg11 A2 A3 A4 A5 A6 A7 A8 A9 A10 A11 h1 h2 Q

end Cert.KernelIdeal.Scan

end
-- ==== Proof.ScanDatI.lean ====
module

public import proofs.«01_k».proof.Proof.ScanRunI
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The six time blocks of point `t`. -/
def insAt (c : Dev nD) (t : Fin cfg0.N) : Ins F := ⟨iblk m c 0 t, iblk m c 1 t, iblk m c 2 t, iblk m c 3 t, iblk m c 4 t, iblk m c 5 t⟩

/-- The states in the scratch before point `n`. -/
def stAt (c : Dev nD) : ℕ → St F
  | 0 => iblk m c 6 ⟨0, by decide⟩
  | n + 1 => if h : n < cfg0.N then sOut (insAt m c ⟨n, h⟩) (if n % 8 = 0 then iblk m c 6 ⟨n, h⟩ else stAt c n) 64 else stAt c n

/-- The states from which point `t` starts. -/
def enter (c : Dev nD) (t : Fin cfg0.N) : St F := if t.val % 8 = 0 then iblk m c 6 t else stAt m c t.val

/-- The outputs of a time block. -/
def yBlk (I : Ins F) (S : St F) : Blk F := fun y =>
  outRow I (y 1) (y 0) (rowAt I (y 1) (rowsOf S (y 1)) (y 0).val) (ix3 (n0 := 1) (n1 := 1) (n2 := 128) 0 0 (y 2))
/-- The states after a time block. -/
def sBlk (I : Ins F) (S : St F) : St F := fun y =>
  ofRow (rowAt I (y 0) (rowsOf S (y 0)) 32) (ix3 (n0 := 1) (n1 := 64) (n2 := 128) 0 (y 1) (y 2))

theorem yOut_all (I : Ins F) (S : St F) (Y : Blk F) : yOut I S Y 64 = yBlk I S := funext fun y => if_pos (y 1).isLt
theorem sOut_all (I : Ins F) (S : St F) : sOut I S 64 = sBlk I S := funext fun y => if_pos (y 0).isLt

theorem stAt_succ (c : Dev nD) (t : Fin cfg0.N) : stAt m c (t.val + 1) = sBlk (insAt m c t) (enter m c t) := by
  rw [stAt, dif_pos t.isLt, sOut_all]; rfl

theorem first_iff : ∀ t : Fin cfg0.N, first (cfg0.grid.coords t) ↔ t.val % 8 = 0 := by decide +kernel
theorem last_iff : ∀ t : Fin cfg0.N, k0_cond2 (cfg0.grid.coords t) = 1#1 ↔ t.val % 8 = 7 := by decide +kernel
theorem idle8 : ∀ t : Fin cfg0.N, idle0 8 (grid0.coords t) = !(t.val % 8 == 7) := by decide +kernel
theorem flush8 : ∀ t : Fin cfg0.N, (win0 8).flush t = (t.val % 8 == 7) := by decide +kernel

/-- The invariant before point `n`: the scratch holds the states reached, unless a chain group is about to start. -/
def Inv (c : Dev nD) (n : ℕ) : sProp 𝕄 :=
  iprop((∃ d : St F, owns (c : Thread nD τ) (Memref.whole cc0_scratch0) fullShare d ∗ ⌜n % 8 ≠ 0 → d = stAt m c n⌝) ∗ ∃ r, prngReg c r)

/-- The proof data: arrays as launched, input buffers as fetched, the output's blocks computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yBlk (insAt m c t) (enter m c t)
    | ⟨8, _⟩ => sBlk (insAt m c t) (enter m c t)
  Φ n := Inv m c n.val
  q _ := fullShare
  owed _ := 0

theorem A_eq (c : Dev nD) (w : Fin cfg0.W) : (dats m 0 c).A w = V m c (Pipeline.arrRef spec0 w) := by
  dsimp only [dats]

theorem bef0 (c : Dev nD) (t) (d) : (dats m 0 c).before 0 t d = iblk m c 0 t := before0_0_of m _ (A_eq m c 0) (fun _ => rfl) t d
theorem bef1 (c : Dev nD) (t) (d) : (dats m 0 c).before 1 t d = iblk m c 1 t := before0_1_of m _ (A_eq m c 1) (fun _ => rfl) t d
theorem bef2 (c : Dev nD) (t) (d) : (dats m 0 c).before 2 t d = iblk m c 2 t := before0_2_of m _ (A_eq m c 2) (fun _ => rfl) t d
theorem bef3 (c : Dev nD) (t) (d) : (dats m 0 c).before 3 t d = iblk m c 3 t := before0_3_of m _ (A_eq m c 3) (fun _ => rfl) t d
theorem bef4 (c : Dev nD) (t) (d) : (dats m 0 c).before 4 t d = iblk m c 4 t := before0_4_of m _ (A_eq m c 4) (fun _ => rfl) t d
theorem bef5 (c : Dev nD) (t) (d) : (dats m 0 c).before 5 t d = iblk m c 5 t := before0_5_of m _ (A_eq m c 5) (fun _ => rfl) t d
theorem bef6 (c : Dev nD) (t) (d) : (dats m 0 c).before 6 t d = iblk m c 6 t := before0_6_of m _ (A_eq m c 6) (fun _ => rfl) t d

theorem defs₀_scan (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_scan]
  rw [show (dats m 0 c).Φ t.castSucc = Inv m c t.val from rfl, show (dats m 0 c).Φ t.succ = Inv m c (t.val + 1) from rfl]
  unfold Dat.owesAt Pipeline.owesWithin
  simp only [bef0, bef1, bef2, bef3, bef4, bef5, bef6]
  unfold Inv
  iintro ⟨⟨⟨%d, Hs, %hd⟩, Hp⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hS : (if first (grid0.coords t) then iblk m c 6 t else d) = enter m c t := by
    unfold enter
    by_cases h : t.val % 8 = 0
    · rw [if_pos ((first_iff t).mpr h), if_pos h]
    · rw [if_neg fun h' => h ((first_iff t).mp h'), if_neg h, hd h]
  have run := run_all c (grid0.coords t) (stage0_0 (cfg0.slots t 0)) (hstage0_0 ((cfg0.slots t 0).cast nbuf0_0)) (stage0_1 (cfg0.slots t 1)) (hstage0_1 ((cfg0.slots t 1).cast nbuf0_1)) (stage0_2 (cfg0.slots t 2)) (hstage0_2 ((cfg0.slots t 2).cast nbuf0_2)) (stage0_3 (cfg0.slots t 3)) (hstage0_3 ((cfg0.slots t 3).cast nbuf0_3)) (stage0_4 (cfg0.slots t 4)) (hstage0_4 ((cfg0.slots t 4).cast nbuf0_4)) (stage0_5 (cfg0.slots t 5)) (hstage0_5 ((cfg0.slots t 5).cast nbuf0_5)) (stage0_6 (cfg0.slots t 6)) (hstage0_6 ((cfg0.slots t 6).cast nbuf0_6)) (stage0_7 (cfg0.slots t 7)) (hstage0_7 ((cfg0.slots t 7).cast nbuf0_7)) (stage0_8 (cfg0.slots t 8)) (hstage0_8 ((cfg0.slots t 8).cast nbuf0_8)) (Memref.whole cc0_scratch0) (Memref.isWhole_whole _)
    (iblk m c 0 t) (iblk m c 1 t) (iblk m c 2 t) (iblk m c 3 t) (iblk m c 4 t) (iblk m c 5 t) (iblk m c 6 t) ((dats m 0 c).before 7 t d7) ((dats m 0 c).before 8 t d8) d
  simp only [hS, yOut_all, sOut_all] at run
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs]; · iexact Hs
  iintro ⟨H0, H1, H2, H3, H4, H5, H6, H7, H8, Hs⟩
  isplitl [Hs Hp]
  · isplitl [Hs]
    · iexists _; isplitl [Hs]; · iexact Hs
      ipureintro; exact fun _ => (stAt_succ m c t).symm
    · iexact Hp
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases hl : t.val % 8 = 7
  · have h2 := (last_iff t).mpr hl
    have e1 : idle0 8 (grid0.coords t) = false := by rw [idle8, hl]; rfl
    simp only [e1]
    rw [if_pos h2]
    iexact H8
  · have h2 := fun h => hl ((last_iff t).mp h)
    have e1 : idle0 8 (grid0.coords t) = true := by rw [idle8, beq_false_of_ne hl]; rfl
    have e2 : (win0 8).flush t = false := by rw [flush8, beq_false_of_ne hl]
    simp only [e1, e2]
    rw [if_neg h2]
    iexists d8
    iexact H8

variable (ρ : Dev nD → PrngReg)

set_option backward.isDefEq.respectTransparency.types false in
/-- The launch: every array ends at what the data says of it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main
    (hbody := fun c => (body_obligation m c).loose)
    (hshare := fun c => (dats m 0 c).share_full fun _ => rfl)
    (howed := fun _ _ => rfl)
    (V := V m) (hmain := hmain m Variants.none) (hA := A_eq m)
    (hin := fun c => by
      show Pipeline.ΦA spec0 c ⊢ Inv m c 0
      unfold Pipeline.ΦA Inv
      rw [scopedRest0_eq]; simp only [owns_whole]
      iintro ⟨⟨%f, Hf⟩, Hp⟩
      isplitl [Hf]
      · iexists f; isplitl [Hf]
        · iexact Hf
        · ipureintro; exact fun h => absurd rfl h
      · iexact Hp)
    (hout := fun c => by
      show Inv m c _ ⊢ Pipeline.ΦA spec0 c
      unfold Pipeline.ΦA Inv
      rw [scopedRest0_eq]; simp only [owns_whole]
      iintro ⟨⟨%d, Hf, %hd⟩, Hp⟩
      isplitl [Hf]
      · iexists d; iexact Hf
      · iexact Hp)
    (Q' := _)

/-- Of such a run: the argument arrays are as launched. -/
theorem kept {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).1 3).trans (((dats m 0 c).arrAt_in 3 rfl _).trans ((A_eq m c 3).trans (V_main_arg3 m c))),
   ((h c).1 4).trans (((dats m 0 c).arrAt_in 4 rfl _).trans ((A_eq m c 4).trans (V_main_arg4 m c))),
   ((h c).1 5).trans (((dats m 0 c).arrAt_in 5 rfl _).trans ((A_eq m c 5).trans (V_main_arg5 m c))),
   ((h c).1 6).trans (((dats m 0 c).arrAt_in 6 rfl _).trans ((A_eq m c 6).trans (V_main_arg6 m c)))⟩

end Cert.KernelIdeal.Scan

end
-- ==== Proof.ScanSpec.lean ====
module

public import Mathlib.Data.EReal.Operations
public import Mathlib.Algebra.BigOperators.Fin
public import Idealize.ShloMosaic.Lib.Pointwise

/-!
The recurrence itself, over the extended reals: 256 steps of 64 value rows for 512 chains. A row of 64 keys decays by
`w`, loses its part along `kk` in direction `b`, and takes up `v` in direction `k`; the output is its product with `r`.
-/

@[expose] public section

noncomputable section

namespace Cert.ScanSpec

open Idealize.ShloMosaic

/-- One step of a value row: `x·w − ⟨x, kk⟩ b + v k`. -/
def stepE (kk w b k : Fin 64 → EReal) (v : EReal) (x : Fin 64 → EReal) : Fin 64 → EReal :=
  fun j => x j * w j - (∑ i, x i * kk i) * b j + v * k j

/-- An argument of 256 steps, 64 components, 512 chains. -/
abbrev Seq : Type := (⟨3, ![256, 64, 512]⟩ : Shape).Idx → EReal
/-- The states of 512 chains. -/
abbrev States : Type := (⟨3, ![64, 64, 512]⟩ : Shape).Idx → EReal

/-- The arguments of the recurrence. -/
structure Args where
  r : Seq
  w : Seq
  k : Seq
  v : Seq
  kk : Seq
  b : Seq
  s0 : States

/-- Value row `p` of chain `z` before step `n`. -/
def row (A : Args) (p : Fin 64) (z : Fin 512) : ℕ → Fin 64 → EReal
  | 0 => fun j => A.s0 (ix3 p j z)
  | n + 1 => if h : n < 256 then
      stepE (fun j => A.kk (ix3 ⟨n, h⟩ j z)) (fun j => A.w (ix3 ⟨n, h⟩ j z)) (fun j => A.b (ix3 ⟨n, h⟩ j z))
        (fun j => A.k (ix3 ⟨n, h⟩ j z)) (A.v (ix3 ⟨n, h⟩ p z)) (row A p z n)
    else row A p z n

theorem row_succ (A : Args) (p : Fin 64) (z : Fin 512) (t : Fin 256) :
    row A p z (t.val + 1) = stepE (fun j => A.kk (ix3 t j z)) (fun j => A.w (ix3 t j z)) (fun j => A.b (ix3 t j z))
        (fun j => A.k (ix3 t j z)) (A.v (ix3 t p z)) (row A p z t.val) := by
  rw [row]; exact dif_pos t.isLt

/-- The output of step `t`. -/
def out (A : Args) (t : Fin 256) (p : Fin 64) (z : Fin 512) : EReal := ∑ j, row A p z (t.val + 1) j * A.r (ix3 t j z)

/-- The whole output, and the states at the end. -/
def outs (A : Args) : Seq := fun y => out A (y 0) (y 1) (y 2)
def fin (A : Args) : States := fun y => row A (y 0) (y 2) 256 (y 1)

/-- 64 keys summed in 8 groups of 8. -/
theorem sum64 (f : Fin 64 → EReal) : ∑ j, f j = ∑ l : Fin 8, ∑ g : Fin 8, f ⟨g.val * 8 + l.val, by omega⟩ := by
  rw [Finset.sum_comm, ← Fintype.sum_prod_type' (f := fun (g l : Fin 8) => f ⟨g.val * 8 + l.val, by omega⟩)]
  refine (Fintype.sum_equiv (finProdFinEquiv (m := 8) (n := 8)) _ _ fun x => ?_).symm
  refine congrArg f (Fin.ext ?_)
  show x.1.val * 8 + x.2.val = x.2.val + 8 * x.1.val
  omega

/-- Eight terms added in a butterfly of rotations by 4, 2 and 1, seen from any place. -/
theorem rot8 (T : Fin 8 → EReal) (l : Fin 8) :
    T l + T ⟨(l.val + 8 - 4) % 8, Nat.mod_lt _ (by decide)⟩
      + (T ⟨(l.val + 8 - 2) % 8, Nat.mod_lt _ (by decide)⟩ + T ⟨((l.val + 8 - 2) % 8 + 8 - 4) % 8, Nat.mod_lt _ (by decide)⟩)
      + (T ⟨(l.val + 8 - 1) % 8, Nat.mod_lt _ (by decide)⟩ + T ⟨((l.val + 8 - 1) % 8 + 8 - 4) % 8, Nat.mod_lt _ (by decide)⟩
        + (T ⟨((l.val + 8 - 1) % 8 + 8 - 2) % 8, Nat.mod_lt _ (by decide)⟩ + T ⟨(((l.val + 8 - 1) % 8 + 8 - 2) % 8 + 8 - 4) % 8, Nat.mod_lt _ (by decide)⟩))
      = ∑ i, T i := by
  rw [Fin.sum_univ_eight]
  fin_cases l
  · show T 0 + T 4 + (T 6 + T 2) + (T 7 + T 3 + (T 5 + T 1)) = _; abel
  · show T 1 + T 5 + (T 7 + T 3) + (T 0 + T 4 + (T 6 + T 2)) = _; abel
  · show T 2 + T 6 + (T 0 + T 4) + (T 1 + T 5 + (T 7 + T 3)) = _; abel
  · show T 3 + T 7 + (T 1 + T 5) + (T 2 + T 6 + (T 0 + T 4)) = _; abel
  · show T 4 + T 0 + (T 2 + T 6) + (T 3 + T 7 + (T 1 + T 5)) = _; abel
  · show T 5 + T 1 + (T 3 + T 7) + (T 4 + T 0 + (T 2 + T 6)) = _; abel
  · show T 6 + T 2 + (T 4 + T 0) + (T 5 + T 1 + (T 3 + T 7)) = _; abel
  · show T 7 + T 3 + (T 5 + T 1) + (T 6 + T 2 + (T 4 + T 0)) = _; abel

end Cert.ScanSpec

end
-- ==== Proof.ScanVal.lean ====
module

public import proofs.«01_k».proof.Proof.ScanDatI
public import proofs.«01_k».proof.Proof.ScanSpec

/-!
What the kernel computes over the extended reals: the rows carried by the loops are the recurrence's rows, the blocks
written are the recurrence's outputs and final states, and so are the two result arrays.
-/

@[expose] public section

set_option maxRecDepth 16384

noncomputable section

namespace Cert.KernelIdeal.Scan

open Cert.KernelIdeal Cert.KernelIdeal.Gen Cert.ScanSpec
open Idealize.ShloMosaic Idealize.ShloMosaic.TcCoe
open Idealize.ShloMosaic.Pipeline (Dat)

/-- Chain `z`'s 64 keys of a carried row. -/
def keys (S : Row Ideal) (z : Fin 128) : Fin 64 → EReal := fun j =>
  S (ix3 ⟨j.val / 8, by omega⟩ ⟨j.val % 8, Nat.mod_lt _ (by decide)⟩ z)

theorem keys_at (S : Row Ideal) (z : Fin 128) (g l : Fin 8) : keys S z ⟨g.val * 8 + l.val, by omega⟩ = S (ix3 g l z) := by
  unfold keys
  have e1 : (⟨(g.val * 8 + l.val) / 8, by omega⟩ : Fin 8) = g := Fin.ext (by show (g.val * 8 + l.val) / 8 = g.val; omega)
  have e2 : (⟨(g.val * 8 + l.val) % 8, Nat.mod_lt _ (by decide)⟩ : Fin 8) = l := Fin.ext (by show (g.val * 8 + l.val) % 8 = l.val; omega)
  exact congrArg S (by rw [e1, e2])

/-- A product of a carried row with a vector, summed over the keys. -/
theorem keys_sum (S : Row Ideal) (x : Fin 64 → EReal) (z : Fin 128) :
    ∑ l : Fin 8, ∑ g : Fin 8, S (ix3 g l z) * x ⟨g.val * 8 + l.val, by omega⟩ = ∑ j, keys S z j * x j := by
  rw [sum64]
  exact Finset.sum_congr rfl fun l _ => Finset.sum_congr rfl fun g _ => by rw [keys_at]

theorem stepR_keys (kk w b k : Vec Ideal S1x64x128 .f32) (v : Vec Ideal S1x1x128 .f32) (S : Row Ideal) (z : Fin 128) :
    keys (stepR kk w b k v S) z
      = stepE (fun j => kk (ix3 0 j z)) (fun j => w (ix3 0 j z)) (fun j => b (ix3 0 j z)) (fun j => k (ix3 0 j z)) (v (ix3 0 0 z)) (keys S z) := by
  funext j
  obtain ⟨g, l, rfl⟩ : ∃ g l : Fin 8, j = ⟨g.val * 8 + l.val, by omega⟩ :=
    ⟨⟨j.val / 8, by omega⟩, ⟨j.val % 8, Nat.mod_lt _ (by decide)⟩, Fin.ext (by show j.val = j.val / 8 * 8 + j.val % 8; omega)⟩
  rw [keys_at]
  unfold stepE
  rw [keys_at, ← keys_sum S (fun j => kk (ix3 0 j z)) z, ← rot8 (fun l => ∑ g : Fin 8, S (ix3 g l z) * kk (ix3 0 ⟨g.val * 8 + l.val, by omega⟩ z)) l]
  unfold stepR
  pointwise [k0_pay13, k0_pay4, k0_pay5, k0_pay6, k0_pay7]

theorem outR_keys (kk w b k r : Vec Ideal S1x64x128 .f32) (v : Vec Ideal S1x1x128 .f32) (S : Row Ideal) (z : Fin 128) :
    outR kk w b k r v S (ix3 (n0 := 1) (n1 := 1) (n2 := 128) 0 0 z) = ∑ j, keys (stepR kk w b k v S) z j * r (ix3 0 j z) := by
  rw [← keys_sum (stepR kk w b k v S) (fun j => r (ix3 0 j z)) z,
    ← rot8 (fun l => ∑ g : Fin 8, stepR kk w b k v S (ix3 g l z) * r (ix3 0 ⟨g.val * 8 + l.val, by omega⟩ z)) 0]
  unfold outR stepR
  pointwise [k0_pay14, k0_pay15, k0_pay8]

theorem ofRow_keys (S : Row Ideal) (j : Fin 64) (z : Fin 128) : ofRow S (ix3 (n0 := 1) (n1 := 64) (n2 := 128) 0 j z) = keys S z j := by
  unfold ofRow keys
  pointwise [k0_pay26]

theorem toRow_keys (W : Vec Ideal S1x64x128 .f32) (j : Fin 64) (z : Fin 128) : keys (toRow W) z j = W (ix3 0 j z) := by
  obtain ⟨g, l, rfl⟩ : ∃ g l : Fin 8, j = ⟨g.val * 8 + l.val, by omega⟩ :=
    ⟨⟨j.val / 8, by omega⟩, ⟨j.val % 8, Nat.mod_lt _ (by decide)⟩, Fin.ext (by show j.val = j.val / 8 * 8 + j.val % 8; omega)⟩
  rw [keys_at]
  unfold toRow
  pointwise [k0_pay21]

theorem rowW_at (X : Blk Ideal) (t : Fin 32) (j : Fin 64) (z : Fin 128) : rowW X t (ix3 0 j z) = X (ix3 t j z) := by
  unfold rowW VecWindow.window
  refine congrArg X (funext fun a => Fin.ext ?_)
  rw [Rect.emb_apply]
  match a with
  | ⟨0, _⟩ => show t.val + 1 * 0 = t.val; omega
  | ⟨1, _⟩ => show 0 + 1 * j.val = j.val; omega
  | ⟨2, _⟩ => show 0 + 1 * z.val = z.val; omega

theorem valW_at (X : Blk Ideal) (t : Fin 32) (p : Fin 64) (z : Fin 128) : valW X t p (ix3 0 0 z) = X (ix3 t p z) := by
  unfold valW VecWindow.window
  refine congrArg X (funext fun a => Fin.ext ?_)
  rw [Rect.emb_apply]
  match a with
  | ⟨0, _⟩ => show t.val + 1 * 0 = t.val; omega
  | ⟨1, _⟩ => show p.val + 1 * 0 = p.val; omega
  | ⟨2, _⟩ => show 0 + 1 * z.val = z.val; omega

theorem stW_at (X : St Ideal) (p j : Fin 64) (z : Fin 128) : stW X p (ix3 0 j z) = X (ix3 p j z) := by
  unfold stW VecWindow.window
  refine congrArg X (funext fun a => Fin.ext ?_)
  rw [Rect.emb_apply]
  match a with
  | ⟨0, _⟩ => show p.val + 1 * 0 = p.val; omega
  | ⟨1, _⟩ => show 0 + 1 * j.val = j.val; omega
  | ⟨2, _⟩ => show 0 + 1 * z.val = z.val; omega

/-! ## The blocks of the arrays -/

variable (m : (ℓ : Loc nD τ sig) → Buf (Elt Ideal) ℓ)

/-- The recurrence's arguments, as the arrays hold them. -/
def argsOf (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5), m ((c.tc : Thread nD τ).loc main_arg6)⟩

theorem tlt (t : Fin cfg0.N) : t.val < 32 := t.isLt
/-- The step that place `a` of point `t`'s blocks stands for, and the chain. -/
def stepAt (t : Fin cfg0.N) (a : Fin 32) : Fin 256 := ⟨t.val % 8 * 32 + a.val, by omega⟩
def chainAt (t : Fin cfg0.N) (z : Fin 128) : Fin 512 := ⟨t.val / 8 * 128 + z.val, by have := tlt t; omega⟩

theorem idx0 : ∀ t : Fin cfg0.N, (cfg0.win 0).index t = ![t.val % 8, 0, t.val / 8] := by decide +kernel
theorem idx1 : ∀ t : Fin cfg0.N, (cfg0.win 1).index t = ![t.val % 8, 0, t.val / 8] := by decide +kernel
theorem idx2 : ∀ t : Fin cfg0.N, (cfg0.win 2).index t = ![t.val % 8, 0, t.val / 8] := by decide +kernel
theorem idx3 : ∀ t : Fin cfg0.N, (cfg0.win 3).index t = ![t.val % 8, 0, t.val / 8] := by decide +kernel
theorem idx4 : ∀ t : Fin cfg0.N, (cfg0.win 4).index t = ![t.val % 8, 0, t.val / 8] := by decide +kernel
theorem idx5 : ∀ t : Fin cfg0.N, (cfg0.win 5).index t = ![t.val % 8, 0, t.val / 8] := by decide +kernel
theorem idx6 : ∀ t : Fin cfg0.N, (cfg0.win 6).index t = ![0, 0, t.val / 8] := by decide +kernel
theorem idx7 : ∀ t : Fin cfg0.N, (cfg0.win 7).index t = ![t.val % 8, 0, t.val / 8] := by decide +kernel
theorem idx8 : ∀ t : Fin cfg0.N, (cfg0.win 8).index t = ![0, 0, t.val / 8] := by decide +kernel

theorem iblk0 (c : Dev nD) (t : Fin cfg0.N) (a : Fin 32) (p : Fin 64) (z : Fin 128) :
    (iblk m c 0 t : Blk Ideal) (ix3 a p z) = (argsOf m c).r (ix3 (stepAt t a) p (chainAt t z)) := by
  unfold argsOf
  blk_ext [iblk, V, idx0 t] <;> rfl
theorem iblk1 (c : Dev nD) (t : Fin cfg0.N) (a : Fin 32) (p : Fin 64) (z : Fin 128) :
    (iblk m c 1 t : Blk Ideal) (ix3 a p z) = (argsOf m c).w (ix3 (stepAt t a) p (chainAt t z)) := by
  unfold argsOf
  blk_ext [iblk, V, idx1 t] <;> rfl
theorem iblk2 (c : Dev nD) (t : Fin cfg0.N) (a : Fin 32) (p : Fin 64) (z : Fin 128) :
    (iblk m c 2 t : Blk Ideal) (ix3 a p z) = (argsOf m c).k (ix3 (stepAt t a) p (chainAt t z)) := by
  unfold argsOf
  blk_ext [iblk, V, idx2 t] <;> rfl
theorem iblk3 (c : Dev nD) (t : Fin cfg0.N) (a : Fin 32) (p : Fin 64) (z : Fin 128) :
    (iblk m c 3 t : Blk Ideal) (ix3 a p z) = (argsOf m c).v (ix3 (stepAt t a) p (chainAt t z)) := by
  unfold argsOf
  blk_ext [iblk, V, idx3 t] <;> rfl
theorem iblk4 (c : Dev nD) (t : Fin cfg0.N) (a : Fin 32) (p : Fin 64) (z : Fin 128) :
    (iblk m c 4 t : Blk Ideal) (ix3 a p z) = (argsOf m c).kk (ix3 (stepAt t a) p (chainAt t z)) := by
  unfold argsOf
  blk_ext [iblk, V, idx4 t] <;> rfl
theorem iblk5 (c : Dev nD) (t : Fin cfg0.N) (a : Fin 32) (p : Fin 64) (z : Fin 128) :
    (iblk m c 5 t : Blk Ideal) (ix3 a p z) = (argsOf m c).b (ix3 (stepAt t a) p (chainAt t z)) := by
  unfold argsOf
  blk_ext [iblk, V, idx5 t] <;> rfl
theorem iblk6 (c : Dev nD) (t : Fin cfg0.N) (a : Fin 64) (p : Fin 64) (z : Fin 128) :
    (iblk m c 6 t : St Ideal) (ix3 a p z) = (argsOf m c).s0 (ix3 a p (chainAt t z)) := by
  unfold argsOf
  blk_ext [iblk, V, idx6 t] <;> rfl

/-! ## The rows carried are the recurrence's -/

/-- A step of the time block at point `t` is a step of the recurrence. -/
theorem stepRow_row (c : Dev nD) (t : Fin cfg0.N) (p : Fin 64) (z : Fin 128) (a : Fin 32) (S : Row Ideal)
    (hS : keys S z = row (argsOf m c) p (chainAt t z) (stepAt t a).val) :
    keys (stepRow (insAt m c t) p a S) z = row (argsOf m c) p (chainAt t z) ((stepAt t a).val + 1) := by
  rw [row_succ, ← hS]
  unfold stepRow
  rw [stepR_keys]
  simp only [rowW_at, valW_at]
  unfold insAt
  simp only [iblk1, iblk2, iblk3, iblk4, iblk5]

theorem rowAt_row (c : Dev nD) (t : Fin cfg0.N) (p : Fin 64) (z : Fin 128) (S : Row Ideal)
    (hS : keys S z = row (argsOf m c) p (chainAt t z) (t.val % 8 * 32)) (n : ℕ) (hn : n ≤ 32) :
    keys (rowAt (insAt m c t) p S n) z = row (argsOf m c) p (chainAt t z) (t.val % 8 * 32 + n) := by
  induction n with
  | zero => exact hS
  | succ n ih =>
    rw [rowAt_succ _ _ _ n hn]
    exact stepRow_row m c t p z ⟨n, hn⟩ _ (ih (Nat.le_of_lt hn))

theorem outRow_out (c : Dev nD) (t : Fin cfg0.N) (p : Fin 64) (z : Fin 128) (a : Fin 32) (S : Row Ideal)
    (hS : keys S z = row (argsOf m c) p (chainAt t z) (stepAt t a).val) :
    outRow (insAt m c t) p a S (ix3 (n0 := 1) (n1 := 1) (n2 := 128) 0 0 z) = out (argsOf m c) (stepAt t a) p (chainAt t z) := by
  unfold outRow
  rw [outR_keys]
  have h := stepRow_row m c t p z a S hS
  unfold stepRow at h
  rw [h]
  unfold out
  refine Finset.sum_congr rfl fun j _ => ?_
  rw [rowW_at]
  unfold insAt
  simp only [iblk0]

theorem rowsOf_keys (S : St Ideal) (p : Fin 64) (z : Fin 128) : keys (rowsOf S p) z = fun j => S (ix3 p j z) := by
  funext j
  unfold rowsOf
  rw [toRow_keys, stW_at]

theorem sBlk_at (I : Ins Ideal) (S : St Ideal) (p j : Fin 64) (z : Fin 128) :
    sBlk I S (ix3 p j z) = keys (rowAt I p (rowsOf S p) 32) z j := by
  unfold sBlk
  exact ofRow_keys _ j z

/-- The states from which a point starts. -/
theorem enter_row (c : Dev nD) (n : ℕ) : ∀ (h : n < 32) (p : Fin 64) (z : Fin 128),
    keys (rowsOf (enter m c ⟨n, h⟩) p) z = row (argsOf m c) p (chainAt ⟨n, h⟩ z) (n % 8 * 32) := by
  induction n with
  | zero =>
    intro h p z
    rw [rowsOf_keys]
    unfold enter
    funext j
    rw [if_pos (by rfl), iblk6]
    rfl
  | succ n ih =>
    intro h p z
    rw [rowsOf_keys]
    funext j
    unfold enter
    by_cases h8 : (n + 1) % 8 = 0
    · rw [if_pos h8, iblk6, h8]
      rfl
    · rw [if_neg h8]
      have hn : n < 32 := by omega
      have e := stAt_succ m c ⟨n, hn⟩
      refine (congrFun e _).trans ?_
      rw [sBlk_at, rowAt_row m c ⟨n, hn⟩ p z _ (ih hn p z) 32 (le_refl _)]
      have e1 : n % 8 * 32 + 32 = (n + 1) % 8 * 32 := by omega
      have e2 : chainAt ⟨n, hn⟩ z = chainAt ⟨n + 1, h⟩ z := Fin.ext (by show n / 8 * 128 + z.val = (n + 1) / 8 * 128 + z.val; omega)
      rw [e2]
      exact congrArg (fun x => row (argsOf m c) p (chainAt ⟨n + 1, h⟩ z) x j) e1

theorem yBlk_at (c : Dev nD) (t : Fin cfg0.N) (a : Fin 32) (p : Fin 64) (z : Fin 128) :
    yBlk (insAt m c t) (enter m c t) (ix3 a p z) = outs (argsOf m c) (ix3 (stepAt t a) p (chainAt t z)) := by
  unfold yBlk
  exact outRow_out m c t p z a _ (rowAt_row m c t p z _ (enter_row m c t.val t.isLt p z) a.val (Nat.le_of_lt a.isLt))

theorem sBlk_end (c : Dev nD) (t : Fin cfg0.N) (h : t.val % 8 = 7) (p j : Fin 64) (z : Fin 128) :
    sBlk (insAt m c t) (enter m c t) (ix3 p j z) = fin (argsOf m c) (ix3 p j (chainAt t z)) := by
  rw [sBlk_at, rowAt_row m c t p z _ (enter_row m c t.val t.isLt p z) 32 (le_refl _), h]
  rfl

/-! ## The arrays -/

theorem arr_y (c : Dev nD) : (dats m 0 c).arrAt 7 (cfgs 0).N = outs (argsOf m c) := by
  refine (dats m 0 c).arrAt_eq_of_covers 7 _ (by decide +kernel) fun t hf y => ?_
  obtain ⟨a, p, z, rfl⟩ : ∃ (a : Fin 32) (p : Fin 64) (z : Fin 128), y = ix3 a p z := ⟨y 0, y 1, y 2, eq_ix3 y⟩
  blk_simp
  refine (yBlk_at m c t a p z).trans (congrArg (outs (argsOf m c)) ?_)
  blk_ext [idx7 t] <;> rfl

theorem arr_s (c : Dev nD) : (dats m 0 c).arrAt 8 (cfgs 0).N = fin (argsOf m c) := by
  refine (dats m 0 c).arrAt_eq_of_covers 8 _ (by decide +kernel) fun t hf y => ?_
  have h7 : t.val % 8 = 7 := by have := flush8 t; exact beq_iff_eq.mp (this.symm.trans hf)
  obtain ⟨p, j, z, rfl⟩ : ∃ (p j : Fin 64) (z : Fin 128), y = ix3 p j z := ⟨y 0, y 1, y 2, eq_ix3 y⟩
  blk_simp
  refine (sBlk_end m c t h7 p j z).trans (congrArg (fin (argsOf m c)) ?_)
  blk_ext [idx8 t] <;> rfl

end Cert.KernelIdeal.Scan

end
-- ==== Proof.ScanRefRun.lean ====
module

public import proofs.«01_k».proof.Proof.Gen.ReferenceIdeal.Run
public import proofs.«01_k».proof.Proof.Gen.ReferenceIdeal.Step

/-!
The reference's run over the step of its loop. It follows the generated module of the same content, whose one lemma on the
output array (`step_8`) is closed here by its value lemma directly: every value of a trip is the step's, so a trip carries
a state to the next, and the results are fields of the last state.
-/

@[expose] public section

noncomputable section

namespace Cert.ReferenceIdeal.ScanRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v8_7) = s.main_v8_7
  f_8 : V0 (Proc.devRef .tc main_v8_8) = s.main_v8_8
  f_0 : V0 (Proc.devRef .tc main_v8_0) = s.main_v8_0
  f_1 : V0 (Proc.devRef .tc main_v8_1) = s.main_v8_1
  f_2 : V0 (Proc.devRef .tc main_v8_2) = s.main_v8_2
  f_3 : V0 (Proc.devRef .tc main_v8_3) = s.main_v8_3
  f_4 : V0 (Proc.devRef .tc main_v8_4) = s.main_v8_4
  f_5 : V0 (Proc.devRef .tc main_v8_5) = s.main_v8_5
  n_6 : V0 (Proc.devRef .tc main_v8_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x512x64 (V0 (Proc.devRef .tc main_v8_0)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_6]
  try rfl
set_option maxRecDepth 8192 in
theorem al_3 (h : Holds V0 s j) : (shapeCast S512x64 (Host.dynamicSlice S1x512x64 (V0 (Proc.devRef .tc main_v8_0)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64 : (Proc.devRef .tc main_while0b_v11 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x512x64 (V0 (Proc.devRef .tc main_v8_1)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64 : (Proc.devRef .tc main_while0b_call1_v0 : DevRef τ sig).ty.Contents (Elt F)) = Cert.ReferenceIdeal.Step.b6 j s := by
  unfold Cert.ReferenceIdeal.Step.b6
  rw [← al_4 h, ← al_5 h, h.f_1, h.n_6]
  try rfl
set_option maxRecDepth 8192 in
theorem al_7 (h : Holds V0 s j) : (shapeCast S512x64 (Host.dynamicSlice S1x512x64 (V0 (Proc.devRef .tc main_v8_1)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64 : (Proc.devRef .tc main_while0b_v12 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call2_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x512x64 (V0 (Proc.devRef .tc main_v8_2)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64 : (Proc.devRef .tc main_while0b_call2_v0 : DevRef τ sig).ty.Contents (Elt F)) = Cert.ReferenceIdeal.Step.b10 j s := by
  unfold Cert.ReferenceIdeal.Step.b10
  rw [← al_8 h, ← al_9 h, h.f_2, h.n_6]
  try rfl
set_option maxRecDepth 8192 in
theorem al_11 (h : Holds V0 s j) : (shapeCast S512x64 (Host.dynamicSlice S1x512x64 (V0 (Proc.devRef .tc main_v8_2)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64 : (Proc.devRef .tc main_while0b_v13 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x512x64 (V0 (Proc.devRef .tc main_v8_3)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64 : (Proc.devRef .tc main_while0b_call3_v0 : DevRef τ sig).ty.Contents (Elt F)) = Cert.ReferenceIdeal.Step.b14 j s := by
  unfold Cert.ReferenceIdeal.Step.b14
  rw [← al_12 h, ← al_13 h, h.f_3, h.n_6]
  try rfl
set_option maxRecDepth 8192 in
theorem al_15 (h : Holds V0 s j) : (shapeCast S512x64 (Host.dynamicSlice S1x512x64 (V0 (Proc.devRef .tc main_v8_3)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64 : (Proc.devRef .tc main_while0b_v14 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call4_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call4_c_0 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64 : (Proc.devRef .tc main_while0b_call4_v0 : DevRef τ sig).ty.Contents (Elt F)) = Cert.ReferenceIdeal.Step.b18 j s := by
  unfold Cert.ReferenceIdeal.Step.b18
  rw [← al_16 h, ← al_17 h, h.f_4, h.n_6]
  try rfl
set_option maxRecDepth 8192 in
theorem al_19 (h : Holds V0 s j) : (shapeCast S512x64 (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64 : (Proc.devRef .tc main_while0b_v15 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call5_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_0 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x512x64 (V0 (Proc.devRef .tc main_v8_5)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64 : (Proc.devRef .tc main_while0b_call5_v0 : DevRef τ sig).ty.Contents (Elt F)) = Cert.ReferenceIdeal.Step.b22 j s := by
  unfold Cert.ReferenceIdeal.Step.b22
  rw [← al_20 h, ← al_21 h, h.f_5, h.n_6]
  try rfl
set_option maxRecDepth 8192 in
theorem al_23 (h : Holds V0 s j) : (shapeCast S512x64 (Host.dynamicSlice S1x512x64 (V0 (Proc.devRef .tc main_v8_5)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64 : (Proc.devRef .tc main_while0b_v16 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (Host.dotGeneral dot_S512x64x64_S512x64_S512x64_2_1_1_n_0_0 none (V0 (Proc.devRef .tc main_v8_7)) (shapeCast S512x64 (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64) : (Proc.devRef .tc main_while0b_v17 : DevRef τ sig).ty.Contents (Elt F)) = Cert.ReferenceIdeal.Step.b24 j s := by
  unfold Cert.ReferenceIdeal.Step.b24
  rw [← al_19 h, h.f_7]
  try rfl
set_option maxRecDepth 8192 in
theorem al_25 (h : Holds V0 s j) : (broadcastInDim S512x1x64 ![0, 2] bcast_S512x64_S512x1x64_0_2 (shapeCast S512x64 (Host.dynamicSlice S1x512x64 (V0 (Proc.devRef .tc main_v8_1)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64) : (Proc.devRef .tc main_while0b_v18 : DevRef τ sig).ty.Contents (Elt F)) = Cert.ReferenceIdeal.Step.b25 j s := by
  unfold Cert.ReferenceIdeal.Step.b25
  rw [← al_7 h]
  try rfl
set_option maxRecDepth 8192 in
theorem al_26 (h : Holds V0 s j) : (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_1)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)) : (Proc.devRef .tc main_while0b_v19 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (mulf (V0 (Proc.devRef .tc main_v8_7)) (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_1)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) : (Proc.devRef .tc main_while0b_v20 : DevRef τ sig).ty.Contents (Elt F)) = Cert.ReferenceIdeal.Step.b27 j s := by
  unfold Cert.ReferenceIdeal.Step.b27
  rw [← al_26 h, h.f_7]
  try rfl
set_option maxRecDepth 8192 in
theorem al_28 (h : Holds V0 s j) : (broadcastInDim S512x64x1 ![0, 1] bcast_S512x64_S512x64x1_0_1 (Host.dotGeneral dot_S512x64x64_S512x64_S512x64_2_1_1_n_0_0 none (V0 (Proc.devRef .tc main_v8_7)) (shapeCast S512x64 (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)) : (Proc.devRef .tc main_while0b_v21 : DevRef τ sig).ty.Contents (Elt F)) = Cert.ReferenceIdeal.Step.b28 j s := by
  unfold Cert.ReferenceIdeal.Step.b28
  rw [← al_24 h]
  try rfl
set_option maxRecDepth 8192 in
theorem al_29 (h : Holds V0 s j) : (broadcastInDim S512x1x64 ![0, 2] bcast_S512x64_S512x1x64_0_2 (shapeCast S512x64 (Host.dynamicSlice S1x512x64 (V0 (Proc.devRef .tc main_v8_5)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64) : (Proc.devRef .tc main_while0b_v22 : DevRef τ sig).ty.Contents (Elt F)) = Cert.ReferenceIdeal.Step.b29 j s := by
  unfold Cert.ReferenceIdeal.Step.b29
  rw [← al_23 h]
  try rfl
set_option maxRecDepth 8192 in
theorem al_30 (h : Holds V0 s j) : (broadcastInDim S512x64x64 ![0, 1, 2] bcast_S512x64x1_S512x64x64_0_1_2 (broadcastInDim S512x64x1 ![0, 1] bcast_S512x64_S512x64x1_0_1 (Host.dotGeneral dot_S512x64x64_S512x64_S512x64_2_1_1_n_0_0 none (V0 (Proc.devRef .tc main_v8_7)) (shapeCast S512x64 (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) : (Proc.devRef .tc main_while0b_v23 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_5)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)) : (Proc.devRef .tc main_while0b_v24 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (mulf (broadcastInDim S512x64x64 ![0, 1, 2] bcast_S512x64x1_S512x64x64_0_1_2 (broadcastInDim S512x64x1 ![0, 1] bcast_S512x64_S512x64x1_0_1 (Host.dotGeneral dot_S512x64x64_S512x64_S512x64_2_1_1_n_0_0 none (V0 (Proc.devRef .tc main_v8_7)) (shapeCast S512x64 (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)))) (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_5)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) : (Proc.devRef .tc main_while0b_v25 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (subf (mulf (V0 (Proc.devRef .tc main_v8_7)) (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_1)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)))) (mulf (broadcastInDim S512x64x64 ![0, 1, 2] bcast_S512x64x1_S512x64x64_0_1_2 (broadcastInDim S512x64x1 ![0, 1] bcast_S512x64_S512x64x1_0_1 (Host.dotGeneral dot_S512x64x64_S512x64_S512x64_2_1_1_n_0_0 none (V0 (Proc.devRef .tc main_v8_7)) (shapeCast S512x64 (Host.dynamicSlice S1x512x64 (V0 (Proc.devRef .tc main_v8_4)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)))) (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_5)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)))) : (Proc.devRef .tc main_while0b_v26 : DevRef τ sig).ty.Contents (Elt F)) = Cert.ReferenceIdeal.Step.b33 j s := by
  unfold Cert.ReferenceIdeal.Step.b33
  rw [← al_27 h, ← al_32 h]
  try rfl
set_option maxRecDepth 8192 in
theorem al_34 (h : Holds V0 s j) : (broadcastInDim S512x64x1 ![0, 1] bcast_S512x64_S512x64x1_0_1 (shapeCast S512x64 (Host.dynamicSlice S1x512x64 (V0 (Proc.devRef .tc main_v8_3)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64) : (Proc.devRef .tc main_while0b_v27 : DevRef τ sig).ty.Contents (Elt F)) = Cert.ReferenceIdeal.Step.b34 j s := by
  unfold Cert.ReferenceIdeal.Step.b34
  rw [← al_15 h]
  try rfl
set_option maxRecDepth 8192 in
theorem al_35 (h : Holds V0 s j) : (broadcastInDim S512x1x64 ![0, 2] bcast_S512x64_S512x1x64_0_2 (shapeCast S512x64 (Host.dynamicSlice S1x512x64 (V0 (Proc.devRef .tc main_v8_2)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64) : (Proc.devRef .tc main_while0b_v28 : DevRef τ sig).ty.Contents (Elt F)) = Cert.ReferenceIdeal.Step.b35 j s := by
  unfold Cert.ReferenceIdeal.Step.b35
  rw [← al_11 h]
  try rfl
set_option maxRecDepth 8192 in
theorem al_36 (h : Holds V0 s j) : (broadcastInDim S512x64x64 ![0, 1, 2] bcast_S512x64x1_S512x64x64_0_1_2 (broadcastInDim S512x64x1 ![0, 1] bcast_S512x64_S512x64x1_0_1 (shapeCast S512x64 (Host.dynamicSlice S1x512x64 (V0 (Proc.devRef .tc main_v8_3)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)) : (Proc.devRef .tc main_while0b_v29 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_2)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)) : (Proc.devRef .tc main_while0b_v30 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (mulf (broadcastInDim S512x64x64 ![0, 1, 2] bcast_S512x64x1_S512x64x64_0_1_2 (broadcastInDim S512x64x1 ![0, 1] bcast_S512x64_S512x64x1_0_1 (shapeCast S512x64 (Host.dynamicSlice S1x512x64 (V0 (Proc.devRef .tc main_v8_3)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) (broadcastInDim S512x64x64 ![0, 1, 2] bcast_S512x1x64_S512x64x64_0_1_2 (broadcastInDim S512x1x64 ![0, 2] bcast_S512x64_S512x1x64_0_2 (shapeCast S512x64 (Host.dynamicSlice S1x512x64 (V0 (Proc.devRef .tc main_v8_2)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) : (Proc.devRef .tc main_while0b_v31 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (res_main_while0b_v32 V0 : (Proc.devRef .tc main_while0b_v32 : DevRef τ sig).ty.Contents (Elt F)) = Cert.ReferenceIdeal.Step.b39 j s := by
  unfold res_main_while0b_v32 Cert.ReferenceIdeal.Step.b39
  rw [← al_33 h, ← al_38 h]
  try rfl
set_option maxRecDepth 8192 in
theorem al_40 (h : Holds V0 s j) : (Host.dotGeneral dot_S512x64x64_S512x64_S512x64_2_1_1_n_0_0 none (res_main_while0b_v32 V0) (shapeCast S512x64 (Host.dynamicSlice S1x512x64 (V0 (Proc.devRef .tc main_v8_0)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64) : (Proc.devRef .tc main_while0b_v33 : DevRef τ sig).ty.Contents (Elt F)) = Cert.ReferenceIdeal.Step.b40 j s := by
  unfold Cert.ReferenceIdeal.Step.b40
  rw [← al_39 h, ← al_3 h]
  try rfl
set_option maxRecDepth 8192 in
theorem al_41 (h : Holds V0 s j) : (broadcastInDim S1x512x64 ![1, 2] bcast_S512x64_S1x512x64_1_2 (Host.dotGeneral dot_S512x64x64_S512x64_S512x64_2_1_1_n_0_0 none (res_main_while0b_v32 V0) (shapeCast S512x64 (Host.dynamicSlice S1x512x64 (V0 (Proc.devRef .tc main_v8_0)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64)) : (Proc.devRef .tc main_while0b_call6_v0 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (constantI S_ 32 0#32 : (Proc.devRef .tc main_while0b_call6_c : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call6_c_0 : DevRef τ sig).ty.Contents (Elt F)) = Cert.ReferenceIdeal.Step.b43 j s := by
  unfold Cert.ReferenceIdeal.Step.b43
  rfl
set_option maxRecDepth 8192 in
theorem al_44 (h : Holds V0 s j) : (Host.dynamicUpdateSlice (V0 (Proc.devRef .tc main_v8_8)) (broadcastInDim S1x512x64 ![1, 2] bcast_S512x64_S1x512x64_1_2 (Host.dotGeneral dot_S512x64x64_S512x64_S512x64_2_1_1_n_0_0 none (res_main_while0b_v32 V0) (shapeCast S512x64 (Host.dynamicSlice S1x512x64 (V0 (Proc.devRef .tc main_v8_0)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) (fun k => (((![V0 (Proc.devRef .tc main_v8_6), constantI S_ 32 0#32, constantI S_ 32 0#32] : Fin 3 → (⟨S_, .i32⟩ : BufTy).Contents (Elt F))) k (Shape.Idx.first h_S_)).toInt) updateFits_S256x512x64_S1x512x64 : (Proc.devRef .tc main_while0b_v34 : DevRef τ sig).ty.Contents (Elt F)) = Cert.ReferenceIdeal.Step.b44 j s := by
  unfold Cert.ReferenceIdeal.Step.b44
  rw [← al_41 h, ← al_42 h, ← al_43 h, h.f_8, h.n_6]
  try rfl

/-! One trip's step of the carried values is `step`, field by field; a counter steps to the next number. -/

theorem step_7 (h : Holds V0 s j) : step_main_v8_7 V0 = (step j s).main_v8_7 := by
  unfold step_main_v8_7 Cert.ReferenceIdeal.Step.step
  show id (res_main_while0b_v32 V0) = _
  rw [al_39 h]
  try rfl
theorem step_8 (h : Holds V0 s j) : step_main_v8_8 V0 = (step j s).main_v8_8 := by
  unfold step_main_v8_8 Cert.ReferenceIdeal.Step.step
  show id (Host.dynamicUpdateSlice (V0 (Proc.devRef .tc main_v8_8)) (broadcastInDim S1x512x64 ![1, 2] bcast_S512x64_S1x512x64_1_2 (Host.dotGeneral dot_S512x64x64_S512x64_S512x64_2_1_1_n_0_0 none (res_main_while0b_v32 V0) (shapeCast S512x64 (Host.dynamicSlice S1x512x64 (V0 (Proc.devRef .tc main_v8_0)) (fun k => (((![V0 (Proc.devRef .tc main_v8_6), constantI S_ 32 0#32, constantI S_ 32 0#32] : Fin 3 → (⟨S_, .i32⟩ : BufTy).Contents (Elt F))) k (Shape.Idx.first h_S_)).toInt) sliceFits_S256x512x64_S1x512x64) shapeCasts_S1x512x64_S512x64))) (fun k => (((![V0 (Proc.devRef .tc main_v8_6), constantI S_ 32 0#32, constantI S_ 32 0#32] : Fin 3 → (⟨S_, .i32⟩ : BufTy).Contents (Elt F))) k (Shape.Idx.first h_S_)).toInt) updateFits_S256x512x64_S1x512x64) = _
  exact al_44 h
theorem step_6 (h : Holds V0 s j) : step_main_v8_6 V0 = constantI S_ 32 (BitVec.ofNat 32 (j + 1)) := by
  unfold step_main_v8_6
  rw [h.n_6]
  funext i
  show BitVec.ofNat 32 j + 1#32 = BitVec.ofNat 32 (j + 1)
  simp only [BitVec.ofNat_add]

set_option maxRecDepth 8192 in
theorem out_main_v9_holds (h : Holds V0 s j) : out_main_v9 V0 = Cert.ReferenceIdeal.Step.R_main_v9 s := by
  unfold out_main_v9 Cert.ReferenceIdeal.Step.R_main_v9
  rw [h.f_8]
  try rfl

set_option maxRecDepth 8192 in
theorem out_main_v10_holds (h : Holds V0 s j) : out_main_v10 V0 = Cert.ReferenceIdeal.Step.R_main_v10 s := by
  unfold out_main_v10 Cert.ReferenceIdeal.Step.R_main_v10
  rw [h.f_7]
  try rfl

/-- One trip keeps the valuation holding: `step` of the state, the same set-up values, the next number. -/
theorem holds_step (h : Holds V0 s j) : Holds (STEP V0) (step j s) (j + 1) where
  f_7 := (STEP_main_v8_7 V0).trans (step_7 h)
  f_8 := (STEP_main_v8_8 V0).trans (step_8 h)
  n_6 := (STEP_main_v8_6 V0).trans (step_6 h)
  f_0 := (STEP_main_v8_0 V0).trans h.f_0
  f_1 := (STEP_main_v8_1 V0).trans h.f_1
  f_2 := (STEP_main_v8_2 V0).trans h.f_2
  f_3 := (STEP_main_v8_3 V0).trans h.f_3
  f_4 := (STEP_main_v8_4 V0).trans h.f_4
  f_5 := (STEP_main_v8_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v9) = Cert.ReferenceIdeal.Step.R_main_v9 (it c 256)
      ∧ r.2.mem ((c.tc : Thread nD τ).loc main_v10) = Cert.ReferenceIdeal.Step.R_main_v10 (it c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 256
    ⟨(h c).1.trans (out_main_v9_holds hk), (h c).2.1.trans (out_main_v10_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.ScanRun

end
-- ==== Proof.ScanRef.lean ====
module

public import proofs.«01_k».proof.Proof.ScanRefRun
public import proofs.«01_k».proof.Proof.ScanSpec

/-!
What the reference computes over the extended reals: its loop's states are the recurrence's rows and outputs.
-/

@[expose] public section

set_option maxRecDepth 16384

noncomputable section

namespace Cert.ReferenceIdeal.Scan

open Cert.ReferenceIdeal Cert.ReferenceIdeal.Gen Cert.ReferenceIdeal.Step Cert.ScanSpec
open Idealize.ShloMosaic Idealize.ShloMosaic.TcCoe

/-- The recurrence's arguments, as the reference's arrays hold them. -/
def argsOf (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5), m ((c.tc : Thread nD τ).loc main_arg6)⟩

/-- The loop's states. -/
def states (A : Args) : ℕ → State Ideal
  | 0 => init A.r A.w A.k A.v A.kk A.b A.s0
  | n + 1 => step n (states A n)

theorem keep0 (A : Args) (n : ℕ) : (states A n).main_v8_0 = A_main_v0 A.r A.w A.k A.v A.kk A.b A.s0 := by
  induction n with | zero => rfl | succ n ih => exact ih
theorem keep1 (A : Args) (n : ℕ) : (states A n).main_v8_1 = A_main_v1 A.r A.w A.k A.v A.kk A.b A.s0 := by
  induction n with | zero => rfl | succ n ih => exact ih
theorem keep2 (A : Args) (n : ℕ) : (states A n).main_v8_2 = A_main_v2 A.r A.w A.k A.v A.kk A.b A.s0 := by
  induction n with | zero => rfl | succ n ih => exact ih
theorem keep3 (A : Args) (n : ℕ) : (states A n).main_v8_3 = A_main_v3 A.r A.w A.k A.v A.kk A.b A.s0 := by
  induction n with | zero => rfl | succ n ih => exact ih
theorem keep4 (A : Args) (n : ℕ) : (states A n).main_v8_4 = A_main_v4 A.r A.w A.k A.v A.kk A.b A.s0 := by
  induction n with | zero => rfl | succ n ih => exact ih
theorem keep5 (A : Args) (n : ℕ) : (states A n).main_v8_5 = A_main_v5 A.r A.w A.k A.v A.kk A.b A.s0 := by
  induction n with | zero => rfl | succ n ih => exact ih

/-- The start indices of step `n`'s slices: its own number, and 0 on the other axes. -/
def at_ (n : ℕ) : Fin 3 → ℤ := fun k => (((![(constantI S_ 32 (BitVec.ofNat 32 n) : (⟨S_, .i32⟩ : BufTy).Contents (Elt Ideal)), constantI S_ 32 0#32, constantI S_ 32 0#32] : Fin 3 → (⟨S_, .i32⟩ : BufTy).Contents (Elt Ideal))) k (Shape.Idx.first h_S_)).toInt

theorem start0 : ∀ n : Fin 256, Host.clampedStart S256x512x64 S1x512x64 rfl (at_ n.val) 0 = n.val := by decide +kernel
theorem start1 : ∀ n : Fin 256, Host.clampedStart S256x512x64 S1x512x64 rfl (at_ n.val) 1 = 0 := by decide +kernel
theorem start2 : ∀ n : Fin 256, Host.clampedStart S256x512x64 S1x512x64 rfl (at_ n.val) 2 = 0 := by decide +kernel

/-- A step's slice of an argument. -/
theorem slice_at (X : (⟨S256x512x64, .f32⟩ : BufTy).Contents (Elt Ideal)) (n : Fin 256) (z : Fin 512) (j : Fin 64) :
    (shapeCast S512x64 (Host.dynamicSlice S1x512x64 X (at_ n.val) sliceFits_S256x512x64_S1x512x64) shapeCasts_S1x512x64_S512x64 : (⟨S512x64, .f32⟩ : BufTy).Contents (Elt Ideal)) (ix2 z j) = X (ix3 n z j) := by
  pointwise
  have e : ∀ (a b c : ℕ) (ha : a < 256) (hb : b < 512) (hc : c < 64), a = n.val → b = z.val → c = j.val →
      X (ix3 ⟨a, ha⟩ ⟨b, hb⟩ ⟨c, hc⟩) = X (ix3 n z j) := by
    rintro _ _ _ _ _ _ rfl rfl rfl; rfl
  refine e _ _ _ _ _ _ ?_ ?_ ?_
  · first | exact start0 n | exact congrArg (· + 0) (start0 n)
  · exact (congrArg (· + z.val) (start1 n)).trans (Nat.zero_add _)
  · exact (congrArg (· + j.val) (start2 n)).trans (Nat.zero_add _)

theorem b3_at (A : Args) (n : Fin 256) (z : Fin 512) (j : Fin 64) : b3 n.val (states A n.val) (ix2 z j) = A.r (ix3 n j z) := by
  unfold b3 b2 b1 b0
  refine (slice_at _ n z j).trans ?_
  rw [keep0]
  pointwise [A_main_v0]
theorem b7_at (A : Args) (n : Fin 256) (z : Fin 512) (j : Fin 64) : b7 n.val (states A n.val) (ix2 z j) = A.w (ix3 n j z) := by
  unfold b7 b6 b5 b4
  refine (slice_at _ n z j).trans ?_
  rw [keep1]
  pointwise [A_main_v1]
theorem b11_at (A : Args) (n : Fin 256) (z : Fin 512) (j : Fin 64) : b11 n.val (states A n.val) (ix2 z j) = A.k (ix3 n j z) := by
  unfold b11 b10 b9 b8
  refine (slice_at _ n z j).trans ?_
  rw [keep2]
  pointwise [A_main_v2]
theorem b15_at (A : Args) (n : Fin 256) (z : Fin 512) (j : Fin 64) : b15 n.val (states A n.val) (ix2 z j) = A.v (ix3 n j z) := by
  unfold b15 b14 b13 b12
  refine (slice_at _ n z j).trans ?_
  rw [keep3]
  pointwise [A_main_v3]
theorem b19_at (A : Args) (n : Fin 256) (z : Fin 512) (j : Fin 64) : b19 n.val (states A n.val) (ix2 z j) = A.kk (ix3 n j z) := by
  unfold b19 b18 b17 b16
  refine (slice_at _ n z j).trans ?_
  rw [keep4]
  pointwise [A_main_v4]
theorem b23_at (A : Args) (n : Fin 256) (z : Fin 512) (j : Fin 64) : b23 n.val (states A n.val) (ix2 z j) = A.b (ix3 n j z) := by
  unfold b23 b22 b21 b20
  refine (slice_at _ n z j).trans ?_
  rw [keep5]
  pointwise [A_main_v5]

/-- The loop's states hold the recurrence's rows. -/
theorem states_row (A : Args) (p : Fin 64) (z : Fin 512) (n : ℕ) (hn : n ≤ 256) :
    (fun j : Fin 64 => (states A n).main_v8_7 (ix3 z p j)) = row A p z n := by
  induction n with
  | zero =>
    funext j
    have e : A_main_v6 (F := Ideal) A.r A.w A.k A.v A.kk A.b A.s0 (ix3 z p j) = A.s0 (ix3 p j z) := by
      unfold A_main_v6
      pointwise
    exact e
  | succ n ih =>
    have e := ih (Nat.le_of_lt hn)
    funext j
    show b39 n (states A n) (ix3 z p j) = _
    rw [row_succ A p z ⟨n, hn⟩, ← e]
    unfold stepE
    have h := fun (z : Fin 512) (j : Fin 64) => b7_at A ⟨n, hn⟩ z j
    simp only [← b7_at A ⟨n, hn⟩, ← b11_at A ⟨n, hn⟩, ← b15_at A ⟨n, hn⟩, ← b19_at A ⟨n, hn⟩, ← b23_at A ⟨n, hn⟩]
    pointwise [b39, b33, b38, b27, b32, b26, b25, b30, b28, b24, b31, b29, b36, b34, b37, b35]

/-- The output array after `n` steps: the recurrence's outputs of those steps. -/
theorem states_out (A : Args) (t : Fin 256) (z : Fin 512) (p : Fin 64) (n : ℕ) (hn : n ≤ 256) (ht : t.val < n) :
    (states A n).main_v8_8 (ix3 t z p) = out A t p z := by
  induction n with
  | zero => exact absurd ht (Nat.not_lt_zero _)
  | succ n ih =>
    show b44 n (states A n) (ix3 t z p) = _
    have e := ih (Nat.le_of_lt hn)
    unfold b44 b43 b42
    have key : ∀ U : (⟨S1x512x64, .f32⟩ : BufTy).Contents (Elt Ideal),
        (Host.dynamicUpdateSlice (states A n).main_v8_8 U (at_ n) updateFits_S256x512x64_S1x512x64 : (⟨S256x512x64, .f32⟩ : BufTy).Contents (Elt Ideal)) (ix3 t z p)
          = if t.val = n then U (ix3 0 z p) else (states A n).main_v8_8 (ix3 t z p) := by
      intro U
      pointwise
      have e0 := start0 ⟨n, hn⟩
      have e1 := start1 ⟨n, hn⟩
      have e2 := start2 ⟨n, hn⟩
      dsimp only at e0 e1 e2
      by_cases h : t.val = n
      · rw [if_pos h, dif_pos ⟨⟨by omega, by omega⟩, by omega, by omega⟩]
        have e : ∀ (a b c : ℕ) (ha : a < 1) (hb : b < 512) (hc : c < 64), b = z.val → c = p.val →
            U (ix3 ⟨a, ha⟩ ⟨b, hb⟩ ⟨c, hc⟩) = U (ix3 0 z p) := by
          rintro a _ _ ha _ _ rfl rfl
          obtain rfl : a = 0 := by omega
          rfl
        exact e _ _ _ _ _ _ (by omega) (by omega)
      · rw [if_neg h, dif_neg]
        omega
    refine (key _).trans ?_
    by_cases h : t.val = n
    · rw [if_pos h]
      unfold out
      have hr := states_row A p z (n + 1) hn
      subst h
      rw [← hr]
      simp only [← b3_at A t]
      pointwise [b41, b40]
      rfl
    · rw [if_neg h]
      exact e (by omega)

theorem result_y (A : Args) : R_main_v9 (states A 256) = outs A := by
  funext y
  obtain ⟨t, p, z, rfl⟩ : ∃ (t : Fin 256) (p : Fin 64) (z : Fin 512), y = ix3 t p z := ⟨y 0, y 1, y 2, eq_ix3 y⟩
  refine Eq.trans ?_ (states_out A t z p 256 (le_refl _) t.isLt)
  pointwise [R_main_v9]

theorem result_s (A : Args) : R_main_v10 (states A 256) = fin A := by
  funext y
  obtain ⟨p, j, z, rfl⟩ : ∃ (p j : Fin 64) (z : Fin 512), y = ix3 p j z := ⟨y 0, y 1, y 2, eq_ix3 y⟩
  refine Eq.trans ?_ (congrFun (states_row A p z 256 (le_refl _)) j)
  pointwise [R_main_v10]

end Cert.ReferenceIdeal.Scan

end
-- ==== Proof.ScanClaims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ScanDatK
public import proofs.«01_k».proof.Proof.ScanVal
public import proofs.«01_k».proof.Proof.ScanRef
public import Idealize.ShloMosaic.Lib.Quiescent

/-!
The claims about the recurrence: both kernels and the reference run and leave everything else as it was, and over the
extended reals the kernel's outputs and final states are the reference's.
-/

@[expose] public section

noncomputable section

namespace Cert.ScanClaims

open Idealize.ShloMosaic Idealize.ShloMosaic.TcCoe Idealize.SL.Sem

theorem kernel_runs : Cert.quiescent_Kernel (hKernel := Cert.Kernel.Gen.facts) := fun m ρ _ =>
  (θ_run Cert.Kernel.defs _ _).mono (fun _ h => ⟨fun c => Cert.Kernel.Scan.kept m h.1 c, h.2⟩) (Cert.Kernel.Scan.run_main m ρ)

theorem ideal_runs : Cert.quiescent_KernelIdeal (hKernelIdeal := Cert.KernelIdeal.Gen.facts) := fun m ρ _ =>
  (θ_run Cert.KernelIdeal.defs _ _).mono (fun _ h => ⟨fun c => Cert.KernelIdeal.Scan.kept m h.1 c, h.2⟩) (Cert.KernelIdeal.Scan.run_main m ρ)

theorem reference_runs : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run (F := Ideal) m ρ)

open Cert.ScanSpec in
/-- The kernel computes the recurrence. -/
theorem values : Cert.algebraic_KernelIdeal_ReferenceIdeal (hKernelIdeal := Cert.KernelIdeal.Gen.facts) (hReferenceIdeal := Cert.ReferenceIdeal.Gen.facts) := by
  intro m ρ m' ρ' _ hin
  have hA : ∀ c, Cert.ReferenceIdeal.Scan.argsOf m' c = Cert.KernelIdeal.Scan.argsOf m c := by
    intro c
    obtain ⟨h0, h1, h2, h3, h4, h5, h6⟩ := hin c
    unfold Cert.KernelIdeal.Scan.argsOf Cert.ReferenceIdeal.Scan.argsOf
    rw [h0, h1, h2, h3, h4, h5, h6]
  refine ⟨fun c => outs (Cert.KernelIdeal.Scan.argsOf m c), fun c => Cert.ScanSpec.fin (Cert.KernelIdeal.Scan.argsOf m c), ?_, ?_⟩
  · exact (θ_run Cert.KernelIdeal.defs _ _).mono (fun _ h c =>
      ⟨((h.1 c).1 7).trans (Cert.KernelIdeal.Scan.arr_y m c), ((h.1 c).1 8).trans (Cert.KernelIdeal.Scan.arr_s m c), Cert.KernelIdeal.Scan.kept m h.1 c⟩)
      (Cert.KernelIdeal.Scan.run_main m ρ)
  · exact (θ_run Cert.ReferenceIdeal.defs _ _).mono (fun _ h c =>
      ⟨(h c).1.trans (Cert.ReferenceIdeal.Scan.result_y _), (h c).2.1.trans (Cert.ReferenceIdeal.Scan.result_s _), (h c).2.2⟩)
      (Cert.ReferenceIdeal.ScanRun.run_iter (F := Ideal) m' ρ' (fun c => Cert.ReferenceIdeal.Scan.states (Cert.KernelIdeal.Scan.argsOf m c))
        (fun c => by rw [← hA c]; rfl) (fun c n => rfl))

end Cert.ScanClaims

end
-- ==== Proof.MoeRoute.lean ====
module

public import Idealize.ShloMosaic.Lib.Pointwise
public import Idealize.ShloMosaic.Lib.SortFacts
public import Idealize.ShloMosaic.Lib.SortPrefix
public import Idealize.ShloMosaic.PureOps.Ideal.Laws

/-!
The router's mathematics over the extended reals, apart from any program: the softmax over eight experts, the two
experts of greatest probability (ties to the lower index), their renormalised weights; that the same weights come out of
a row of 128 lanes whose lanes past the eighth are −∞; and that a stable sort finds the same two experts.
-/

@[expose] public section

noncomputable section

namespace Cert.MoeSpec

open Idealize.ShloMosaic

/-- The greatest entry of a row, from −∞. -/
def top {n : ℕ} (p : Fin n → EReal) : EReal := Finset.univ.fold max ⊥ p

theorem le_top {n : ℕ} (p : Fin n → EReal) (i : Fin n) : p i ≤ top p :=
  (Finset.le_fold_max _).mpr (.inr ⟨i, Finset.mem_univ i, le_rfl⟩)

theorem top_le {n : ℕ} (p : Fin n → EReal) (c : EReal) (h : ∀ i, p i ≤ c) : top p ≤ c :=
  (Finset.fold_max_le _).mpr ⟨bot_le, fun i _ => h i⟩

theorem top_eq {n : ℕ} (p : Fin n → EReal) (i : Fin n) (h : ∀ j, p j ≤ p i) : top p = p i :=
  le_antisymm (top_le p _ h) (le_top p i)

/-- The softmax of a row of logits. -/
def soft {n : ℕ} (l : Fin n → EReal) (e : Fin n) : EReal :=
  Ideal.div (Ideal.exp (l e - top l)) (∑ i, Ideal.exp (l i - top l))

/-- `a` is the first greatest entry of `p`, and `b` the first greatest among the others. -/
structure IsTop {n : ℕ} (p : Fin n → EReal) (a b : Fin n) : Prop where
  le_a : ∀ j, p j ≤ p a
  lt_a : ∀ j, j < a → p j < p a
  ne : b ≠ a
  le_b : ∀ j, j ≠ a → p j ≤ p b
  lt_b : ∀ j, j < b → j ≠ a → p j < p b

/-- Among the positions of a non-empty set there is a first greatest entry. -/
theorem exists_first {n : ℕ} (p : Fin n → EReal) (s : Finset (Fin n)) (hs : s.Nonempty) :
    ∃ a ∈ s, (∀ j ∈ s, p j ≤ p a) ∧ ∀ j ∈ s, j < a → p j < p a := by
  obtain ⟨m, hm, hmax⟩ := s.exists_max_image p hs
  have hne : (s.filter fun j => p j = p m).Nonempty := ⟨m, by simp [hm]⟩
  refine ⟨(s.filter fun j => p j = p m).min' hne, ?_⟩
  have hmem := Finset.min'_mem _ hne
  rw [Finset.mem_filter] at hmem
  refine ⟨hmem.1, fun j hj => hmem.2.symm.le.trans' (hmax j hj), fun j hj hlt => ?_⟩
  refine lt_of_le_of_ne (hmem.2.symm.le.trans' (hmax j hj)) fun he => ?_
  exact absurd (Finset.min'_le _ j (Finset.mem_filter.mpr ⟨hj, he.trans hmem.2⟩)) (not_le.mpr hlt)

theorem exists_isTop (p : Fin 8 → EReal) : ∃ ab : Fin 8 × Fin 8, IsTop p ab.1 ab.2 := by
  obtain ⟨a, _, ha, ha'⟩ := exists_first p Finset.univ ⟨0, Finset.mem_univ _⟩
  have hne : (Finset.univ.erase a).Nonempty := by
    rw [← Finset.card_pos, Finset.card_erase_of_mem (Finset.mem_univ a)]; decide
  obtain ⟨b, hb, hb1, hb2⟩ := exists_first p (Finset.univ.erase a) hne
  exact ⟨(a, b), fun j => ha j (Finset.mem_univ j), fun j => ha' j (Finset.mem_univ j), Finset.ne_of_mem_erase hb,
    fun j hj => hb1 j (Finset.mem_erase.mpr ⟨hj, Finset.mem_univ j⟩),
    fun j hlt hj => hb2 j (Finset.mem_erase.mpr ⟨hj, Finset.mem_univ j⟩) hlt⟩

/-- The two chosen experts. -/
def pick (p : Fin 8 → EReal) : Fin 8 × Fin 8 := Classical.choose (exists_isTop p)

theorem pick_spec (p : Fin 8 → EReal) : IsTop p (pick p).1 (pick p).2 := Classical.choose_spec (exists_isTop p)

/-- The weight of expert `e`: a chosen expert's probability over the two chosen experts' sum, zero for the others. -/
def weight (p : Fin 8 → EReal) (e : Fin 8) : EReal :=
  (if e = (pick p).1 then Ideal.div (p (pick p).1) (p (pick p).1 + p (pick p).2) else 0)
    + if e = (pick p).2 then Ideal.div (p (pick p).2) (p (pick p).1 + p (pick p).2) else 0

/-! ### The row of 128 lanes -/

/-- Eight logits in the first lanes of a row, −∞ past them. -/
def wide (l : Fin 8 → EReal) (x : Fin 128) : EReal := if h : x.val < 8 then l ⟨x.val, h⟩ else ⊥

/-- An expert's lane. -/
def lane (e : Fin 8) : Fin 128 := ⟨e.val, by omega⟩

theorem wide_lane (l : Fin 8 → EReal) (e : Fin 8) : wide l (lane e) = l e := by
  unfold wide lane; rw [dif_pos e.isLt]

theorem lane_of_lt {x : Fin 128} (h : x.val < 8) : x = lane ⟨x.val, h⟩ := rfl

theorem top_wide (l : Fin 8 → EReal) : top (wide l) = top l := by
  refine le_antisymm (top_le _ _ fun x => ?_) (top_le _ _ fun e => wide_lane l e ▸ le_top _ _)
  unfold wide; split
  · exact le_top _ _
  · exact bot_le

theorem sum_lanes (f : Fin 128 → EReal) (h : ∀ x, ¬ x.val < 8 → f x = 0) : ∑ x, f x = ∑ e, f (lane e) := by
  rw [show (∑ x, f x) = ∑ x : Fin (8 + 120), f x from rfl, Fin.sum_univ_add]
  rw [Finset.sum_eq_zero (s := Finset.univ) (f := fun i : Fin 120 => f (Fin.natAdd 8 i)) fun i _ => h _ (by simp)]
  rw [add_zero]; rfl

theorem exp_bot : Ideal.exp ⊥ = 0 := rfl

theorem exp_nonneg (x : EReal) : 0 ≤ Ideal.exp x := by
  induction x using EReal.rec with
  | bot => exact le_rfl
  | top => exact _root_.le_top
  | coe r => exact EReal.coe_nonneg.mpr (Real.exp_pos r).le

/-- Past the eighth lane the probability is zero over the same sum; on the first eight it is the experts' softmax. -/
theorem soft_wide (l : Fin 8 → EReal) (x : Fin 128) : soft (wide l) x =
    if h : x.val < 8 then soft l ⟨x.val, h⟩ else Ideal.div 0 (∑ i, Ideal.exp (l i - top l)) := by
  have hs : ∑ i, Ideal.exp (wide l i - top l) = ∑ i, Ideal.exp (l i - top l) := by
    rw [sum_lanes]
    · exact Finset.sum_congr rfl fun e _ => by rw [wide_lane]
    · intro y hy; unfold wide; rw [dif_neg hy, EReal.bot_sub]; rfl
  unfold soft; rw [top_wide, hs]
  split
  · rename_i h; unfold wide; rw [dif_pos h]
  · rename_i h; unfold wide; rw [dif_neg h, EReal.bot_sub]; rfl

/-- The first lane, as a 32-bit word, whose entry is the greatest: 128 where there is none. -/
def firstLane (q : Fin 128 → EReal) (c : EReal) : BitVec 32 :=
  Finset.univ.fold IntOp.minsi 2147483647#32 fun x : Fin 128 => if q x = c then BitVec.ofNat 32 x.val else 128#32

theorem toInt_lane (n : ℕ) (h : n ≤ 128) : (BitVec.ofNat 32 n).toInt = n := by
  rw [BitVec.toInt_eq_toNat_of_lt] <;> rw [BitVec.toNat_ofNat, Nat.mod_eq_of_lt] <;> omega

theorem toInt_minsi' (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

theorem firstLane_eq (q : Fin 128 → EReal) (c : EReal) (n : Fin 128) (hn : q n = c) (hlt : ∀ m, m < n → q m ≠ c) :
    firstLane q c = BitVec.ofNat 32 n.val := by
  apply BitVec.eq_of_toInt_eq
  rw [toInt_lane _ (by omega)]
  refine le_antisymm ?_ ?_
  · have := (Finset.fold_op_rel_iff_or (op := IntOp.minsi (w := 32)) (r := fun a b : BitVec 32 => b.toInt ≤ a.toInt)
      (fun {x y z} => by rw [toInt_minsi', min_le_iff]) (b := 2147483647#32)
      (f := fun x : Fin 128 => if q x = c then BitVec.ofNat 32 x.val else 128#32) (s := Finset.univ)
      (c := BitVec.ofNat 32 n.val)).mpr (.inr ⟨n, Finset.mem_univ n, by simp only [if_pos hn]; exact le_rfl⟩)
    rwa [toInt_lane _ (by omega)] at this
  · have := (Finset.fold_op_rel_iff_and (op := IntOp.minsi (w := 32)) (r := fun a b : BitVec 32 => a.toInt ≤ b.toInt)
      (fun {x y z} => by rw [toInt_minsi', le_min_iff]) (b := 2147483647#32)
      (f := fun x : Fin 128 => if q x = c then BitVec.ofNat 32 x.val else 128#32) (s := Finset.univ)
      (c := BitVec.ofNat 32 n.val)).mpr ⟨by
        rw [toInt_lane _ (by omega), show (2147483647#32).toInt = 2147483647 by decide]; have := n.isLt; omega, fun x _ => by
        rw [toInt_lane _ (by omega)]
        by_cases h : q x = c
        · rw [if_pos h, toInt_lane _ (by omega)]
          have : ¬ x < n := fun hl => hlt x hl h
          have : n.val ≤ x.val := by omega
          exact_mod_cast this
        · rw [if_neg h, show (128#32).toInt = 128 by decide]
          have := n.isLt; omega⟩
    rwa [toInt_lane _ (by omega)] at this

theorem word_eq_iff (x y : Fin 128) : BitVec.ofNat 32 x.val = BitVec.ofNat 32 y.val ↔ x = y := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- The row with the lane numbered `i` overwritten by −1. -/
def rest (q : Fin 128 → EReal) (i : BitVec 32) (x : Fin 128) : EReal := if BitVec.ofNat 32 x.val = i then -1 else q x

/-- The weights of a row of probabilities found by two rounds of "greatest entry, first lane that holds it". -/
def laneWeight (q : Fin 128 → EReal) (x : Fin 128) : EReal :=
  let p1 := top q
  let i1 := firstLane q p1
  let p2 := top (rest q i1)
  let i2 := firstLane (rest q i1) p2
  (if BitVec.ofNat 32 x.val = i1 then Ideal.div p1 (p1 + p2) else 0)
    + if BitVec.ofNat 32 x.val = i2 then Ideal.div p2 (p1 + p2) else 0

theorem div_bot (x : EReal) : Ideal.div x ⊥ = 0 := by
  unfold Ideal.div; rw [if_neg (by decide), EReal.inv_bot, mul_zero]

/-- The two rounds on 128 lanes give the two experts' weights. -/
theorem laneWeight_soft (l : Fin 8 → EReal) (e : Fin 8) :
    laneWeight (soft (wide l)) (lane e) = weight (soft l) e := by
  have hp := pick_spec (soft l)
  obtain ⟨⟨a, b⟩, hab⟩ : ∃ ab, pick (soft l) = ab := ⟨_, rfl⟩
  rw [hab] at hp
  by_cases hS : (∑ i, Ideal.exp (l i - top l)) = 0
  · have h8 : ∀ i, soft l i = ⊥ := fun i => by
      have := (Finset.sum_eq_zero_iff_of_nonneg fun i _ => exp_nonneg _).mp hS i (Finset.mem_univ i)
      unfold soft; rw [hS, this]; unfold Ideal.div; rw [if_pos rfl, if_neg (lt_irrefl _)]
    have h128 : top (soft (wide l)) = ⊥ := le_bot_iff.mp <| top_le _ _ fun x => by
      rw [soft_wide]; split
      · rw [h8]
      · rw [hS]; unfold Ideal.div; rw [if_pos rfl, if_neg (lt_irrefl _)]
    unfold laneWeight weight
    simp only [h128, h8, EReal.bot_add, div_bot, ite_self]
  · have hpos : 0 < ∑ i, Ideal.exp (l i - top l) :=
      lt_of_le_of_ne (Finset.sum_nonneg fun i _ => exp_nonneg _) (Ne.symm hS)
    have hz : Ideal.div 0 (∑ i, Ideal.exp (l i - top l)) = 0 := by unfold Ideal.div; rw [if_neg hS, zero_mul]
    have h0 : ∀ i, 0 ≤ soft l i := fun i => by
      unfold soft Ideal.div; rw [if_neg hS]
      exact mul_nonneg (exp_nonneg _) (EReal.inv_nonneg_of_nonneg hpos.le)
    set q := soft (wide l) with hq
    have hql : ∀ i, q (lane i) = soft l i := fun i => by rw [hq, soft_wide, dif_pos (show (lane i).val < 8 from i.isLt)]; rfl
    have hqo : ∀ x : Fin 128, ¬ x.val < 8 → q x = 0 := fun x h => by rw [hq, soft_wide, dif_neg h, hz]
    have p1 : top q = soft l a := by
      rw [← hql a]; refine top_eq q _ fun x => ?_
      by_cases h : x.val < 8
      · rw [lane_of_lt h, hql, hql]; exact hp.le_a _
      · rw [hqo x h, hql]; exact h0 a
    have i1 : firstLane q (soft l a) = BitVec.ofNat 32 (lane a).val := firstLane_eq _ _ _ (hql a) fun m hm => by
      have h : m.val < 8 := lt_trans hm a.isLt
      rw [lane_of_lt h, hql]; exact (hp.lt_a _ hm).ne
    have hr : ∀ x, rest q (BitVec.ofNat 32 (lane a).val) x = if x = lane a then -1 else q x := fun x => by
      unfold rest; simp only [word_eq_iff]
    have hba : lane b ≠ lane a := fun h => hp.ne (Fin.ext (congrArg (fun x : Fin 128 => x.val) h))
    have p2 : top (rest q (BitVec.ofNat 32 (lane a).val)) = soft l b := by
      have hb : rest q (BitVec.ofNat 32 (lane a).val) (lane b) = soft l b := by rw [hr, if_neg hba, hql]
      rw [← hb]; refine top_eq _ _ fun x => ?_
      rw [hb, hr]; split
      · exact le_trans (by norm_num) (h0 b)
      · rename_i hx
        by_cases h : x.val < 8
        · rw [lane_of_lt h, hql]
          refine hp.le_b _ fun e => hx ?_
          rw [lane_of_lt h, e]
        · rw [hqo x h]; exact h0 b
    have i2 : firstLane (rest q (BitVec.ofNat 32 (lane a).val)) (soft l b) = BitVec.ofNat 32 (lane b).val := by
      refine firstLane_eq _ _ _ (by rw [hr, if_neg hba, hql]) fun m hm => ?_
      have h : m.val < 8 := lt_trans hm b.isLt
      rw [hr]; split
      · exact (lt_of_lt_of_le (by norm_num) (h0 b)).ne
      · rename_i hx
        rw [lane_of_lt h, hql]
        refine (hp.lt_b _ hm fun e => hx ?_).ne
        rw [lane_of_lt h, e]
    have hl : ∀ x y : Fin 8, lane x = lane y ↔ x = y := fun x y =>
      ⟨fun h => Fin.ext (congrArg (fun x : Fin 128 => x.val) h), fun h => h ▸ rfl⟩
    unfold laneWeight weight
    simp only [p1, i1, p2, i2, word_eq_iff, hl, hab]

/-! ### The stable sort -/

/-- A stable insertion of positions in increasing order reads "before" and, among equals, the position. -/
theorem stableSort_position {n : ℕ} (B B' : Fin n → Fin n → Bool) (h : ∀ x y, x < y → B y x = B' y x) (l : List (Fin n))
    (hl : l.Pairwise (· < ·)) : stableSort B l = stableSort B' l := by
  induction l with
  | nil => rfl
  | cons a l ih =>
    rw [List.pairwise_cons] at hl
    show insertBefore B a (stableSort B l) = insertBefore B' a (stableSort B' l)
    rw [ih hl.2]
    exact insertBefore_congr _ _ _ _ fun b hb => h _ _ (hl.1 b ((perm_stableSort B' l).mem_iff.mp hb))

theorem sortedFrom_congr {n : ℕ} {B B' : Fin n → Fin n → Bool} (h : sortPositions n B = sortPositions n B') (j : Fin n) :
    sortedFrom B j = sortedFrom B' j := by
  unfold sortedFrom; rw [List.get_of_eq h]; rfl

/-- The first two positions of the stable sort by "greater first" are the two chosen experts. -/
theorem sortedFrom_pick (p : Fin 8 → EReal) (k : Fin 2) :
    sortedFrom (fun i j : Fin 8 => FloatOps.cmpfTotal (F := Ideal) (φ := .f32) .gt (p i) (p j) == 1#1) (k.castLE (by decide))
      = ![(pick p).1, (pick p).2] k := by
  have hp := pick_spec p
  have hgt : ∀ i j, (FloatOps.cmpfTotal (F := Ideal) (φ := .f32) .gt (p i) (p j) == 1#1) = decide (p j < p i) := fun i j => by
    show (BitVec.ofBool (decide (p j < p i)) == 1#1) = _
    cases decide (p j < p i) <;> rfl
  simp only [hgt]
  have hB := StrictTotalBefore.of_key_then_position (n := 8) (fun x y : EReal => decide (y < x)) p (by simp)
    (fun x y z hxy hyz => by simp only [decide_eq_true_eq] at *; exact hyz.trans hxy)
    (fun x y => by simp only [decide_eq_true_eq]; rcases lt_trichotomy x y with h | h | h <;> simp [h])
  have hsort : sortPositions 8 (fun i j : Fin 8 => decide (p j < p i))
      = sortPositions 8 (fun i j : Fin 8 => decide (p j < p i) || (decide (p i = p j) && decide (i < j))) :=
    stableSort_position _ _ (fun x y hxy => by simp [not_lt.mpr hxy.le]) _ (List.pairwise_lt_finRange 8)
  have hfrom : ∀ j : Fin 8, sortedFrom (fun i j : Fin 8 => decide (p j < p i)) j
      = sortedFrom (fun i j : Fin 8 => decide (p j < p i) || (decide (p i = p j) && decide (i < j))) j := fun j =>
    sortedFrom_congr hsort j
  rw [hfrom]
  refine hB.sortedFrom_eq_of_prefix (by decide) ![(pick p).1, (pick p).2] ?_ ?_ ?_ k
  · intro i j hij
    fin_cases i <;> fin_cases j <;> first | rfl | exact absurd hij hp.ne | exact absurd hij.symm hp.ne
  · intro i j hij
    have h1 : i = 0 := by have : i.val < j.val := hij; exact Fin.ext (by show i.val = 0; omega)
    have h2 : j = 1 := by have : i.val < j.val := hij; exact Fin.ext (by show j.val = 1; omega)
    subst h1 h2
    simp only [Matrix.cons_val_zero, Matrix.cons_val_one, Bool.or_eq_false_iff, Bool.and_eq_false_iff]
    refine ⟨decide_eq_false (not_lt.mpr (hp.le_a _)), ?_⟩
    by_cases he : p (pick p).2 = p (pick p).1
    · exact .inr (decide_eq_false fun hl => (hp.lt_a _ hl).ne he)
    · exact .inl (decide_eq_false he)
  · intro i x hx
    have hxa : x ≠ (pick p).1 := fun h => hx 0 h.symm
    have hxb : x ≠ (pick p).2 := fun h => hx 1 h.symm
    simp only [Bool.or_eq_false_iff, Bool.and_eq_false_iff]
    have hi : i = 0 ∨ i = 1 := by fin_cases i <;> simp
    rcases hi with rfl | rfl
    · refine ⟨decide_eq_false (not_lt.mpr (hp.le_a _)), ?_⟩
      by_cases he : p x = p (pick p).1
      · exact .inr (decide_eq_false fun hl => (hp.lt_a _ hl).ne he)
      · exact .inl (decide_eq_false he)
    · refine ⟨decide_eq_false (not_lt.mpr (hp.le_b _ hxa)), ?_⟩
      by_cases he : p x = p (pick p).2
      · exact .inr (decide_eq_false fun hl => (hp.lt_b _ hl hxa).ne he)
      · exact .inl (decide_eq_false he)

end Cert.MoeSpec

end
-- ==== Proof.MoeSpec.lean ====
module

public import proofs.«01_k».proof.Proof.MoeRoute

/-!
The routed feed-forward layer as mathematics over the extended reals, token by token: the modulated input, the router's
logits, the gated products of every expert weighted by the router, their sum, the scaled residual and the layer norm.
-/

@[expose] public section

noncomputable section

namespace Cert.MoeSpec

open Idealize.ShloMosaic

/-- The layer's arguments. -/
structure Args where
  x : Fin 16384 → Fin 1024 → EReal
  mod : Fin 16 → Fin 6 → Fin 1024 → EReal
  rw : Fin 1024 → Fin 8 → EReal
  rb : Fin 8 → EReal
  wi : Fin 8 → Fin 1024 → Fin 2816 → EReal
  wo : Fin 8 → Fin 1408 → Fin 1024 → EReal
  g : Fin 1024 → EReal
  b : Fin 1024 → EReal

/-- The row of the modulation table a token reads: the prompt's row 8, or its sample sequence's. -/
def modRow (l : Fin 16384) : Fin 16 := ⟨if l.val < 8192 then 8 else (l.val - 8192) / 1024, by split <;> omega⟩

theorem modRow_lt (l : Fin 16384) : (modRow l).val < 9 := by
  show (if l.val < 8192 then 8 else (l.val - 8192) / 1024) < 9
  split <;> omega

/-- The residual's scale. -/
def alpha : EReal := Ideal.ofBits .f32 0x3FD744FD#32
/-- The width of the model. -/
def width : EReal := Ideal.ofBits .f32 0x44800000#32
/-- The layer norm's guard. -/
def eps : EReal := Ideal.ofBits .f32 0x3727C5AC#32

variable (A : Args)

/-- The modulated input. -/
def hid (l : Fin 16384) (k : Fin 1024) : EReal := A.x l k * (1 + A.mod (modRow l) 4 k) + A.mod (modRow l) 3 k

/-- The router's logits. -/
def logit (l : Fin 16384) (e : Fin 8) : EReal := ∑ k, hid A l k * A.rw k e + A.rb e

/-- Column `f` of the gate's half of the first weights, and of the other half. -/
def gateCol (f : Fin 1408) : Fin 2816 := ⟨f.val, by omega⟩
def upCol (f : Fin 1408) : Fin 2816 := ⟨1408 + f.val, by omega⟩

/-- A product of the modulated input with a column of an expert's first weights. -/
def proj (l : Fin 16384) (e : Fin 8) (f : Fin 2816) : EReal := ∑ k, hid A l k * A.wi e k f

def silu (y : EReal) : EReal := y * Ideal.div 1 (1 + Ideal.exp (-y))

/-- An expert's activation under the weights `w`. -/
def act (w : Fin 8 → EReal) (l : Fin 16384) (e : Fin 8) (f : Fin 1408) : EReal :=
  silu (proj A l e (gateCol f)) * proj A l e (upCol f) * w e

/-- One expert's share of the layer's output. -/
def expert (w : Fin 8 → EReal) (l : Fin 16384) (e : Fin 8) (d : Fin 1024) : EReal := ∑ f, act A w l e f * A.wo e f d

/-- What is normalised. -/
def pre (w : Fin 8 → EReal) (l : Fin 16384) (d : Fin 1024) : EReal :=
  alpha * A.x l d + A.mod (modRow l) 5 d * ∑ e, expert A w l e d

/-- The mean of a row. -/
def mean (z : Fin 1024 → EReal) : EReal := Ideal.div (∑ k, z k) width

/-- The layer norm of a row. -/
def lnorm (z g b : Fin 1024 → EReal) (d : Fin 1024) : EReal :=
  (z d - mean z) * Ideal.rsqrt (mean (fun k => (z k - mean z) * (z k - mean z)) + eps) * g d + b d

/-- The layer's result. -/
def out (l : Fin 16384) (d : Fin 1024) : EReal := lnorm (pre A (weight (soft (logit A l))) l) A.g A.b d

/-! ### A row with an infinite entry -/

/-- Infinite, of either sign. -/
def Inf (z : EReal) : Prop := z = ⊤ ∨ z = ⊥

theorem Inf.add {a : EReal} (h : Inf a) (b : EReal) : Inf (a + b) := by
  rcases h with rfl | rfl
  · by_cases hb : b = ⊥
    · right; rw [hb, EReal.add_bot]
    · left; exact EReal.top_add_of_ne_bot hb
  · right; exact EReal.bot_add b

theorem Inf.sub {b : EReal} (h : Inf b) (a : EReal) : Inf (a - b) := by
  rw [sub_eq_add_neg, add_comm]
  refine Inf.add ?_ a
  rcases h with rfl | rfl
  · right; rfl
  · left; rfl

theorem Inf.sum {n : ℕ} {f : Fin n → EReal} (i : Fin n) (h : Inf (f i)) : Inf (∑ j, f j) := by
  rw [← Finset.add_sum_erase _ _ (Finset.mem_univ i)]; exact h.add _

theorem Inf.sq {a : EReal} (h : Inf a) : a * a = ⊤ := by
  rcases h with rfl | rfl
  · exact EReal.top_mul_top
  · exact EReal.bot_mul_bot

/-- A positive normal float's word, as a real. -/
theorem word_real (w : BitVec 32) (ex fr : ℕ) (hs : w.extractLsb' 31 1 = 0#1) (he : (w.extractLsb' 23 8).toNat = ex)
    (hf : (w.extractLsb' 0 23).toNat = fr) (h0 : ex ≠ 0) (h1 : ex ≠ 255) :
    Ideal.ofBits .f32 w = (((2 ^ 23 + fr : ℕ) * (2 : ℝ) ^ ((ex : ℤ) - 150) : ℝ) : EReal) := by
  show Ideal.ieee 8 23 w = _
  unfold Ideal.ieee
  simp only [he, hf, hs, show (8 + 23 : ℕ) = 31 from rfl]
  rw [if_neg (by norm_num; exact h1), if_neg h0]
  norm_num
  rw [show (ex : ℤ) - 127 - 23 = (ex : ℤ) - 150 by ring]

theorem alpha_pos : ∃ r : ℝ, alpha = r ∧ 0 < r :=
  ⟨_, word_real _ 127 5719293 (by decide) (by decide) (by decide) (by decide) (by decide), by positivity⟩

theorem width_eq : width = ((1024 : ℝ) : EReal) := by
  unfold width
  rw [word_real _ 137 0 (by decide) (by decide) (by decide) (by decide) (by decide)]
  norm_num

theorem eps_ne : eps ≠ ⊥ := by
  unfold eps
  rw [word_real _ 110 2606508 (by decide) (by decide) (by decide) (by decide) (by decide)]
  exact EReal.coe_ne_bot _

theorem div_width (a : EReal) : Ideal.div a width = a * (((1024 : ℝ)⁻¹ : ℝ) : EReal) := by
  unfold Ideal.div
  rw [width_eq, if_neg (by rw [EReal.coe_eq_zero]; norm_num), EReal.coe_inv]

theorem Inf.mul_pos {a : EReal} (h : Inf a) {r : ℝ} (hr : 0 < r) : Inf (a * r) := by
  rcases h with rfl | rfl
  · left; exact EReal.top_mul_coe_of_pos hr
  · right; exact EReal.bot_mul_coe_of_pos hr

/-- A row with an infinite entry is normalised to the offset alone, whatever its other entries. -/
theorem lnorm_inf (z g b : Fin 1024 → EReal) (i : Fin 1024) (h : Inf (z i)) (d : Fin 1024) : lnorm z g b d = b d := by
  have hm : Inf (mean z) := by
    unfold mean; rw [div_width]; exact (Inf.sum i h).mul_pos (by norm_num)
  have hv : mean (fun k => (z k - mean z) * (z k - mean z)) = ⊤ := by
    have hk : ∀ k, (z k - mean z) * (z k - mean z) = ⊤ := fun k => (hm.sub _).sq
    unfold mean at hk ⊢
    rw [div_width]
    simp only [hk]
    rw [Finset.sum_const, Finset.card_univ, Fintype.card_fin]
    have h1024 : ∀ n : ℕ, (n + 1) • (⊤ : EReal) = ⊤ := fun n => by
      induction n with
      | zero => rw [zero_add, one_smul]
      | succ n ih => rw [succ_nsmul, ih]; rfl
    rw [h1024 1023]
    exact EReal.top_mul_coe_of_pos (by norm_num)
  unfold lnorm
  rw [hv, EReal.top_add_of_ne_bot eps_ne]
  rw [show Ideal.rsqrt ⊤ = 0 from rfl, mul_zero, zero_mul, zero_add]

/-! ### The logits in three parts -/

/-- The logits as a product of each factor's rounded part and two corrections, over exact arithmetic. -/
def logit3 (l : Fin 16384) (e : Fin 8) : EReal :=
  ∑ k, hid A l k * A.rw k e + ∑ k, (hid A l k - hid A l k) * A.rw k e + ∑ k, hid A l k * (A.rw k e - A.rw k e) + A.rb e

/-- What the precondition gives: the router's weights, and the shift and the scale of the rows read, are reals. -/
structure Finite : Prop where
  mod : ∀ i : Fin 16, i.val < 9 → ∀ k, (∃ r : ℝ, A.mod i 3 k = r) ∧ ∃ r : ℝ, A.mod i 4 k = r
  rw : ∀ k e, ∃ r : ℝ, A.rw k e = r

theorem sub_self_real {x : EReal} (h : ∃ r : ℝ, x = r) : x - x = 0 := by
  obtain ⟨r, rfl⟩ := h
  rw [← EReal.coe_sub, sub_self]; rfl

variable {A} in
theorem Finite.hid (hA : Finite A) (l : Fin 16384) (hx : ∀ k, ∃ r : ℝ, A.x l k = r) (k : Fin 1024) : ∃ r : ℝ, hid A l k = r := by
  obtain ⟨⟨s, hs⟩, t, ht⟩ := hA.mod (modRow l) (modRow_lt l) k
  obtain ⟨r, hr⟩ := hx k
  refine ⟨r * (1 + t) + s, ?_⟩
  show A.x l k * (1 + A.mod (modRow l) 4 k) + A.mod (modRow l) 3 k = _
  rw [hs, ht, hr]; push_cast; rfl

theorem logit3_eq (hA : Finite A) (l : Fin 16384) (hx : ∀ k, ∃ r : ℝ, A.x l k = r) : logit3 A l = logit A l := by
  funext e
  unfold logit3 logit
  rw [Finset.sum_eq_zero (f := fun k => (hid A l k - hid A l k) * A.rw k e) fun k _ => by
      rw [sub_self_real (hA.hid l hx k), zero_mul],
    Finset.sum_eq_zero (f := fun k => hid A l k * (A.rw k e - A.rw k e)) fun k _ => by
      rw [sub_self_real (hA.rw k e), mul_zero], add_zero, add_zero]

/-- The layer's result with the experts' weights found on 128 lanes from the logits in three parts. -/
theorem out_eq (hA : Finite A) (l : Fin 16384) (d : Fin 1024) :
    lnorm (pre A (fun e => laneWeight (soft (wide (logit3 A l))) (lane e)) l) A.g A.b d = out A l d := by
  by_cases hx : ∀ k, ∃ r : ℝ, A.x l k = r
  · unfold out
    simp only [logit3_eq A hA l hx, laneWeight_soft]
  · obtain ⟨k, hk⟩ := not_forall.mp hx
    have hi : Inf (A.x l k) := by
      revert hk
      generalize A.x l k = y
      induction y using EReal.rec with
      | bot => exact fun _ => .inr rfl
      | top => exact fun _ => .inl rfl
      | coe r => exact fun h => absurd ⟨r, rfl⟩ h
    have hp : ∀ w, Inf (pre A w l k) := fun w => by
      obtain ⟨r, hr, h0⟩ := alpha_pos
      unfold pre
      rw [hr, mul_comm]
      exact (hi.mul_pos h0).add _
    unfold out
    rw [lnorm_inf _ _ _ k (hp _), lnorm_inf _ _ _ k (hp _)]

end Cert.MoeSpec

end
-- ==== Proof.MoeBlk.lean ====
module

public import proofs.«01_k».proof.Proof.Gen.Kernel2Ideal.Frame
public import proofs.«01_k».proof.Proof.MoeSpec
public import Idealize.ShloMosaic.Lib.Pointwise
public import Idealize.ShloMosaic.Lib.Pipeline.ValueKit

/-!
The blocks the routed feed-forward kernel reads at a grid point, as entries of the layer's arguments: point `t` works on
the 512 tokens of tile `t / 8` and on expert `t % 8`.
-/

@[expose] public section

set_option maxRecDepth 16384

noncomputable section

namespace Cert.Kernel2Ideal.Moe

open Cert.Kernel2Ideal Cert.Kernel2Ideal.Gen Cert.MoeSpec
open Idealize.ShloMosaic Idealize.ShloMosaic.TcCoe
open Idealize.ShloMosaic.Pipeline (Dat)

variable (m : (ℓ : Loc nD τ sig) → Buf (Elt Ideal) ℓ)

/-- The layer's arguments, as the arrays hold them. -/
def argsOf (c : Dev nD) : Args where
  x l k := (m ((c.tc : Thread nD τ).loc main_arg0) : Vec Ideal S16384x1024 .f32) (ix2 l k)
  mod i j k := (m ((c.tc : Thread nD τ).loc main_arg1) : Vec Ideal S16x6x1024 .f32) (ix3 i j k)
  rw k e := (m ((c.tc : Thread nD τ).loc main_arg2) : Vec Ideal S1024x8 .f32) (ix2 k e)
  rb e := (m ((c.tc : Thread nD τ).loc main_arg3) : Vec Ideal S8 .f32) (ix1 e)
  wi e k f := (m ((c.tc : Thread nD τ).loc main_arg4) : Vec Ideal S8x1024x2816 .f32) (ix3 e k f)
  wo e f d := (m ((c.tc : Thread nD τ).loc main_arg5) : Vec Ideal S8x1408x1024 .f32) (ix3 e f d)
  g d := (m ((c.tc : Thread nD τ).loc main_arg6) : Vec Ideal S1024 .f32) (ix1 d)
  b d := (m ((c.tc : Thread nD τ).loc main_arg7) : Vec Ideal S1024 .f32) (ix1 d)

theorem tlt (t : Fin cfg0.N) : t.val < 256 := t.isLt
/-- The token that row `r` of point `t`'s tile stands for, and the point's expert. -/
def tok (t : Fin cfg0.N) (r : Fin 512) : Fin 16384 := ⟨t.val / 8 * 512 + r.val, by have := tlt t; omega⟩
def ex (t : Fin cfg0.N) : Fin 8 := ⟨t.val % 8, Nat.mod_lt _ (by decide)⟩
/-- The tile's row of the modulation table. -/
def tileRow (t : Fin cfg0.N) : Fin 16 := ⟨if t.val / 8 < 16 then 8 else (t.val / 8 - 16) / 2, by have := tlt t; split <;> omega⟩

theorem tileRow_eq (t : Fin cfg0.N) (r : Fin 512) : tileRow t = modRow (tok t r) := by
  have := tlt t
  refine Fin.ext ?_
  show (if t.val / 8 < 16 then 8 else (t.val / 8 - 16) / 2)
    = if t.val / 8 * 512 + r.val < 8192 then 8 else (t.val / 8 * 512 + r.val - 8192) / 1024
  have hr := r.isLt
  split <;> split <;> omega

theorem idx0 : ∀ t : Fin cfg0.N, (cfg0.win 0).index t = ![t.val / 8, 0] := by decide +kernel
theorem idx1 : ∀ t : Fin cfg0.N, (cfg0.win 1).index t = ![if t.val / 8 < 16 then 8 else (t.val / 8 - 16) / 2, 0, 0] := by decide +kernel
theorem idx2 : ∀ t : Fin cfg0.N, (cfg0.win 2).index t = ![t.val % 8, 0, 0] := by decide +kernel
theorem idx3 : ∀ t : Fin cfg0.N, (cfg0.win 3).index t = ![t.val % 8, 0, 1] := by decide +kernel
theorem idx4 : ∀ t : Fin cfg0.N, (cfg0.win 4).index t = ![t.val % 8, 0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![t.val / 8, 0] := by decide +kernel

theorem iblk0 (c : Dev nD) (t : Fin cfg0.N) (r : Fin 512) (k : Fin 1024) :
    (iblk m c 0 t : Vec Ideal S512x1024 .f32) (ix2 r k) = (argsOf m c).x (tok t r) k := by
  unfold argsOf
  blk_ext [iblk, V, idx0 t] <;> rfl

theorem iblk1 (c : Dev nD) (t : Fin cfg0.N) (j : Fin 6) (k : Fin 1024) :
    (iblk m c 1 t : Vec Ideal S1x6x1024 .f32) (ix3 0 j k) = (argsOf m c).mod (tileRow t) j k := by
  unfold argsOf
  blk_ext [iblk, V, idx1 t] <;> rfl

theorem iblk2 (c : Dev nD) (t : Fin cfg0.N) (k : Fin 1024) (f : Fin 1408) :
    (iblk m c 2 t : Vec Ideal S1x1024x1408 .bf16) (ix3 0 k f) = (argsOf m c).wi (ex t) k (gateCol f) := by
  unfold argsOf
  blk_ext! [iblk, V, idx2 t] <;> rfl

theorem iblk3 (c : Dev nD) (t : Fin cfg0.N) (k : Fin 1024) (f : Fin 1408) :
    (iblk m c 3 t : Vec Ideal S1x1024x1408 .bf16) (ix3 0 k f) = (argsOf m c).wi (ex t) k (upCol f) := by
  unfold argsOf
  blk_ext! [iblk, V, idx3 t] <;> rfl

theorem iblk4 (c : Dev nD) (t : Fin cfg0.N) (f : Fin 1408) (d : Fin 1024) :
    (iblk m c 4 t : Vec Ideal S1x1408x1024 .bf16) (ix3 0 f d) = (argsOf m c).wo (ex t) f d := by
  unfold argsOf
  blk_ext! [iblk, V, idx4 t] <;> rfl

theorem V5 (c : Dev nD) : (V m c main_v5 : Vec Ideal S1x1024 .f32) = broadcastInDim S1x1024 ![1] bcast_S1024_S1x1024_1 (m ((c.tc : Thread nD τ).loc main_arg6) : Vec Ideal S1024 .f32) := by
  unfold_abbrev_sides
  simp only [List.flatten_cons, List.flatten_nil, List.cons_append, List.nil_append, hostOps0, hostOps0_1, hostOps0_2, hostOps0_3, hostOps0_4]
  after_results_simp

theorem V6 (c : Dev nD) : (V m c main_v6 : Vec Ideal S1x1024 .f32) = broadcastInDim S1x1024 ![1] bcast_S1024_S1x1024_1 (m ((c.tc : Thread nD τ).loc main_arg7) : Vec Ideal S1024 .f32) := by
  unfold_abbrev_sides
  simp only [List.flatten_cons, List.flatten_nil, List.cons_append, List.nil_append, hostOps0, hostOps0_1, hostOps0_2, hostOps0_3, hostOps0_4]
  after_results_simp

theorem V2 (c : Dev nD) : (V m c main_v2 : Vec Ideal S1024x128 .f32) = pad S1024x128 ![0, 0] ![0, 120] ![0, 0] (m ((c.tc : Thread nD τ).loc main_arg2) : Vec Ideal S1024x8 .f32) (sitofp (F := Ideal) .f32 (constantI S_ 32 0#32)) pads_S1024x8_S1024x128_000_01200 h_S_ := by
  unfold_abbrev_sides
  simp only [List.flatten_cons, List.flatten_nil, List.cons_append, List.nil_append, hostOps0, hostOps0_1, hostOps0_2, hostOps0_3, hostOps0_4]
  after_results_simp
  rfl

theorem V4 (c : Dev nD) : (V m c main_v4 : Vec Ideal S1x128 .f32) = pad S1x128 ![0, 0] ![0, 120] ![0, 0] (broadcastInDim S1x8 ![1] bcast_S8_S1x8_1 (m ((c.tc : Thread nD τ).loc main_arg3) : Vec Ideal S8 .f32)) (sitofp (F := Ideal) .f32 (constantI S_ 32 0#32)) pads_S1x8_S1x128_000_01200 h_S_ := by
  unfold_abbrev_sides
  simp only [List.flatten_cons, List.flatten_nil, List.cons_append, List.nil_append, hostOps0, hostOps0_1, hostOps0_2, hostOps0_3, hostOps0_4]
  after_results_simp
  rfl

theorem iblk7 (c : Dev nD) (t : Fin cfg0.N) (d : Fin 1024) :
    (iblk m c 7 t : Vec Ideal S1x1024 .f32) (ix2 0 d) = (argsOf m c).g d := by
  show (V m c main_v5 : Vec Ideal S1x1024 .f32) ((win0_7.blk t).view.emb (ix2 0 d)) = _
  have he : (win0_7.blk t).view.emb (ix2 0 d : S1x1024.Idx) = (ix2 0 d : S1x1024.Idx) := by
    blk_ext [idx7 t]
  rw [he, V5]
  pointwise
  rfl

theorem iblk8 (c : Dev nD) (t : Fin cfg0.N) (d : Fin 1024) :
    (iblk m c 8 t : Vec Ideal S1x1024 .f32) (ix2 0 d) = (argsOf m c).b d := by
  show (V m c main_v6 : Vec Ideal S1x1024 .f32) ((win0_8.blk t).view.emb (ix2 0 d)) = _
  have he : (win0_8.blk t).view.emb (ix2 0 d : S1x1024.Idx) = (ix2 0 d : S1x1024.Idx) := by
    blk_ext [idx8 t]
  rw [he, V6]
  pointwise
  rfl

theorem iblk5 (c : Dev nD) (t : Fin cfg0.N) (k : Fin 1024) (e : Fin 8) :
    (iblk m c 5 t : Vec Ideal S1024x128 .f32) (ix2 k (lane e)) = (argsOf m c).rw k e := by
  show (V m c main_v2 : Vec Ideal S1024x128 .f32) ((win0_5.blk t).view.emb (ix2 k (lane e))) = _
  have he : (win0_5.blk t).view.emb (ix2 k (lane e) : S1024x128.Idx) = (ix2 k (lane e) : S1024x128.Idx) := by
    blk_ext [idx5 t]
  rw [he, V2]
  pointwise
  rw [dif_pos]
  · rfl
  · intro a
    match a with
    | ⟨0, _⟩ => exact ⟨Nat.zero_le _, Nat.mod_one _, by show (k.val - 0) / (0 + 1) < 1024; omega⟩
    | ⟨1, _⟩ => exact ⟨Nat.zero_le _, Nat.mod_one _, by show (e.val - 0) / (0 + 1) < 8; omega⟩

theorem iblk6 (c : Dev nD) (t : Fin cfg0.N) (e : Fin 8) :
    (iblk m c 6 t : Vec Ideal S1x128 .f32) (ix2 0 (lane e)) = (argsOf m c).rb e := by
  show (V m c main_v4 : Vec Ideal S1x128 .f32) ((win0_6.blk t).view.emb (ix2 0 (lane e))) = _
  have he : (win0_6.blk t).view.emb (ix2 0 (lane e) : S1x128.Idx) = (ix2 0 (lane e) : S1x128.Idx) := by
    blk_ext [idx6 t]
  rw [he, V4]
  pointwise
  rw [dif_pos]
  · rfl
  · exact e.isLt

end Cert.Kernel2Ideal.Moe

end
-- ==== Proof.MoePay.lean ====
module

public import proofs.«01_k».proof.Proof.Gen.Kernel2Ideal.Frame
public import proofs.«01_k».proof.Proof.MoeSpec
public import Idealize.ShloMosaic.Lib.Pointwise
public import Idealize.ShloMosaic.Lib.Pipeline.ValueKit

/-!
The values that the routed feed-forward kernel's stores hold, entry by entry over the extended reals.
-/

@[expose] public section

set_option maxRecDepth 16384

noncomputable section

namespace Cert.Kernel2Ideal.Moe

open Cert.Kernel2Ideal Cert.Kernel2Ideal.Gen Cert.MoeSpec
open Idealize.ShloMosaic Idealize.ShloMosaic.TcCoe

/-- The lanes' numbers. -/
abbrev lanes : IVec S512x128 32 := iota .tc S512x128 32 [1] iota_S512x128_d1_w32

theorem lanes_at (r : Fin 512) (x : Fin 128) : lanes (ix2 r x) = BitVec.ofNat 32 x.val := by
  pointwise [lanes]

theorem slt8 (x : Fin 128) : IntOp.cmpi .slt (BitVec.ofNat 32 x.val) 8#32 = if x.val < 8 then 1#1 else 0#1 := by
  revert x; decide

theorem neg_inf : Ideal.ofBits .f32 4286578688#32 = ⊥ := by
  show Ideal.ieee 8 23 4286578688#32 = _
  unfold Ideal.ieee
  rw [if_pos (by decide), if_pos (by decide), if_pos (by decide)]

theorem neg_one : Ideal.ofBits .f32 3212836864#32 = -1 := by
  show Ideal.ieee 8 23 3212836864#32 = _
  unfold Ideal.ieee
  rw [if_neg (by decide), if_neg (by decide), if_pos (by decide)]
  rw [show (3212836864#32 : BitVec 32).extractLsb' 0 23 = 0#23 by decide, show ((3212836864#32 : BitVec 32).extractLsb' 23 8).toNat = 127 by decide]
  norm_num

theorem select_word {α : Type} (a b : BitVec 32) (x y : α) : Scalar.select (IntOp.cmpi .eq a b) x y = if a = b then x else y := by
  unfold Scalar.select IntOp.cmpi
  by_cases h : a = b
  · simp [h]
  · rw [if_neg]
    · exact (if_neg h).symm
    · show ¬ BitVec.ofBool (a == b) = 1#1
      rw [show (a == b) = false from beq_eq_false_iff_ne.mpr h]; decide

theorem pay8_at (a b : FVec Ideal S512x128 .f32) (r : Fin 512) (x : Fin 128) :
    k0_pay8 lanes a b (ix2 r x) = soft (wide fun e => a (ix2 r (lane e)) + b (ix2 r (lane e))) x := by
  have hw : ∀ x : Fin 128, Scalar.select (IntOp.cmpi .slt (BitVec.ofNat 32 x.val) 8#32) (a (ix2 r x) + b (ix2 r x)) (Ideal.ofBits .f32 4286578688#32)
      = wide (fun e => a (ix2 r (lane e)) + b (ix2 r (lane e))) x := fun x => by
    rw [slt8, neg_inf]; unfold wide Scalar.select
    by_cases h : x.val < 8
    · simp only [h, ↓reduceIte, ↓reduceDIte]; rfl
    · simp [h]
  pointwise [k0_pay8]
  simp only [hw]
  rw [neg_inf]
  rfl

theorem pay9_at (a b : FVec Ideal S512x128 .f32) (r : Fin 512) :
    k0_pay9 lanes a b (ix2 r 0) = top (fun x => k0_pay8 lanes a b (ix2 r x)) := by
  pointwise [k0_pay9]
  rw [neg_inf]; rfl

theorem pay10_at (a b : FVec Ideal S512x128 .f32) (r : Fin 512) :
    k0_pay10 lanes a b (ix2 r 0) = firstLane (fun x => k0_pay8 lanes a b (ix2 r x)) (k0_pay9 lanes a b (ix2 r 0)) := by
  pointwise [k0_pay10]
  rfl

theorem pay11_at (a b : FVec Ideal S512x128 .f32) (r : Fin 512) (x : Fin 128) :
    k0_pay11 lanes a b (ix2 r x) = rest (fun x => k0_pay8 lanes a b (ix2 r x)) (k0_pay10 lanes a b (ix2 r 0)) x := by
  pointwise [k0_pay11]
  rw [select_word, neg_one]; rfl

theorem pay12_at (a b : FVec Ideal S512x128 .f32) (r : Fin 512) :
    k0_pay12 lanes a b (ix2 r 0) = top (fun x => k0_pay11 lanes a b (ix2 r x)) := by
  pointwise [k0_pay12]
  rw [neg_inf]; rfl

theorem pay13_at (a b : FVec Ideal S512x128 .f32) (r : Fin 512) :
    k0_pay13 lanes a b (ix2 r 0) = k0_pay9 lanes a b (ix2 r 0) + k0_pay12 lanes a b (ix2 r 0) := by
  pointwise [k0_pay13]

/-- The experts' weights as the kernel finds them from the logits' product `a` and the bias `b`. -/
abbrev combOf (a b : FVec Ideal S512x128 .f32) : FVec Ideal S512x128 .f32 :=
  k0_pay17 (k0_pay14 lanes a b) (k0_pay15 lanes a b) (FloatOps.ofBits FTy.f32 0#32) (k0_pay16 lanes a b)

theorem comb_at (a b : FVec Ideal S512x128 .f32) (r : Fin 512) (x : Fin 128) :
    combOf a b (ix2 r x) = laneWeight (soft (wide fun e => a (ix2 r (lane e)) + b (ix2 r (lane e)))) x := by
  have e8 : (fun x => k0_pay8 lanes a b (ix2 r x)) = soft (wide fun e => a (ix2 r (lane e)) + b (ix2 r (lane e))) :=
    funext fun x => pay8_at a b r x
  have e11 : (fun x => k0_pay11 lanes a b (ix2 r x)) = rest (soft (wide fun e => a (ix2 r (lane e)) + b (ix2 r (lane e)))) (k0_pay10 lanes a b (ix2 r 0)) :=
    funext fun x => by rw [pay11_at, e8]
  have e15 : k0_pay15 lanes a b (ix2 r x) = IntOp.cmpi .eq (BitVec.ofNat 32 x.val)
      (firstLane (fun x => k0_pay11 lanes a b (ix2 r x)) (k0_pay12 lanes a b (ix2 r 0))) := by
    pointwise [k0_pay15]
    rfl
  have e14 : k0_pay14 lanes a b (ix2 r x) = Scalar.select (IntOp.cmpi .eq (BitVec.ofNat 32 x.val) (k0_pay10 lanes a b (ix2 r 0)))
      (Ideal.div (k0_pay9 lanes a b (ix2 r 0)) (k0_pay13 lanes a b (ix2 r 0))) 0 := by
    pointwise [k0_pay14]
  have e16 : k0_pay16 lanes a b (ix2 r x) = Ideal.div (k0_pay12 lanes a b (ix2 r 0)) (k0_pay13 lanes a b (ix2 r 0)) := by
    pointwise [k0_pay16]
  have e17 : combOf a b (ix2 r x) = k0_pay14 lanes a b (ix2 r x) + Scalar.select (k0_pay15 lanes a b (ix2 r x)) (k0_pay16 lanes a b (ix2 r x)) 0 := by
    pointwise [combOf, k0_pay17]
  rw [e17, e14, e15, e16, select_word, select_word, pay13_at, pay12_at, e11, pay10_at, pay9_at, e8]
  rfl

theorem comb_of (a b : FVec Ideal S512x128 .f32) (r : Fin 512) (L : Fin 8 → EReal) (h : ∀ e, a (ix2 r (lane e)) + b (ix2 r (lane e)) = L e)
    (x : Fin 128) : combOf a b (ix2 r x) = laneWeight (soft (wide L)) x := by
  rw [comb_at, show (fun e => a (ix2 r (lane e)) + b (ix2 r (lane e))) = L from funext h]

theorem pay4_at (x : Vec Ideal S512x1024 .f32) (s z : Vec Ideal S1x1x1024 .f32) (r : Fin 512) (k : Fin 1024) :
    k0_pay4 x s z (ix2 r k) = x (ix2 r k) * (1 + s (ix3 0 0 k)) + z (ix3 0 0 k) := by
  pointwise [k0_pay4, k0_pay3]

theorem pay6_at (x : Vec Ideal S512x1024 .f32) (s z : Vec Ideal S1x1x1024 .f32) (w : Vec Ideal S1024x128 .f32) (r : Fin 512) (e : Fin 128) :
    k0_pay6 x s z w (ix2 r e) = ∑ k, (x (ix2 r k) * (1 + s (ix3 0 0 k)) + z (ix3 0 0 k)) * w (ix2 k e)
      + ∑ k, ((x (ix2 r k) * (1 + s (ix3 0 0 k)) + z (ix3 0 0 k)) - (x (ix2 r k) * (1 + s (ix3 0 0 k)) + z (ix3 0 0 k))) * w (ix2 k e)
      + ∑ k, (x (ix2 r k) * (1 + s (ix3 0 0 k)) + z (ix3 0 0 k)) * (w (ix2 k e) - w (ix2 k e)) := by
  pointwise [k0_pay6, k0_pay3]

theorem pay6_of (x : Vec Ideal S512x1024 .f32) (s z : Vec Ideal S1x1x1024 .f32) (w : Vec Ideal S1024x128 .f32) (r : Fin 512) (e : Fin 128)
    (H R : Fin 1024 → EReal) (hH : ∀ k, x (ix2 r k) * (1 + s (ix3 0 0 k)) + z (ix3 0 0 k) = H k) (hR : ∀ k, w (ix2 k e) = R k) :
    k0_pay6 x s z w (ix2 r e) = ∑ k, H k * R k + ∑ k, (H k - H k) * R k + ∑ k, H k * (R k - R k) := by
  rw [pay6_at]
  simp only [hH, hR]

theorem pay7_at (b : Vec Ideal S1x128 .f32) (r : Fin 512) (e : Fin 128) : k0_pay7 b (ix2 r e) = b (ix2 0 e) := by
  pointwise [k0_pay7]

theorem lane_word (x : Fin 128) (e : Fin 8) (y : EReal) :
    Scalar.select (IntOp.cmpi .eq (BitVec.ofNat 32 x.val) (BitVec.ofNat 32 e.val)) y 0 = if x = lane e then y else 0 := by
  rw [select_word]
  exact if_congr (word_eq_iff x (lane e)) rfl rfl

theorem pay18_at (i : grid0.Coords) (e : Fin 8) (he : (i 1).val = e.val) (h : Vec Ideal S512x1024 .bf16) (wg wu : Vec Ideal S1x1024x1408 .bf16)
    (w : Vec Ideal S512x128 .f32) (r : Fin 512) (f : Fin 1408) :
    k0_pay18 i h wg wu w (ix2 r f) = silu (∑ k, h (ix2 r k) * wg (ix3 0 k f)) * (∑ k, h (ix2 r k) * wu (ix3 0 k f)) * w (ix2 r (lane e)) := by
  have hs : ∑ x : Fin 128, Scalar.select (IntOp.cmpi .eq (BitVec.ofNat 32 x.val) (BitVec.ofNat 32 e.val)) (w (ix2 r x)) 0 = w (ix2 r (lane e)) := by
    simp only [lane_word]
    rw [Finset.sum_ite_eq' Finset.univ (lane e)]
    exact if_pos (Finset.mem_univ _)
  rw [← hs, ← he]
  unfold silu
  simp only [← zero_sub]
  pointwise [k0_pay18]

theorem pay1_at (a : Vec Ideal S512x1024 .f32) (b : Vec Ideal S512x1408 .bf16) (w : Vec Ideal S1x1408x1024 .bf16) (r : Fin 512) (d : Fin 1024) :
    k0_pay1 a b (k0_pay19 w) (ix2 r d) = a (ix2 r d) + ∑ f, b (ix2 r f) * w (ix3 0 f d) := by
  pointwise [k0_pay1, k0_pay19]

theorem pay5_at (r : Fin 512) (d : Fin 1024) : k0_pay5 (F := Ideal) (ix2 r d) = 0 := by
  pointwise [k0_pay5]

theorem pay2_at (x : Vec Ideal S512x1024 .f32) (gate : Vec Ideal S1x1x1024 .f32) (acc : Vec Ideal S512x1024 .f32) (g b : Vec Ideal S1x1024 .f32)
    (r : Fin 512) (d : Fin 1024) :
    k0_pay2 x gate acc g b (ix2 r d) = lnorm (fun k => alpha * x (ix2 r k) + gate (ix3 0 0 k) * acc (ix2 r k)) (fun k => g (ix2 0 k)) (fun k => b (ix2 0 k)) d := by
  pointwise [k0_pay2]
  rfl

end Cert.Kernel2Ideal.Moe

end
-- ==== Proof.MoeVal.lean ====
module

public import proofs.«01_k».proof.Proof.MoeBlk
public import proofs.«01_k».proof.Proof.MoePay
public import Idealize.ShloMosaic.Lib.Pipeline.ReadBack

/-!
What the routed feed-forward kernel computes over the extended reals: the scratch arrays along the experts' axis of the
grid, the block written at its end, and the result array.
-/

@[expose] public section

set_option maxRecDepth 16384

noncomputable section

namespace Cert.Kernel2Ideal.Moe

open Cert.Kernel2Ideal Cert.Kernel2Ideal.Gen Cert.MoeSpec
open Idealize.ShloMosaic Idealize.ShloMosaic.TcCoe
open Idealize.ShloMosaic.Pipeline (Dat)

variable (m : (ℓ : Loc nD τ sig) → Buf (Elt Ideal) ℓ)

/-- The weights of a token's experts, as the kernel finds them. -/
def kw (A : Args) (l : Fin 16384) (e : Fin 8) : EReal := laneWeight (soft (wide (logit3 A l))) (lane e)

theorem point1 : ∀ t : Fin cfg0.N, (grid0.coords t 1).val = (ex t).val := by decide +kernel

theorem row_at (c : Dev nD) (t : Fin cfg0.N) (r : Fin 512) (j : Fin 6) (k : Fin 1024) :
    (iblk m c 1 t : Vec Ideal S1x6x1024 .f32) (ix3 0 j k) = (argsOf m c).mod (modRow (tok t r)) j k := by
  rw [iblk1, tileRow_eq t r]

/-- The blocks of a point. -/
abbrev xb (c : Dev nD) (t : Fin cfg0.N) : Vec Ideal S512x1024 .f32 := iblk m c 0 t
abbrev wgb (c : Dev nD) (t : Fin cfg0.N) : Vec Ideal S1x1024x1408 .bf16 := iblk m c 2 t
abbrev wub (c : Dev nD) (t : Fin cfg0.N) : Vec Ideal S1x1024x1408 .bf16 := iblk m c 3 t
abbrev wdb (c : Dev nD) (t : Fin cfg0.N) : Vec Ideal S1x1408x1024 .bf16 := iblk m c 4 t
abbrev rwb (c : Dev nD) (t : Fin cfg0.N) : Vec Ideal S1024x128 .f32 := iblk m c 5 t
abbrev rbb (c : Dev nD) (t : Fin cfg0.N) : Vec Ideal S1x128 .f32 := iblk m c 6 t
abbrev gb (c : Dev nD) (t : Fin cfg0.N) : Vec Ideal S1x1024 .f32 := iblk m c 7 t
abbrev bb (c : Dev nD) (t : Fin cfg0.N) : Vec Ideal S1x1024 .f32 := iblk m c 8 t

/-- Rows of the modulation block. -/
abbrev sc (c : Dev nD) (t : Fin cfg0.N) : Vec Ideal S1x1x1024 .f32 :=
  View.ld (iblk m c 1 t : Vec Ideal S1x6x1024 .f32) (Rect.unit ![0, 4, 0] ![1, 1, 1024] inb_S1x6x1024_S1x1x1024_0_4_0)
abbrev sh (c : Dev nD) (t : Fin cfg0.N) : Vec Ideal S1x1x1024 .f32 :=
  View.ld (iblk m c 1 t : Vec Ideal S1x6x1024 .f32) (Rect.unit ![0, 3, 0] ![1, 1, 1024] inb_S1x6x1024_S1x1x1024_0_3_0)
abbrev ga (c : Dev nD) (t : Fin cfg0.N) : Vec Ideal S1x1x1024 .f32 :=
  View.ld (iblk m c 1 t : Vec Ideal S1x6x1024 .f32) (Rect.unit ![0, 5, 0] ![1, 1, 1024] inb_S1x6x1024_S1x1x1024_0_5_0)

theorem sc_at (c : Dev nD) (t : Fin cfg0.N) (r : Fin 512) (k : Fin 1024) : sc m c t (ix3 0 0 k) = (argsOf m c).mod (modRow (tok t r)) 4 k := by
  rw [← row_at m c t r 4 k]
  pointwise [sc]
theorem sh_at (c : Dev nD) (t : Fin cfg0.N) (r : Fin 512) (k : Fin 1024) : sh m c t (ix3 0 0 k) = (argsOf m c).mod (modRow (tok t r)) 3 k := by
  rw [← row_at m c t r 3 k]
  pointwise [sh]
theorem ga_at (c : Dev nD) (t : Fin cfg0.N) (r : Fin 512) (k : Fin 1024) : ga m c t (ix3 0 0 k) = (argsOf m c).mod (modRow (tok t r)) 5 k := by
  rw [← row_at m c t r 5 k]
  pointwise [ga]

theorem xb_at (c : Dev nD) (t : Fin cfg0.N) (r : Fin 512) (k : Fin 1024) : xb m c t (ix2 r k) = (argsOf m c).x (tok t r) k := iblk0 m c t r k
theorem rwb_at (c : Dev nD) (t : Fin cfg0.N) (k : Fin 1024) (e : Fin 8) : rwb m c t (ix2 k (lane e)) = (argsOf m c).rw k e := iblk5 m c t k e
theorem rbb_at (c : Dev nD) (t : Fin cfg0.N) (e : Fin 8) : rbb m c t (ix2 0 (lane e)) = (argsOf m c).rb e := iblk6 m c t e

theorem hid_at (c : Dev nD) (t : Fin cfg0.N) (r : Fin 512) (k : Fin 1024) :
    xb m c t (ix2 r k) * (1 + sc m c t (ix3 0 0 k)) + sh m c t (ix3 0 0 k) = hid (argsOf m c) (tok t r) k := by
  rw [xb_at, sc_at m c t r, sh_at m c t r]; rfl

theorem h_at (c : Dev nD) (t : Fin cfg0.N) (r : Fin 512) (k : Fin 1024) :
    k0_pay4 (xb m c t) (sc m c t) (sh m c t) (ix2 r k) = hid (argsOf m c) (tok t r) k := by
  rw [pay4_at, hid_at]

theorem w_at (c : Dev nD) (t : Fin cfg0.N) (r : Fin 512) (e : Fin 8) :
    combOf (k0_pay6 (xb m c t) (sc m c t) (sh m c t) (rwb m c t)) (k0_pay7 (rbb m c t)) (ix2 r (lane e)) = kw (argsOf m c) (tok t r) e := by
  unfold kw
  refine comb_of _ _ r _ (fun e => ?_) (lane e)
  rw [pay6_of _ _ _ _ r _ (hid (argsOf m c) (tok t r)) (fun k => (argsOf m c).rw k e) (hid_at m c t r) (fun k => rwb_at m c t k e), pay7_at, rbb_at]
  rfl

/-- One expert's product with its weights, from the scratch arrays. -/
theorem expert_at (c : Dev nD) (t : Fin cfg0.N) (h : Vec Ideal S512x1024 .bf16) (w : Vec Ideal S512x128 .f32) (acc : Vec Ideal S512x1024 .f32)
    (r : Fin 512) (hh : ∀ k, h (ix2 r k) = hid (argsOf m c) (tok t r) k) (hw : ∀ e, w (ix2 r (lane e)) = kw (argsOf m c) (tok t r) e) (d : Fin 1024) :
    k0_pay1 acc (k0_pay18 (grid0.coords t) h (wgb m c t) (wub m c t) w) (k0_pay19 (wdb m c t)) (ix2 r d)
      = acc (ix2 r d) + expert (argsOf m c) (kw (argsOf m c) (tok t r)) (tok t r) (ex t) d := by
  rw [pay1_at]
  simp only [pay18_at _ (ex t) (point1 t), hh, hw, iblk2, iblk3, iblk4]
  rfl

/-- An expert's share by its number. -/
def nth (A : Args) (l : Fin 16384) (d : Fin 1024) (n : ℕ) : EReal := if h : n < 8 then expert A (kw A l) l ⟨n, h⟩ d else 0

theorem nth_ex (A : Args) (l : Fin 16384) (d : Fin 1024) (t : Fin cfg0.N) : nth A l d (t.val % 8) = expert A (kw A l) l (ex t) d :=
  dif_pos (ex t).isLt

theorem sum_nth (A : Args) (l : Fin 16384) (d : Fin 1024) : ∑ n ∈ Finset.range 8, nth A l d n = ∑ e, expert A (kw A l) l e d :=
  (Fin.sum_univ_eq_sum_range (nth A l d) 8).symm.trans (Finset.sum_congr rfl fun e _ => dif_pos e.isLt)

/-- What the scratch arrays hold after a point: the modulated input, the experts' weights, and the sum of the experts so far. -/
structure Holds (c : Dev nD) (t : Fin cfg0.N) (h : Vec Ideal S512x1024 .bf16) (acc : Vec Ideal S512x1024 .f32) (w : Vec Ideal S512x128 .f32) : Prop where
  h : ∀ r k, h (ix2 r k) = hid (argsOf m c) (tok t r) k
  acc : ∀ r d, acc (ix2 r d) = ∑ n ∈ Finset.range (t.val % 8 + 1), nth (argsOf m c) (tok t r) d n
  w : ∀ r e, w (ix2 r (lane e)) = kw (argsOf m c) (tok t r) e

theorem holds_A (c : Dev nD) (t : Fin cfg0.N) (h0 : t.val % 8 = 0) :
    Holds m c t (outsAt0 m c t.val t.isLt).2.1 (outsAt0 m c t.val t.isLt).2.2.1 (outsAt0 m c t.val t.isLt).2.2.2 := by
  rw [outsAt0_A m c t h0 (by omega)]
  refine ⟨fun r k => ?_, fun r d => ?_, fun r e => ?_⟩
  · frame_out
    exact h_at m c t r k
  · frame_out
    refine (expert_at m c t _ _ _ r (fun k => h_at m c t r k) (fun e => w_at m c t r e) d).trans ?_
    rw [pay5_at, zero_add, h0, Finset.sum_range_one, ← nth_ex, h0]
  · frame_out
    exact w_at m c t r e

theorem tok_prev (t : Fin cfg0.N) (h0 : ¬ t.val % 8 = 0) (r : Fin 512) :
    tok ⟨t.val - 1, Nat.lt_of_le_of_lt (Nat.sub_le _ _) t.isLt⟩ r = tok t r :=
  Fin.ext (by show (t.val - 1) / 8 * 512 + r.val = t.val / 8 * 512 + r.val; have : (t.val - 1) / 8 = t.val / 8 := by omega
              rw [this])

/-- A later expert's step. -/
theorem holds_step (c : Dev nD) (t : Fin cfg0.N) (h0 : ¬ t.val % 8 = 0) (h : Vec Ideal S512x1024 .bf16) (acc : Vec Ideal S512x1024 .f32)
    (w : Vec Ideal S512x128 .f32) (H : Holds m c ⟨t.val - 1, Nat.lt_of_le_of_lt (Nat.sub_le _ _) t.isLt⟩ h acc w) :
    Holds m c t h (k0_pay1 acc (k0_pay18 (grid0.coords t) h (wgb m c t) (wub m c t) w) (k0_pay19 (wdb m c t))) w := by
  have hh : ∀ r k, h (ix2 r k) = hid (argsOf m c) (tok t r) k := fun r k => by rw [← tok_prev t h0 r]; exact H.h r k
  have hw : ∀ r e, w (ix2 r (lane e)) = kw (argsOf m c) (tok t r) e := fun r e => by rw [← tok_prev t h0 r]; exact H.w r e
  refine ⟨hh, fun r d => ?_, hw⟩
  rw [expert_at m c t h w acc r (hh r) (hw r) d, Finset.sum_range_succ, nth_ex, H.acc r d, tok_prev t h0 r]
  show ∑ n ∈ Finset.range ((t.val - 1) % 8 + 1), _ + _ = _
  rw [show (t.val - 1) % 8 + 1 = t.val % 8 by omega]

theorem holds_B (c : Dev nD) (t : Fin cfg0.N) (h0 : ¬ t.val % 8 = 0) (h1 : ¬ t.val % 8 = 7)
    (H : Holds m c ⟨t.val - 1, Nat.lt_of_le_of_lt (Nat.sub_le _ _) t.isLt⟩ (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2) :
    Holds m c t (outsAt0 m c t.val t.isLt).2.1 (outsAt0 m c t.val t.isLt).2.2.1 (outsAt0 m c t.val t.isLt).2.2.2 := by
  have S := holds_step m c t h0 _ _ _ H
  rw [outsAt0_B m c t h0 h1]
  refine ⟨fun r k => ?_, fun r d => ?_, fun r e => ?_⟩
  · exact S.h r k
  · frame_out
    simp only [read_unread_whole]
    exact S.acc r d
  · exact S.w r e

theorem holds (c : Dev nD) : ∀ (n : ℕ) (hn : n < cfg0.N), ¬ n % 8 = 7 →
    Holds m c ⟨n, hn⟩ (outsAt0 m c n hn).2.1 (outsAt0 m c n hn).2.2.1 (outsAt0 m c n hn).2.2.2 := by
  intro n
  induction n using Nat.strong_induction_on with
  | _ n ih =>
    intro hn h1
    by_cases h0 : n % 8 = 0
    · exact holds_A m c ⟨n, hn⟩ h0
    · exact holds_B m c ⟨n, hn⟩ h0 h1 (ih (n - 1) (by omega) _ (by omega))

/-- The block written after the last expert. -/
theorem block (c : Dev nD) (t : Fin cfg0.N) (h1 : t.val % 8 = 7) (r : Fin 512) (d : Fin 1024) :
    ((outsAt0 m c t.val t.isLt).1 : Vec Ideal S512x1024 .f32) (ix2 r d)
      = lnorm (pre (argsOf m c) (kw (argsOf m c) (tok t r)) (tok t r)) (argsOf m c).g (argsOf m c).b d := by
  have S := holds_step m c t (by omega) _ _ _ (holds m c (t.val - 1) (Nat.lt_of_le_of_lt (Nat.sub_le _ _) t.isLt) (by omega))
  rw [outsAt0_C m c t (by omega) h1]
  frame_out
  simp only [read_unread_whole]
  refine (pay2_at (xb m c t) (ga m c t) _ (gb m c t) (bb m c t) r d).trans ?_
  simp only [S.acc r, h1, sum_nth, ga_at m c t r, iblk0, iblk7, iblk8]
  rfl

/-- The result array. -/
theorem arr (c : Dev nD) (hA : Finite (argsOf m c)) : ((dats m 0 c).arrAt 9 cfg0.N : Vec Ideal S16384x1024 .f32)
    = fun ix => out (argsOf m c) (ix 0) (ix 1) := by
  refine (dats m 0 c).arrAt_eq_of_covers 9 _ (by decide +kernel) fun t hf y => ?_
  have h1 : t.val % 8 = 7 := (flush0_9 t).mp hf
  obtain ⟨r, d, rfl⟩ : ∃ (r : Fin 512) (d : Fin 1024), y = ix2 r d := ⟨y 0, y 1, funext fun a => by match a with | ⟨0, _⟩ => rfl | ⟨1, _⟩ => rfl⟩
  blk_simp
  rw [after0_9]
  have he : (win0_9.blk t).view.emb (ix2 r d : S512x1024.Idx) = (ix2 (tok t r) d : S16384x1024.Idx) := by
    blk_ext [idx9 t] <;> rfl
  rw [he, block m c t h1 r d]
  exact out_eq (argsOf m c) hA (tok t r) d

end Cert.Kernel2Ideal.Moe

end
-- ==== Proof.MoeRef.lean ====
module

public import proofs.«01_k».proof.Proof.Gen.Reference2Ideal.Run
public import proofs.«01_k».proof.Proof.MoeSpec
public import Idealize.ShloMosaic.Lib.Pointwise

/-!
What the routed feed-forward reference computes over the extended reals, entry by entry.
-/

@[expose] public section

set_option maxRecDepth 16384

noncomputable section

namespace Cert.Reference2Ideal.Moe

open Cert.Reference2Ideal Cert.Reference2Ideal.Gen Cert.Reference2Ideal.Value Cert.MoeSpec
open Idealize.ShloMosaic Idealize.ShloMosaic.TcCoe Idealize.ShloMosaic.StableHlo

variable (V : Valuation τ sig (Elt Ideal))

/-- The layer's arguments, as the reference's arrays hold them. -/
def argsOf : Args where
  x l k := (V (Proc.devRef .tc main_arg0) : Vec Ideal S16384x1024 .f32) (ix2 l k)
  mod i j k := (V (Proc.devRef .tc main_arg1) : Vec Ideal S16x6x1024 .f32) (ix3 i j k)
  rw k e := (V (Proc.devRef .tc main_arg2) : Vec Ideal S1024x8 .f32) (ix2 k e)
  rb e := (V (Proc.devRef .tc main_arg3) : Vec Ideal S8 .f32) (ix1 e)
  wi e k f := (V (Proc.devRef .tc main_arg4) : Vec Ideal S8x1024x2816 .f32) (ix3 e k f)
  wo e f d := (V (Proc.devRef .tc main_arg5) : Vec Ideal S8x1408x1024 .f32) (ix3 e f d)
  g d := (V (Proc.devRef .tc main_arg6) : Vec Ideal S1024 .f32) (ix1 d)
  b d := (V (Proc.devRef .tc main_arg7) : Vec Ideal S1024 .f32) (ix1 d)

theorem v8_at (l : Fin 16384) (j : Fin 6) (k : Fin 1024) :
    (res_main_v8 V : Vec Ideal S16384x6x1024 .f32) (ix3 l j k) = (argsOf V).mod (modRow l) j k := by
  pointwise [res_main_v8]
  unfold argsOf modRow
  by_cases h : l.val < 8192
  · rw [dif_pos h]
    exact congrArg (fun i => (V (Proc.devRef .tc main_arg1) : Vec Ideal S16x6x1024 .f32) (ix3 i j k)) (Fin.ext (if_pos h).symm)
  · rw [dif_neg h]
    exact congrArg (fun i => (V (Proc.devRef .tc main_arg1) : Vec Ideal S16x6x1024 .f32) (ix3 i j k)) (Fin.ext (if_neg h).symm)

theorem neg_inf : Ideal.ofBits .f32 4286578688#32 = ⊥ := by
  show Ideal.ieee 8 23 4286578688#32 = _
  unfold Ideal.ieee
  rw [if_pos (by decide), if_pos (by decide), if_pos (by decide)]

theorem drop_at (l : Fin 16384) (e : Fin 8) : reducesTo_S16384x8_S16384_d1.drop (ix2 l e) = ix1 l := by
  funext a
  match a with
  | ⟨0, _⟩ => exact Fin.ext rfl

theorem rowMax (x : FVec Ideal S16384x8 .f32) (l : Fin 16384) :
    Finset.fold max ⊥ x (Finset.univ.filter fun i => reducesTo_S16384x8_S16384_d1.drop i = ix1 l) = top fun e => x (ix2 l e) := by
  refine le_antisymm ((Finset.fold_max_le _).mpr ⟨bot_le, fun i hi => ?_⟩) (top_le _ _ fun e => (Finset.le_fold_max _).mpr (.inr ⟨ix2 l e, ?_, le_rfl⟩))
  · obtain ⟨a, e, rfl⟩ : ∃ (a : Fin 16384) (e : Fin 8), i = ix2 a e := ⟨i 0, i 1, eq_ix2 i⟩
    have h := (Finset.mem_filter.mp hi).2
    rw [drop_at] at h
    have h' : a = l := congrFun h 0
    rw [h']
    exact le_top (fun e => x (ix2 l e)) e
  · exact Finset.mem_filter.mpr ⟨Finset.mem_univ _, drop_at l e⟩

theorem v18_at (l : Fin 16384) (k : Fin 1024) : (res_main_v18 V : Vec Ideal S16384x1024 .f32) (ix2 l k) = hid (argsOf V) l k := by
  unfold hid
  rw [← v8_at V l 4 k, ← v8_at V l 3 k]
  pointwise [res_main_v18, argsOf]

theorem v22_at (l : Fin 16384) (e : Fin 8) : (res_main_v22 V : Vec Ideal S16384x8 .f32) (ix2 l e) = logit (argsOf V) l e := by
  unfold logit
  simp only [← v18_at]
  pointwise [res_main_v22, argsOf]

/-- The logits' array. -/
abbrev r22 : FVec Ideal S16384x8 .f32 := res_main_v22 V

theorem v29_at (l : Fin 16384) (e : Fin 8) : (res_main_v29 V : Vec Ideal S16384x8 .f32) (ix2 l e)
    = Ideal.exp (logit (argsOf V) l e - top (logit (argsOf V) l)) := by
  have hl : logit (argsOf V) l = fun e => (res_main_v22 V : FVec Ideal S16384x8 .f32) (ix2 l e) := funext fun e => (v22_at V l e).symm
  rw [hl]
  pointwise [res_main_v29]
  rw [neg_inf, max_eq_right bot_le]
  exact congrArg (fun t : EReal => Ideal.exp (r22 V (ix2 l e) - t)) (rowMax (r22 V) l)

theorem v33_at (l : Fin 16384) (e : Fin 8) : (res_main_v33 V : Vec Ideal S16384x8 .f32) (ix2 l e) = soft (logit (argsOf V) l) e := by
  unfold soft
  simp only [← v29_at]
  pointwise [res_main_v33]

theorem v43_at (l : Fin 16384) (e : Fin 8) (f : Fin 2816) : (res_main_v43 V : Vec Ideal S16384x8x2816 .f32) (ix3 l e f) = proj (argsOf V) l e f := by
  unfold proj
  simp only [← v18_at]
  pointwise [res_main_v43, argsOf]

theorem v44_at (l : Fin 16384) (e : Fin 8) (f : Fin 1408) : (res_main_v44 V : Vec Ideal S16384x8x1408 .f32) (ix3 l e f) = proj (argsOf V) l e (gateCol f) := by
  rw [← v43_at]
  pointwise [res_main_v44, gateCol]

theorem along_at (l : Fin 16384) (k : Fin 8) (e : Fin 8) : (ix2 l k : S16384x8.Idx).along 1 e = ix2 l e := by
  funext a
  match a with
  | ⟨0, _⟩ => rfl
  | ⟨1, _⟩ => rfl

theorem topK_val (x : FVec Ideal S16384x8 .f32) (l : Fin 16384) (k : Fin 2) :
    (Host.topK S16384x2 1 (FloatOps.cmpfTotal (F := Ideal) (φ := .f32) .gt) x sliceFits_S16384x8_S16384x2).1 (ix2 l k)
      = x (ix2 l (![(pick fun e => x (ix2 l e)).1, (pick fun e => x (ix2 l e)).2] k)) := by
  rw [← sortedFrom_pick (fun e => x (ix2 l e)) k]
  unfold Host.topK
  pointwise [Host.sort2]
  simp only [along_at]
  rfl

theorem topK_idx (x : FVec Ideal S16384x8 .f32) (l : Fin 16384) (k : Fin 2) :
    (Host.topK S16384x2 1 (FloatOps.cmpfTotal (F := Ideal) (φ := .f32) .gt) x sliceFits_S16384x8_S16384x2).2 (ix2 l k)
      = BitVec.ofNat 32 (![(pick fun e => x (ix2 l e)).1, (pick fun e => x (ix2 l e)).2] k : Fin 8).val := by
  rw [← sortedFrom_pick (fun e => x (ix2 l e)) k]
  unfold Host.topK
  pointwise [Host.sort2]
  simp only [along_at]
  rfl

theorem hot (a e : Fin 8) : FloatOps.uitofp (F := Ideal) FTy.f32 (IntOp.cmpi CmpIPredicate.eq (BitVec.ofNat 32 a.val) (BitVec.ofNat 32 e.val)) = if e = a then 1 else 0 := by
  have h : IntOp.cmpi CmpIPredicate.eq (BitVec.ofNat 32 a.val) (BitVec.ofNat 32 e.val) = if e = a then 1#1 else 0#1 := by
    revert a e; decide
  rw [h]
  split
  · show ((1#1 : BitVec 1).toNat : EReal) = 1
    simp
  · show ((0#1 : BitVec 1).toNat : EReal) = 0
    simp

/-- The two chosen experts of a token, in the order of their probabilities. -/
def chosen (l : Fin 16384) : Fin 2 → Fin 8 := ![(pick (soft (logit (argsOf V) l))).1, (pick (soft (logit (argsOf V) l))).2]

theorem values_at (l : Fin 16384) (k : Fin 2) :
    (res_main_values V : Vec Ideal S16384x2 .f32) (ix2 l k) = soft (logit (argsOf V) l) (chosen V l k) := by
  unfold res_main_values
  refine (topK_val _ l k).trans ?_
  have h : (fun e => (res_main_v33 V : FVec Ideal S16384x8 .f32) (ix2 l e)) = soft (logit (argsOf V) l) := funext fun e => v33_at V l e
  rw [h]
  exact v33_at V l _

theorem indices_at (l : Fin 16384) (k : Fin 2) :
    (Host.topK S16384x2 1 (FloatOps.cmpfTotal (F := Ideal) (φ := .f32) .gt) (res_main_v33 V : FVec Ideal S16384x8 .f32) sliceFits_S16384x8_S16384x2).2 (ix2 l k)
      = BitVec.ofNat 32 (chosen V l k).val := by
  refine (topK_idx _ l k).trans ?_
  have h : (fun e => (res_main_v33 V : FVec Ideal S16384x8 .f32) (ix2 l e)) = soft (logit (argsOf V) l) := funext fun e => v33_at V l e
  rw [h]
  rfl

/-- A token's weights. -/
def comb : FVec Ideal S16384x8 .f32 := Host.reduceAdd (mulf (uitofp .f32 (cmpi .eq (broadcastInDim S16384x2x8 ![0, 1, 2] bcast_S16384x2x1_S16384x2x8_0_1_2 (broadcastInDim S16384x2x1 ![0, 1] bcast_S16384x2_S16384x2x1_0_1 ((Host.topK S16384x2 1 (FloatOps.cmpfTotal (F := Ideal) (φ := .f32) .gt) (res_main_v33 V) sliceFits_S16384x8_S16384x2).2))) (broadcastInDim S16384x2x8 ![0, 1, 2] bcast_S1x1x8_S16384x2x8_0_1_2 (iotaInDim S1x1x8 32 2)))) (broadcastInDim S16384x2x8 ![0, 1, 2] bcast_S16384x2x1_S16384x2x8_0_1_2 (broadcastInDim S16384x2x1 ![0, 1] bcast_S16384x2_S16384x2x1_0_1 (Host.divf (res_main_values V) (broadcastInDim S16384x2 ![0, 1] bcast_S16384x1_S16384x2_0_1 (broadcastInDim S16384x1 ![0] bcast_S16384_S16384x1_0 (Host.reduceAdd (res_main_values V) (constant S_ .f32 0x00000000#32) reducesTo_S16384x2_S16384_d1 h_S_))))))) (constant S_ .f32 0x00000000#32) reducesTo_S16384x2x8_S16384x8_d1 h_S_

theorem comb_at (l : Fin 16384) (e : Fin 8) : comb V (ix2 l e) = weight (soft (logit (argsOf V) l)) e := by
  unfold comb
  pointwise
  simp only [values_at]
  have hi : ∀ k, FloatOps.uitofp (F := Ideal) FTy.f32 (IntOp.cmpi CmpIPredicate.eq ((Host.topK S16384x2 1 (FloatOps.cmpfTotal (F := Ideal) (φ := .f32) .gt) (res_main_v33 V : FVec Ideal S16384x8 .f32) sliceFits_S16384x8_S16384x2).2 (ix2 l k)) (BitVec.ofNat 32 e.val))
      = if e = chosen V l k then 1 else 0 := fun k => by
    rw [indices_at]
    exact hot _ _
  rw [Fin.sum_univ_two, Fin.sum_univ_two]
  refine (congrArg₂ (· + ·) (congrArg (· * _) (hi 0)) (congrArg (· * _) (hi 1))).trans ?_
  simp only [ite_mul, one_mul, zero_mul]
  rfl

/-- What the experts give. -/
def moe : FVec Ideal S16384x1024 .f32 := Host.dotGeneral (φ₁ := .f32) (φ₂ := .f32) dot_S16384x8x1408_S8x1408x1024_S16384x1024_12_01_0_2_n_n none (mulf (mulf (mulf (res_main_v44 V) (Host.divf (broadcastInDim S16384x8x1408 ![] bcast_S_S16384x8x1408 (constant S_ .f32 0x3F800000#32)) (addf (broadcastInDim S16384x8x1408 ![] bcast_S_S16384x8x1408 (constant S_ .f32 0x3F800000#32)) (Host.exp (Host.negf (res_main_v44 V)))))) (extractStridedSlice S16384x8x1408 ![0, 0, 1408] (res_main_v43 V) slices_S16384x8x2816_S16384x8x1408_0_0_1408)) (broadcastInDim S16384x8x1408 ![0, 1, 2] bcast_S16384x8x1_S16384x8x1408_0_1_2 (broadcastInDim S16384x8x1 ![0, 1] bcast_S16384x8_S16384x8x1_0_1 (comb V)))) (V (Proc.devRef .tc main_arg5))

theorem moe_at (l : Fin 16384) (d : Fin 1024) : moe V (ix2 l d) = ∑ e, expert (argsOf V) (weight (soft (logit (argsOf V) l))) l e d := by
  unfold moe
  pointwise
  refine Finset.sum_congr rfl fun e _ => ?_
  unfold expert act silu
  rw [← comb_at]
  refine Finset.sum_congr rfl fun f _ => ?_
  rw [← v44_at, ← v43_at]
  unfold argsOf upCol
  rfl

theorem v55_at (l : Fin 16384) (d : Fin 1024) : (res_main_v55 V : Vec Ideal S16384x1024 .f32) (ix2 l d)
    = pre (argsOf V) (weight (soft (logit (argsOf V) l))) l d := by
  unfold pre
  rw [← moe_at, ← v8_at]
  have h : (res_main_v55 V : Vec Ideal S16384x1024 .f32) = addf (mulf (broadcastInDim S16384x1024 ![] bcast_S_S16384x1024 (constant S_ .f32 0x3FD744FD#32)) (V (Proc.devRef .tc main_arg0))) (mulf (shapeCast _ (extractStridedSlice S16384x1x1024 ![0, 5, 0] (res_main_v8 V) slices_S16384x6x1024_S16384x1x1024_0_5_0) shapeCasts_S16384x1x1024_S16384x1024) (moe V)) := rfl
  rw [h]
  pointwise [argsOf]
  rfl

/-- The mean of a row, and the row less its mean. -/
theorem v59_at (l : Fin 16384) : (res_main_v59 V : Vec Ideal S16384x1 .f32) (ix2 l 0) = mean (pre (argsOf V) (weight (soft (logit (argsOf V) l))) l) := by
  unfold mean
  simp only [← v55_at]
  pointwise [res_main_v59]
  rfl

theorem v61_at (l : Fin 16384) (d : Fin 1024) : (res_main_v61 V : Vec Ideal S16384x1024 .f32) (ix2 l d)
    = pre (argsOf V) (weight (soft (logit (argsOf V) l))) l d - mean (pre (argsOf V) (weight (soft (logit (argsOf V) l))) l) := by
  rw [← v59_at, ← v55_at]
  pointwise [res_main_v61]

/-- The centred rows' array. -/
abbrev r61 : FVec Ideal S16384x1024 .f32 := res_main_v61 V

/-- The result. -/
def result : FVec Ideal S16384x1024 .f32 := addf (mulf (mulf (subf (res_main_v55 V) (broadcastInDim S16384x1024 ![0, 1] bcast_S16384x1_S16384x1024_0_1 (res_main_v59 V))) (broadcastInDim S16384x1024 ![0, 1] bcast_S16384x1_S16384x1024_0_1 (Host.rsqrt (addf (Host.divf (broadcastInDim S16384x1 ![0] bcast_S16384_S16384x1_0 (Host.reduceAdd (mulf (res_main_v61 V) (res_main_v61 V)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (V (Proc.devRef .tc main_arg6))))) (broadcastInDim S16384x1024 ![0, 1] bcast_S1x1024_S16384x1024_0_1 (broadcastInDim S1x1024 ![1] bcast_S1024_S1x1024_1 (V (Proc.devRef .tc main_arg7))))

theorem result_at (l : Fin 16384) (d : Fin 1024) : result V (ix2 l d) = out (argsOf V) l d := by
  unfold out lnorm
  rw [show (fun k => (pre (argsOf V) (weight (soft (logit (argsOf V) l))) l k - mean (pre (argsOf V) (weight (soft (logit (argsOf V) l))) l))
      * (pre (argsOf V) (weight (soft (logit (argsOf V) l))) l k - mean (pre (argsOf V) (weight (soft (logit (argsOf V) l))) l)))
      = fun k => r61 V (ix2 l k) * r61 V (ix2 l k) from funext fun k => by rw [← v61_at]]
  rw [← v55_at, ← v59_at]
  unfold result mean
  pointwise [argsOf]
  rfl

/-- The result array. -/
theorem result_eq : result V = fun ix => out (argsOf V) (ix 0) (ix 1) := by
  funext ix
  rw [eq_ix2 ix]
  exact result_at V _ _

theorem result_of (A : Args) (h : argsOf V = A) : result V = fun ix => out A (ix 0) (ix 1) := by
  rw [← h]; exact result_eq V

end Cert.Reference2Ideal.Moe

end
-- ==== Proof.MoeClaims.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Pre_finite_router
public import proofs.«01_k».proof.Proof.MoeVal
public import proofs.«01_k».proof.Proof.MoeRef
public import Idealize.ShloMosaic.Lib.Quiescent

/-!
The claims about the routed feed-forward layer: both kernels and the reference run and leave everything else as it was,
and over the extended reals, where the router's weights and the modulation's shift and scale are reals, the kernel's
result is the reference's.
-/

@[expose] public section

set_option maxRecDepth 16384

noncomputable section

namespace Cert.MoeClaims

open Idealize.ShloMosaic Idealize.ShloMosaic.TcCoe Idealize.SL.Sem Cert.MoeSpec

theorem kernel_runs : Cert.quiescent_Kernel2 (hKernel2 := Cert.Kernel2.Gen.facts) := fun m ρ _ => Cert.Kernel2.Gen.frame m ρ

theorem ideal_runs : Cert.quiescent_Kernel2Ideal (hKernel2Ideal := Cert.Kernel2Ideal.Gen.facts) := fun m ρ _ => Cert.Kernel2Ideal.Gen.frame m ρ

theorem ideal_runs_pre : Cert.quiescent_Kernel2Ideal_pre_finite_router (hKernel2Ideal := Cert.Kernel2Ideal.Gen.facts)
    (hPre_finite_router := Cert.Pre_finite_router.Gen.facts) := fun m ρ _ => Cert.Kernel2Ideal.Gen.frame m ρ

theorem reference_runs : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

theorem reference_runs_pre : Cert.quiescent_Reference2Ideal_pre_finite_router (hReference2Ideal := Cert.Reference2Ideal.Gen.facts)
    (hPre_finite_router := Cert.Pre_finite_router.Gen.facts) := fun m ρ _ => reference_runs m ρ trivial

theorem pos_inf : Ideal.ofBits .f32 2139095040#32 = ⊤ := by
  show Ideal.ieee 8 23 2139095040#32 = _
  unfold Ideal.ieee
  rw [if_pos (by decide), if_pos (by decide), if_neg (by decide)]

theorem real_of_lt (x : EReal) (h : BitVec.ofBool (decide (FloatOps.absf (F := Ideal) (φ := .f32) x < Ideal.ofBits .f32 2139095040#32)) = 1#1) :
    ∃ r : ℝ, x = r := by
  rw [pos_inf] at h
  have h' : max x (-x) < ⊤ := by
    by_contra hn
    have hd : decide (FloatOps.absf (F := Ideal) (φ := .f32) x < (⊤ : EReal)) = false := decide_eq_false hn
    rw [hd] at h
    exact absurd h (by decide)
  induction x using EReal.rec with
  | bot => exact absurd h' (by simp)
  | top => exact absurd h' (by simp)
  | coe r => exact ⟨r, rfl⟩

theorem pre_mod (a0 a1 a2 a3 a4 a5 a6 a7) (i : Fin 9) (j : Fin 2) (k : Fin 1024) :
   (Cert.Pre_finite_router.fn (F := Ideal) a0 a1 a2 a3 a4 a5 a6 a7).1 (ix3 i j k) = 1#1 → ∃ r : ℝ, a1 (ix3 ⟨i.val, by omega⟩ ⟨3 + j.val, by omega⟩ k) = r := by
  unfold Cert.Pre_finite_router.fn
  pointwise
  intro h
  exact real_of_lt _ h

theorem pre_rw (a0 a1 a2 a3 a4 a5 a6 a7) (k : Fin 1024) (e : Fin 8) :
   (Cert.Pre_finite_router.fn (F := Ideal) a0 a1 a2 a3 a4 a5 a6 a7).2 (ix2 k e) = 1#1 → ∃ r : ℝ, a2 (ix2 k e) = r := by
  unfold Cert.Pre_finite_router.fn
  pointwise
  intro h
  exact real_of_lt _ h

/-- The layer's arguments are finite where the precondition says so. -/
theorem finite (m : (ℓ : Loc Cert.Kernel2Ideal.nD Cert.Kernel2Ideal.τ Cert.Kernel2Ideal.sig) → Buf (Elt Ideal) ℓ)
    (h : Cert.Pre_Kernel2Ideal_finite_router (hPre_finite_router := Cert.Pre_finite_router.Gen.facts) m) (c : Dev Cert.Kernel2Ideal.nD) :
    Finite (Cert.Kernel2Ideal.Moe.argsOf m c) where
  mod i hi k := ⟨pre_mod _ _ _ _ _ _ _ _ ⟨i.val, hi⟩ 0 k (congrFun (h c).1 _), pre_mod _ _ _ _ _ _ _ _ ⟨i.val, hi⟩ 1 k (congrFun (h c).1 _)⟩
  rw k e := pre_rw _ _ _ _ _ _ _ _ k e (congrFun (h c).2 _)

/-- The kernel computes the layer. -/
theorem values : Cert.algebraic_Kernel2Ideal_Reference2Ideal_pre_finite_router (hKernel2Ideal := Cert.Kernel2Ideal.Gen.facts)
    (hReference2Ideal := Cert.Reference2Ideal.Gen.facts) (hPre_finite_router := Cert.Pre_finite_router.Gen.facts) := by
  intro m ρ m' ρ' hpre hin
  have hA : ∀ c, Cert.Reference2Ideal.Moe.argsOf (StableHlo.launchContents m' c) = Cert.Kernel2Ideal.Moe.argsOf m c := by
    intro c
    obtain ⟨h0, h1, h2, h3, h4, h5, h6, h7⟩ := hin c
    unfold Cert.Kernel2Ideal.Moe.argsOf
    rw [← h0, ← h1, ← h2, ← h3, ← h4, ← h5, ← h6, ← h7]
    rfl
  refine ⟨fun c => fun ix => out (Cert.Kernel2Ideal.Moe.argsOf m c) (ix 0) (ix 1), ?_, ?_⟩
  · exact (θ_run Cert.Kernel2Ideal.defs _ _).mono (fun _ h c =>
      ⟨((h.1 c).1 9).trans (Cert.Kernel2Ideal.Moe.arr m c (finite m hpre c)), h.2 c⟩)
      (θ_run_and (Cert.Kernel2Ideal.Gen.run_main m ρ) (Cert.Kernel2Ideal.Gen.unchanged m ρ))
  · exact (θ_run Cert.Reference2Ideal.defs _ _).mono (fun _ h c =>
      ⟨(h c).1.trans (Cert.Reference2Ideal.Moe.result_of _ _ (hA c)), (h c).2⟩)
      (Cert.Reference2Ideal.Value.run (F := Ideal) m' ρ')

end Cert.MoeClaims

end
-- ==== Proof.DenseSpec.lean ====
module

public import proofs.«01_k».proof.Proof.MoeSpec

/-!
The dense feed-forward layer as mathematics over the extended reals: the modulated tokens, the gated product, the scaled
residual and the layer norm. The kernel adds the hidden units in two halves; both halves are all of them.
-/

@[expose] public section

noncomputable section

namespace Cert.DenseSpec

open Cert.MoeSpec (modRow alpha silu lnorm)

/-- The layer's arguments. -/
structure Args where
  x : Fin 16384 → Fin 1024 → EReal
  mod : Fin 16 → Fin 6 → Fin 1024 → EReal
  wi : Fin 1024 → Fin 5632 → EReal
  wo : Fin 2816 → Fin 1024 → EReal
  g : Fin 1024 → EReal
  b : Fin 1024 → EReal

variable (A : Args)

/-- The modulated input. -/
def hid (l : Fin 16384) (k : Fin 1024) : EReal := A.x l k * (1 + A.mod (modRow l) 4 k) + A.mod (modRow l) 3 k

/-- Column `f` of the gate's half of the first weights, and of the other half. -/
def gateCol (f : Fin 2816) : Fin 5632 := ⟨f.val, by omega⟩
def upCol (f : Fin 2816) : Fin 5632 := ⟨2816 + f.val, by omega⟩

/-- A product of the modulated input with a column of the first weights. -/
def proj (l : Fin 16384) (f : Fin 5632) : EReal := ∑ k, hid A l k * A.wi k f

/-- A hidden unit's share of the output. -/
def unit (l : Fin 16384) (d : Fin 1024) (f : Fin 2816) : EReal :=
  silu (proj A l (gateCol f)) * proj A l (upCol f) * A.wo f d

/-- What is normalised. -/
def pre (l : Fin 16384) (d : Fin 1024) : EReal := alpha * A.x l d + A.mod (modRow l) 5 d * ∑ f, unit A l d f

/-- The layer's result. -/
def out (l : Fin 16384) (d : Fin 1024) : EReal := lnorm (pre A l) A.g A.b d

/-- Hidden unit `f` of half `e`. -/
def half (e : Fin 2) (f : Fin 1408) : Fin 2816 := ⟨e.val * 1408 + f.val, by omega⟩

theorem sum_halves (u : Fin 2816 → EReal) : ∑ f, u (half 0 f) + ∑ f, u (half 1 f) = ∑ f, u f := by
  rw [show (∑ f : Fin 2816, u f) = ∑ f : Fin (1408 + 1408), u f from rfl, Fin.sum_univ_add]
  refine congrArg₂ (· + ·) (Finset.sum_congr rfl fun f _ => congrArg u (Fin.ext ?_)) (Finset.sum_congr rfl fun f _ => congrArg u (Fin.ext ?_))
  · show 0 * 1408 + f.val = f.val
    omega
  · show 1 * 1408 + f.val = 1408 + f.val
    omega

end Cert.DenseSpec

end
-- ==== Proof.DenseVal.lean ====
module

public import proofs.«01_k».proof.Proof.Gen.Kernel3Ideal.Frame
public import proofs.«01_k».proof.Proof.DenseSpec
public import Idealize.ShloMosaic.Lib.Pointwise
public import Idealize.ShloMosaic.Lib.Pipeline.ValueKit
public import Idealize.ShloMosaic.Lib.Pipeline.ReadBack

/-!
What the dense feed-forward kernel computes over the extended reals. Point `t` works on the 512 tokens of tile `t / 2` and
on half `t % 2` of the hidden units: the first half leaves the modulated input and its product in the scratch arrays, the
second adds its own and normalises.
-/

@[expose] public section

set_option maxRecDepth 16384

noncomputable section

namespace Cert.Kernel3Ideal.Dense

open Cert.Kernel3Ideal Cert.Kernel3Ideal.Gen Cert.DenseSpec
open Cert.MoeSpec (modRow alpha silu lnorm)
open Idealize.ShloMosaic Idealize.ShloMosaic.TcCoe
open Idealize.ShloMosaic.Pipeline (Dat)

variable (m : (ℓ : Loc nD τ sig) → Buf (Elt Ideal) ℓ)

/-- The layer's arguments, as the arrays hold them. -/
def argsOf (c : Dev nD) : Args where
  x l k := (m ((c.tc : Thread nD τ).loc main_arg0) : Vec Ideal S16384x1024 .f32) (ix2 l k)
  mod i j k := (m ((c.tc : Thread nD τ).loc main_arg1) : Vec Ideal S16x6x1024 .f32) (ix3 i j k)
  wi k f := (m ((c.tc : Thread nD τ).loc main_arg2) : Vec Ideal S1024x5632 .f32) (ix2 k f)
  wo f d := (m ((c.tc : Thread nD τ).loc main_arg3) : Vec Ideal S2816x1024 .f32) (ix2 f d)
  g d := (m ((c.tc : Thread nD τ).loc main_arg4) : Vec Ideal S1024 .f32) (ix1 d)
  b d := (m ((c.tc : Thread nD τ).loc main_arg5) : Vec Ideal S1024 .f32) (ix1 d)

theorem tlt (t : Fin cfg0.N) : t.val < 64 := t.isLt
/-- The token that row `r` of point `t`'s tile stands for, and the point's half. -/
def tok (t : Fin cfg0.N) (r : Fin 512) : Fin 16384 := ⟨t.val / 2 * 512 + r.val, by have := tlt t; omega⟩
def part (t : Fin cfg0.N) : Fin 2 := ⟨t.val % 2, Nat.mod_lt _ (by decide)⟩
/-- The tile's row of the modulation table. -/
def tileRow (t : Fin cfg0.N) : Fin 16 := ⟨if t.val / 2 < 16 then 8 else (t.val / 2 - 16) / 2, by have := tlt t; split <;> omega⟩

theorem tileRow_eq (t : Fin cfg0.N) (r : Fin 512) : tileRow t = modRow (tok t r) := by
  have := tlt t
  refine Fin.ext ?_
  show (if t.val / 2 < 16 then 8 else (t.val / 2 - 16) / 2)
    = if t.val / 2 * 512 + r.val < 8192 then 8 else (t.val / 2 * 512 + r.val - 8192) / 1024
  have hr := r.isLt
  split <;> split <;> omega

theorem idx0 : ∀ t : Fin cfg0.N, (cfg0.win 0).index t = ![t.val / 2, 0] := by decide +kernel
theorem idx1 : ∀ t : Fin cfg0.N, (cfg0.win 1).index t = ![if t.val / 2 < 16 then 8 else (t.val / 2 - 16) / 2, 0, 0] := by decide +kernel
theorem idx2 : ∀ t : Fin cfg0.N, (cfg0.win 2).index t = ![0, t.val % 2] := by decide +kernel
theorem idx3 : ∀ t : Fin cfg0.N, (cfg0.win 3).index t = ![0, t.val % 2 + 2] := by decide +kernel
theorem idx4 : ∀ t : Fin cfg0.N, (cfg0.win 4).index t = ![t.val % 2, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![t.val / 2, 0] := by decide +kernel

/-- The blocks of a point. -/
abbrev xb (c : Dev nD) (t : Fin cfg0.N) : Vec Ideal S512x1024 .f32 := iblk m c 0 t
abbrev mb (c : Dev nD) (t : Fin cfg0.N) : Vec Ideal S1x6x1024 .f32 := iblk m c 1 t
abbrev wgb (c : Dev nD) (t : Fin cfg0.N) : Vec Ideal S1024x1408 .bf16 := iblk m c 2 t
abbrev wub (c : Dev nD) (t : Fin cfg0.N) : Vec Ideal S1024x1408 .bf16 := iblk m c 3 t
abbrev wdb (c : Dev nD) (t : Fin cfg0.N) : Vec Ideal S1408x1024 .bf16 := iblk m c 4 t
abbrev gb (c : Dev nD) (t : Fin cfg0.N) : Vec Ideal S1x1024 .f32 := iblk m c 7 t
abbrev bb (c : Dev nD) (t : Fin cfg0.N) : Vec Ideal S1x1024 .f32 := iblk m c 8 t

theorem xb_at (c : Dev nD) (t : Fin cfg0.N) (r : Fin 512) (k : Fin 1024) : xb m c t (ix2 r k) = (argsOf m c).x (tok t r) k := by
  unfold argsOf xb
  blk_ext [iblk, V, idx0 t] <;> rfl

theorem mb_at' (c : Dev nD) (t : Fin cfg0.N) (j : Fin 6) (k : Fin 1024) : mb m c t (ix3 0 j k) = (argsOf m c).mod (tileRow t) j k := by
  unfold argsOf mb
  blk_ext [iblk, V, idx1 t] <;> rfl

theorem mb_at (c : Dev nD) (t : Fin cfg0.N) (r : Fin 512) (j : Fin 6) (k : Fin 1024) :
    mb m c t (ix3 0 j k) = (argsOf m c).mod (modRow (tok t r)) j k := by
  rw [mb_at', tileRow_eq t r]

theorem wgb_at (c : Dev nD) (t : Fin cfg0.N) (k : Fin 1024) (f : Fin 1408) : wgb m c t (ix2 k f) = (argsOf m c).wi k (gateCol (half (part t) f)) := by
  unfold argsOf wgb
  blk_ext! [iblk, V, idx2 t] <;> rfl

theorem up_eq (t : Fin cfg0.N) (f : Fin 1408) : (⟨(t.val % 2 + 2) * 1408 + f.val, by have := f.isLt; omega⟩ : Fin 5632) = upCol (half (part t) f) :=
  Fin.ext (by show (t.val % 2 + 2) * 1408 + f.val = 2816 + (t.val % 2 * 1408 + f.val); omega)

theorem wub_at (c : Dev nD) (t : Fin cfg0.N) (k : Fin 1024) (f : Fin 1408) : wub m c t (ix2 k f) = (argsOf m c).wi k (upCol (half (part t) f)) := by
  rw [← up_eq]
  unfold argsOf wub
  blk_ext! [iblk, V, idx3 t] <;> rfl

theorem wdb_at (c : Dev nD) (t : Fin cfg0.N) (f : Fin 1408) (d : Fin 1024) : wdb m c t (ix2 f d) = (argsOf m c).wo (half (part t) f) d := by
  unfold argsOf wdb
  blk_ext! [iblk, V, idx4 t] <;> rfl

theorem V4 (c : Dev nD) : (V m c main_v4 : Vec Ideal S1x1024 .f32) = broadcastInDim S1x1024 ![1] bcast_S1024_S1x1024_1 (m ((c.tc : Thread nD τ).loc main_arg4) : Vec Ideal S1024 .f32) := by
  unfold_abbrev_sides
  simp only [List.flatten_cons, List.flatten_nil, List.cons_append, List.nil_append, hostOps0]
  after_results_simp

theorem V5 (c : Dev nD) : (V m c main_v5 : Vec Ideal S1x1024 .f32) = broadcastInDim S1x1024 ![1] bcast_S1024_S1x1024_1 (m ((c.tc : Thread nD τ).loc main_arg5) : Vec Ideal S1024 .f32) := by
  unfold_abbrev_sides
  simp only [List.flatten_cons, List.flatten_nil, List.cons_append, List.nil_append, hostOps0]
  after_results_simp

theorem gb_at (c : Dev nD) (t : Fin cfg0.N) (d : Fin 1024) : gb m c t (ix2 0 d) = (argsOf m c).g d := by
  show (V m c main_v4 : Vec Ideal S1x1024 .f32) ((win0_7.blk t).view.emb (ix2 0 d)) = _
  have he : (win0_7.blk t).view.emb (ix2 0 d : S1x1024.Idx) = (ix2 0 d : S1x1024.Idx) := by
    blk_ext [idx7 t]
  rw [he, V4]
  pointwise
  rfl

theorem bb_at (c : Dev nD) (t : Fin cfg0.N) (d : Fin 1024) : bb m c t (ix2 0 d) = (argsOf m c).b d := by
  show (V m c main_v5 : Vec Ideal S1x1024 .f32) ((win0_8.blk t).view.emb (ix2 0 d)) = _
  have he : (win0_8.blk t).view.emb (ix2 0 d : S1x1024.Idx) = (ix2 0 d : S1x1024.Idx) := by
    blk_ext [idx8 t]
  rw [he, V5]
  pointwise
  rfl

/-- Rows of the modulation block. -/
abbrev sc (c : Dev nD) (t : Fin cfg0.N) : Vec Ideal S1x1x1024 .f32 :=
  View.ld (mb m c t) (Rect.unit ![0, 4, 0] ![1, 1, 1024] inb_S1x6x1024_S1x1x1024_0_4_0)
abbrev sh (c : Dev nD) (t : Fin cfg0.N) : Vec Ideal S1x1x1024 .f32 :=
  View.ld (mb m c t) (Rect.unit ![0, 3, 0] ![1, 1, 1024] inb_S1x6x1024_S1x1x1024_0_3_0)
abbrev ga (c : Dev nD) (t : Fin cfg0.N) : Vec Ideal S1x1x1024 .f32 :=
  View.ld (mb m c t) (Rect.unit ![0, 5, 0] ![1, 1, 1024] inb_S1x6x1024_S1x1x1024_0_5_0)

theorem sc_at (c : Dev nD) (t : Fin cfg0.N) (r : Fin 512) (k : Fin 1024) : sc m c t (ix3 0 0 k) = (argsOf m c).mod (modRow (tok t r)) 4 k := by
  rw [← mb_at m c t r 4 k]
  pointwise [sc]
theorem sh_at (c : Dev nD) (t : Fin cfg0.N) (r : Fin 512) (k : Fin 1024) : sh m c t (ix3 0 0 k) = (argsOf m c).mod (modRow (tok t r)) 3 k := by
  rw [← mb_at m c t r 3 k]
  pointwise [sh]
theorem ga_at (c : Dev nD) (t : Fin cfg0.N) (r : Fin 512) (k : Fin 1024) : ga m c t (ix3 0 0 k) = (argsOf m c).mod (modRow (tok t r)) 5 k := by
  rw [← mb_at m c t r 5 k]
  pointwise [ga]

theorem pay1_at (x : Vec Ideal S512x1024 .f32) (s z : Vec Ideal S1x1x1024 .f32) (r : Fin 512) (k : Fin 1024) :
    k0_pay1 x s z (ix2 r k) = x (ix2 r k) * (1 + s (ix3 0 0 k)) + z (ix3 0 0 k) := by
  pointwise [k0_pay1]

theorem pay2_at (r : Fin 512) (d : Fin 1024) : k0_pay2 (F := Ideal) (ix2 r d) = 0 := by
  pointwise [k0_pay2]

theorem pay3_at (h : Vec Ideal S512x1024 .bf16) (wg wu : Vec Ideal S1024x1408 .bf16) (acc : Vec Ideal S512x1024 .f32) (wd : Vec Ideal S1408x1024 .bf16)
    (r : Fin 512) (d : Fin 1024) :
    k0_pay3 h wg wu acc wd (ix2 r d) = acc (ix2 r d)
      + ∑ f, silu (∑ k, h (ix2 r k) * wg (ix2 k f)) * (∑ k, h (ix2 r k) * wu (ix2 k f)) * wd (ix2 f d) := by
  unfold silu
  simp only [← zero_sub]
  pointwise [k0_pay3]

theorem pay4_at (x : Vec Ideal S512x1024 .f32) (gate : Vec Ideal S1x1x1024 .f32) (acc : Vec Ideal S512x1024 .f32) (g b : Vec Ideal S1x1024 .f32)
    (r : Fin 512) (d : Fin 1024) :
    k0_pay4 x gate acc g b (ix2 r d) = lnorm (fun k => alpha * x (ix2 r k) + gate (ix3 0 0 k) * acc (ix2 r k)) (fun k => g (ix2 0 k)) (fun k => b (ix2 0 k)) d := by
  pointwise [k0_pay4]
  rfl

theorem h_at (c : Dev nD) (t : Fin cfg0.N) (r : Fin 512) (k : Fin 1024) :
    k0_pay1 (xb m c t) (sc m c t) (sh m c t) (ix2 r k) = hid (argsOf m c) (tok t r) k := by
  rw [pay1_at, xb_at, sc_at m c t r, sh_at m c t r]; rfl

/-- One half's product with its weights, from the scratch arrays. -/
theorem half_at (c : Dev nD) (t : Fin cfg0.N) (h : Vec Ideal S512x1024 .bf16) (acc : Vec Ideal S512x1024 .f32) (r : Fin 512)
    (hh : ∀ k, h (ix2 r k) = hid (argsOf m c) (tok t r) k) (d : Fin 1024) :
    k0_pay3 h (wgb m c t) (wub m c t) acc (wdb m c t) (ix2 r d)
      = acc (ix2 r d) + ∑ f, unit (argsOf m c) (tok t r) d (half (part t) f) := by
  rw [pay3_at]
  simp only [hh, wgb_at, wub_at, wdb_at]
  rfl

/-- What the scratch arrays hold after a first half. -/
theorem holds_h (c : Dev nD) (t : Fin cfg0.N) (h0 : t.val % 2 = 0) (r : Fin 512) (k : Fin 1024) :
    ((outsAt0 m c t.val t.isLt).2.1 : Vec Ideal S512x1024 .bf16) (ix2 r k) = hid (argsOf m c) (tok t r) k := by
  rw [outsAt0_A m c t h0 (by omega)]
  frame_out
  exact h_at m c t r k

theorem holds_acc (c : Dev nD) (t : Fin cfg0.N) (h0 : t.val % 2 = 0) (r : Fin 512) (d : Fin 1024) :
    ((outsAt0 m c t.val t.isLt).2.2 : Vec Ideal S512x1024 .f32) (ix2 r d) = ∑ f, unit (argsOf m c) (tok t r) d (half 0 f) := by
  rw [outsAt0_A m c t h0 (by omega)]
  frame_out
  refine (half_at m c t _ _ r (fun k => h_at m c t r k) d).trans ?_
  rw [pay2_at, zero_add, show part t = 0 from Fin.ext h0]

theorem tok_prev (t : Fin cfg0.N) (h1 : t.val % 2 = 1) (r : Fin 512) :
    tok ⟨t.val - 1, Nat.lt_of_le_of_lt (Nat.sub_le _ _) t.isLt⟩ r = tok t r :=
  Fin.ext (by show (t.val - 1) / 2 * 512 + r.val = t.val / 2 * 512 + r.val; have : (t.val - 1) / 2 = t.val / 2 := by omega
              rw [this])

/-- The second half's step completes the sum. -/
theorem whole_at (c : Dev nD) (t : Fin cfg0.N) (h1 : t.val % 2 = 1) (r : Fin 512) (d : Fin 1024) :
    k0_pay3 (outsAt0 m c (t.val - 1) (Nat.lt_of_le_of_lt (Nat.sub_le _ _) t.isLt)).2.1 (wgb m c t) (wub m c t)
        (outsAt0 m c (t.val - 1) (Nat.lt_of_le_of_lt (Nat.sub_le _ _) t.isLt)).2.2 (wdb m c t) (ix2 r d)
      = ∑ f, unit (argsOf m c) (tok t r) d f := by
  have e0 : (t.val - 1) % 2 = 0 := by omega
  have hh := fun k => holds_h m c ⟨t.val - 1, Nat.lt_of_le_of_lt (Nat.sub_le _ _) t.isLt⟩ e0 r k
  have ha := holds_acc m c ⟨t.val - 1, Nat.lt_of_le_of_lt (Nat.sub_le _ _) t.isLt⟩ e0 r d
  rw [tok_prev t h1 r] at hh ha
  rw [half_at m c t _ _ r hh d, ha, show part t = 1 from Fin.ext h1]
  exact sum_halves (unit (argsOf m c) (tok t r) d)

/-- The block written after the second half. -/
theorem block (c : Dev nD) (t : Fin cfg0.N) (h1 : t.val % 2 = 1) (r : Fin 512) (d : Fin 1024) :
    ((outsAt0 m c t.val t.isLt).1 : Vec Ideal S512x1024 .f32) (ix2 r d) = out (argsOf m c) (tok t r) d := by
  have S := whole_at m c t h1 r
  rw [outsAt0_B m c t (by omega) h1]
  frame_out
  simp only [read_unread_whole]
  refine (pay4_at (xb m c t) (ga m c t) _ (gb m c t) (bb m c t) r d).trans ?_
  simp only [S, ga_at m c t r, xb_at, gb_at, bb_at]
  rfl

/-- The result array. -/
theorem arr (c : Dev nD) : ((dats m 0 c).arrAt 9 cfg0.N : Vec Ideal S16384x1024 .f32) = fun ix => out (argsOf m c) (ix 0) (ix 1) := by
  refine (dats m 0 c).arrAt_eq_of_covers 9 _ (by decide +kernel) fun t hf y => ?_
  have h1 : t.val % 2 = 1 := (flush0_9 t).mp hf
  obtain ⟨r, d, rfl⟩ : ∃ (r : Fin 512) (d : Fin 1024), y = ix2 r d := ⟨y 0, y 1, funext fun a => by match a with | ⟨0, _⟩ => rfl | ⟨1, _⟩ => rfl⟩
  blk_simp
  rw [after0_9]
  have he : (win0_9.blk t).view.emb (ix2 r d : S512x1024.Idx) = (ix2 (tok t r) d : S16384x1024.Idx) := by
    blk_ext [idx9 t] <;> rfl
  rw [he]
  exact block m c t h1 r d

end Cert.Kernel3Ideal.Dense

end
-- ==== Proof.DenseRef.lean ====
module

public import proofs.«01_k».proof.Proof.Gen.Reference3Ideal.Run
public import proofs.«01_k».proof.Proof.DenseSpec
public import Idealize.ShloMosaic.Lib.Pointwise

/-!
What the dense feed-forward layer's reference computes over the extended reals, entry by entry.
-/

@[expose] public section

set_option maxRecDepth 16384

noncomputable section

namespace Cert.Reference3Ideal.Dense

open Cert.Reference3Ideal Cert.Reference3Ideal.Gen Cert.DenseSpec
open Cert.MoeSpec (modRow alpha silu lnorm mean)
open Idealize.ShloMosaic Idealize.ShloMosaic.TcCoe

variable (a0 : FVec Ideal S16384x1024 .f32) (a1 : FVec Ideal S16x6x1024 .f32) (a2 : FVec Ideal S1024x5632 .f32) (a3 : FVec Ideal S2816x1024 .f32)
  (a4 a5 : FVec Ideal S1024 .f32)

/-- The layer's arguments, from the arrays. -/
def argsOf : Args where
  x l k := a0 (ix2 l k)
  mod i j k := a1 (ix3 i j k)
  wi k f := a2 (ix2 k f)
  wo f d := a3 (ix2 f d)
  g d := a4 (ix1 d)
  b d := a5 (ix1 d)

/-- Every token's row of the modulation table. -/
def tab : FVec Ideal S16384x6x1024 .f32 := concatenate S16384x6x1024 0 [⟨S8192x6x1024, (broadcastInDim S8192x6x1024 ![0, 1, 2] bcast_S1x6x1024_S8192x6x1024_0_1_2 (broadcastInDim S1x6x1024 ![1, 2] bcast_S6x1024_S1x6x1024_1_2 (shapeCast _ (extractStridedSlice S1x6x1024 ![8, 0, 0] a1 slices_S16x6x1024_S1x6x1024_8_0_0) shapeCasts_S1x6x1024_S6x1024)))⟩, ⟨S8192x6x1024, (shapeCast _ (broadcastInDim S8x1024x6x1024 ![0, 1, 2, 3] bcast_S8x1x6x1024_S8x1024x6x1024_0_1_2_3 (broadcastInDim S8x1x6x1024 ![0, 2, 3] bcast_S8x6x1024_S8x1x6x1024_0_2_3 (extractStridedSlice S8x6x1024 ![0, 0, 0] a1 slices_S16x6x1024_S8x6x1024_0_0_0))) shapeCasts_S8x1024x6x1024_S8192x6x1024)⟩] concatenates_S8192x6x1024_S8192x6x1024_S16384x6x1024_d0

theorem tab_at (l : Fin 16384) (j : Fin 6) (k : Fin 1024) : tab a1 (ix3 l j k) = a1 (ix3 (modRow l) j k) := by
  pointwise [tab]
  unfold modRow
  by_cases h : l.val < 8192
  · rw [dif_pos h]
    exact congrArg (fun i => a1 (ix3 i j k)) (Fin.ext (if_pos h).symm)
  · rw [dif_neg h]
    exact congrArg (fun i => a1 (ix3 i j k)) (Fin.ext (if_neg h).symm)

/-- The modulated tokens. -/
def hid : FVec Ideal S16384x1024 .f32 := addf (mulf a0 (addf (broadcastInDim S16384x1024 ![] bcast_S_S16384x1024 (constant S_ .f32 0x3F800000#32)) (shapeCast _ (extractStridedSlice S16384x1x1024 ![0, 4, 0] (tab a1) slices_S16384x6x1024_S16384x1x1024_0_4_0) shapeCasts_S16384x1x1024_S16384x1024))) (shapeCast _ (extractStridedSlice S16384x1x1024 ![0, 3, 0] (tab a1) slices_S16384x6x1024_S16384x1x1024_0_3_0) shapeCasts_S16384x1x1024_S16384x1024)

theorem hid_at (l : Fin 16384) (k : Fin 1024) : hid a0 a1 (ix2 l k) = DenseSpec.hid (argsOf a0 a1 a2 a3 a4 a5) l k := by
  refine Eq.trans ?_ (congrArg₂ (fun u v => a0 (ix2 l k) * (1 + u) + v) (tab_at a1 l 4 k) (tab_at a1 l 3 k))
  pointwise [hid]

/-- Their product with the first weights. -/
def prod : FVec Ideal S16384x5632 .f32 := Host.dotGeneral dot_S16384x1024_S1024x5632_S16384x5632_1_0_0_1_n_n none (hid a0 a1) a2

theorem prod_at (l : Fin 16384) (f : Fin 5632) : prod a0 a1 a2 (ix2 l f) = proj (argsOf a0 a1 a2 a3 a4 a5) l f := by
  unfold proj
  simp only [← hid_at]
  pointwise [prod, argsOf]

/-- The gated units' product with the second weights. -/
def ffn : FVec Ideal S16384x1024 .f32 := Host.dotGeneral dot_S16384x2816_S2816x1024_S16384x1024_1_0_0_1_n_n none (mulf (mulf (extractStridedSlice S16384x2816 ![0, 0] (prod a0 a1 a2) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (prod a0 a1 a2) slices_S16384x5632_S16384x2816_0_0)))))) (extractStridedSlice S16384x2816 ![0, 2816] (prod a0 a1 a2) slices_S16384x5632_S16384x2816_0_2816)) a3

theorem ffn_at (l : Fin 16384) (d : Fin 1024) : ffn a0 a1 a2 a3 (ix2 l d) = ∑ f, unit (argsOf a0 a1 a2 a3 a4 a5) l d f := by
  unfold ffn
  pointwise
  refine Finset.sum_congr rfl fun f _ => ?_
  unfold unit silu
  rw [← prod_at, ← prod_at]
  unfold argsOf upCol gateCol
  rfl

/-- What is normalised. -/
def pre : FVec Ideal S16384x1024 .f32 := addf (mulf (broadcastInDim S16384x1024 ![] bcast_S_S16384x1024 (constant S_ .f32 0x3FD744FD#32)) a0) (mulf (shapeCast _ (extractStridedSlice S16384x1x1024 ![0, 5, 0] (tab a1) slices_S16384x6x1024_S16384x1x1024_0_5_0) shapeCasts_S16384x1x1024_S16384x1024) (ffn a0 a1 a2 a3))

theorem pre_at (l : Fin 16384) (d : Fin 1024) : pre a0 a1 a2 a3 (ix2 l d) = DenseSpec.pre (argsOf a0 a1 a2 a3 a4 a5) l d := by
  refine Eq.trans ?_ (congrArg₂ (fun u v => alpha * a0 (ix2 l d) + u * v) (tab_at a1 l 5 d) (ffn_at a0 a1 a2 a3 a4 a5 l d))
  pointwise [pre]
  rfl

/-- The mean of every row, and the rows less their means. -/
def mid (z : FVec Ideal S16384x1024 .f32) : FVec Ideal S16384x1 .f32 := Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

theorem mid_at (z : FVec Ideal S16384x1024 .f32) (l : Fin 16384) : mid z (ix2 l 0) = mean fun k => z (ix2 l k) := by
  unfold mean
  pointwise [mid]
  rfl

def cen (z : FVec Ideal S16384x1024 .f32) : FVec Ideal S16384x1024 .f32 := subf z (broadcastInDim S16384x1024 ![0, 1] bcast_S16384x1_S16384x1024_0_1 (mid z))

theorem cen_at (z : FVec Ideal S16384x1024 .f32) (l : Fin 16384) (k : Fin 1024) : cen z (ix2 l k) = z (ix2 l k) - mean fun k => z (ix2 l k) := by
  rw [← mid_at]
  pointwise [cen]

/-- The layer norm of every row. -/
def norm (z : FVec Ideal S16384x1024 .f32) : FVec Ideal S16384x1024 .f32 := addf (mulf (mulf (cen z) (broadcastInDim S16384x1024 ![0, 1] bcast_S16384x1_S16384x1024_0_1 (Host.rsqrt (addf (Host.divf (broadcastInDim S16384x1 ![0] bcast_S16384_S16384x1_0 (Host.reduceAdd (mulf (cen z) (cen z)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 a4))) (broadcastInDim S16384x1024 ![0, 1] bcast_S1x1024_S16384x1024_0_1 (broadcastInDim S1x1024 ![1] bcast_S1024_S1x1024_1 a5))

theorem norm_at (z : FVec Ideal S16384x1024 .f32) (l : Fin 16384) (d : Fin 1024) :
    norm a4 a5 z (ix2 l d) = lnorm (fun k => z (ix2 l k)) (fun k => a4 (ix1 k)) (fun k => a5 (ix1 k)) d := by
  unfold lnorm
  rw [show (fun k => (z (ix2 l k) - mean fun k => z (ix2 l k)) * (z (ix2 l k) - mean fun k => z (ix2 l k)))
      = fun k => cen z (ix2 l k) * cen z (ix2 l k) from funext fun k => by rw [cen_at]]
  rw [← cen_at]
  unfold norm mean
  pointwise
  rfl

theorem result_at (l : Fin 16384) (d : Fin 1024) : norm a4 a5 (pre a0 a1 a2 a3) (ix2 l d) = out (argsOf a0 a1 a2 a3 a4 a5) l d := by
  rw [norm_at, show (fun k => pre a0 a1 a2 a3 (ix2 l k)) = DenseSpec.pre (argsOf a0 a1 a2 a3 a4 a5) l from funext (pre_at a0 a1 a2 a3 a4 a5 l)]
  rfl

/-- The result array. -/
theorem result_eq : norm a4 a5 (pre a0 a1 a2 a3) = fun ix => out (argsOf a0 a1 a2 a3 a4 a5) (ix 0) (ix 1) := by
  funext ix
  rw [eq_ix2 ix]
  exact result_at a0 a1 a2 a3 a4 a5 _ _

theorem result_of (A : Args) (h : argsOf a0 a1 a2 a3 a4 a5 = A) : norm a4 a5 (pre a0 a1 a2 a3) = fun ix => out A (ix 0) (ix 1) := by
  rw [← h]; exact result_eq a0 a1 a2 a3 a4 a5

end Cert.Reference3Ideal.Dense

end
-- ==== Proof.DenseClaims.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.DenseVal
public import proofs.«01_k».proof.Proof.DenseRef
public import Idealize.ShloMosaic.Lib.Quiescent

/-!
The claims about the dense feed-forward layer: both kernels and the reference run and leave everything else as it was, and
over the extended reals the kernel's result is the reference's.
-/

@[expose] public section

set_option maxRecDepth 16384

noncomputable section

namespace Cert.DenseClaims

open Idealize.ShloMosaic Idealize.ShloMosaic.TcCoe Idealize.SL.Sem Cert.DenseSpec

theorem kernel_runs : Cert.quiescent_Kernel3 (hKernel3 := Cert.Kernel3.Gen.facts) := fun m ρ _ => Cert.Kernel3.Gen.frame m ρ

theorem ideal_runs : Cert.quiescent_Kernel3Ideal (hKernel3Ideal := Cert.Kernel3Ideal.Gen.facts) := fun m ρ _ => Cert.Kernel3Ideal.Gen.frame m ρ

theorem reference_runs : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

/-- The kernel computes the layer. -/
theorem values : Cert.algebraic_Kernel3Ideal_Reference3Ideal (hKernel3Ideal := Cert.Kernel3Ideal.Gen.facts)
    (hReference3Ideal := Cert.Reference3Ideal.Gen.facts) := by
  intro m ρ m' ρ' hpre hin
  have hA : ∀ c : Dev Cert.Reference3Ideal.nD, Cert.Reference3Ideal.Dense.argsOf (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5)) = Cert.Kernel3Ideal.Dense.argsOf m c := by
    intro c
    obtain ⟨h0, h1, h2, h3, h4, h5⟩ := hin c
    unfold Cert.Kernel3Ideal.Dense.argsOf
    rw [← h0, ← h1, ← h2, ← h3, ← h4, ← h5]
    rfl
  refine ⟨fun c => fun ix => out (Cert.Kernel3Ideal.Dense.argsOf m c) (ix 0) (ix 1), ?_, ?_⟩
  · exact (θ_run Cert.Kernel3Ideal.defs _ _).mono (fun _ h c =>
      ⟨((h.1 c).1 9).trans (Cert.Kernel3Ideal.Dense.arr m c), h.2 c⟩)
      (θ_run_and (Cert.Kernel3Ideal.Gen.run_main m ρ) (Cert.Kernel3Ideal.Gen.unchanged m ρ))
  · exact (θ_run Cert.Reference3Ideal.defs _ _).mono (fun _ h c =>
      ⟨(h c).1.trans (Cert.Reference3Ideal.Dense.result_of _ _ _ _ _ _ _ (hA c)), (h c).2⟩) (Cert.Reference3Ideal.Value.run (F := Ideal) m' ρ')

end Cert.DenseClaims

end
-- ==== Proof.ProjSpec.lean ====
module

public import proofs.«01_k».proof.Proof.MoeSpec

/-!
The combined input projection as mathematics over the extended reals: the modulated tokens times the weights.
-/

@[expose] public section

noncomputable section

namespace Cert.ProjSpec

/-- The projection's arguments. -/
structure Args where
  x : Fin 16384 → Fin 1024 → EReal
  mod : Fin 16 → Fin 6 → Fin 1024 → EReal
  w : Fin 1024 → Fin 5504 → EReal

variable (A : Args)

/-- The modulated input. -/
def hid (l : Fin 16384) (k : Fin 1024) : EReal :=
  A.x l k * (1 + A.mod (MoeSpec.modRow l) 1 k) + A.mod (MoeSpec.modRow l) 0 k

/-- The projection. -/
def out (l : Fin 16384) (f : Fin 5504) : EReal := ∑ k, hid A l k * A.w k f

/-- The columns of the three results. -/
def col0 (f : Fin 1920) : Fin 5504 := ⟨f.val, by omega⟩
def col1 (f : Fin 1536) : Fin 5504 := ⟨1920 + f.val, by omega⟩
def col2 (f : Fin 2048) : Fin 5504 := ⟨3456 + f.val, by omega⟩

end Cert.ProjSpec

end
-- ==== Proof.ProjVal.lean ====
module

public import proofs.«01_k».proof.Proof.Gen.Kernel4Ideal.Frame
public import proofs.«01_k».proof.Proof.ProjSpec
public import Idealize.ShloMosaic.Lib.Pointwise
public import Idealize.ShloMosaic.Lib.Pipeline.ValueKit

/-!
What the input projection's kernel computes over the extended reals: the blocks of a point, what it stores, and the three
result arrays.
-/

@[expose] public section

set_option maxRecDepth 16384

noncomputable section

namespace Cert.Kernel4Ideal.Proj

open Cert.Kernel4Ideal Cert.Kernel4Ideal.Gen Cert.ProjSpec
open Idealize.ShloMosaic Idealize.ShloMosaic.TcCoe
open Idealize.ShloMosaic.Pipeline (Dat)

variable (m : (ℓ : Loc nD τ sig) → Buf (Elt Ideal) ℓ)

/-- The projection's arguments, as the arrays hold them. -/
def argsOf (c : Dev nD) : Args where
  x l k := (m ((c.tc : Thread nD τ).loc main_arg0) : Vec Ideal S16384x1024 .f32) (ix2 l k)
  mod i j k := (m ((c.tc : Thread nD τ).loc main_arg1) : Vec Ideal S16x6x1024 .f32) (ix3 i j k)
  w k f := (m ((c.tc : Thread nD τ).loc main_arg2) : Vec Ideal S1024x5504 .f32) (ix2 k f)

theorem tlt (t : Fin cfg0.N) : t.val < 64 := t.isLt
/-- The token that row `r` of point `t`'s tile stands for. -/
def tok (t : Fin cfg0.N) (r : Fin 256) : Fin 16384 := ⟨t.val * 256 + r.val, by have := tlt t; omega⟩
/-- The tile's row of the modulation table. -/
def tileRow (t : Fin cfg0.N) : Fin 16 := ⟨if t.val < 32 then 8 else (t.val - 32) / 4, by have := tlt t; split <;> omega⟩

theorem tileRow_eq (t : Fin cfg0.N) (r : Fin 256) : tileRow t = MoeSpec.modRow (tok t r) := by
  have := tlt t
  refine Fin.ext ?_
  show (if t.val < 32 then 8 else (t.val - 32) / 4) = if t.val * 256 + r.val < 8192 then 8 else (t.val * 256 + r.val - 8192) / 1024
  have hr := r.isLt
  split <;> split <;> omega

theorem idx0 : ∀ t : Fin cfg0.N, (cfg0.win 0).index t = ![t.val, 0] := by decide +kernel
theorem idx1 : ∀ t : Fin cfg0.N, (cfg0.win 1).index t = ![if t.val < 32 then 8 else (t.val - 32) / 4, 0, 0] := by decide +kernel
theorem idx2 : ∀ t : Fin cfg0.N, (cfg0.win 2).index t = ![0, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![t.val, 0] := by decide +kernel

/-- The blocks of a point. -/
abbrev xb (c : Dev nD) (t : Fin cfg0.N) : Vec Ideal S256x1024 .f32 := iblk m c 0 t
abbrev mb (c : Dev nD) (t : Fin cfg0.N) : Vec Ideal S1x6x1024 .f32 := iblk m c 1 t
abbrev wb (c : Dev nD) (t : Fin cfg0.N) : Vec Ideal S1024x5504 .bf16 := iblk m c 2 t

theorem xb_at (c : Dev nD) (t : Fin cfg0.N) (r : Fin 256) (k : Fin 1024) : xb m c t (ix2 r k) = (argsOf m c).x (tok t r) k := by
  unfold argsOf xb
  blk_ext [iblk, V, idx0 t] <;> rfl

theorem mb_at' (c : Dev nD) (t : Fin cfg0.N) (j : Fin 6) (k : Fin 1024) : mb m c t (ix3 0 j k) = (argsOf m c).mod (tileRow t) j k := by
  unfold argsOf mb
  blk_ext [iblk, V, idx1 t] <;> rfl

theorem mb_at (c : Dev nD) (t : Fin cfg0.N) (r : Fin 256) (j : Fin 6) (k : Fin 1024) :
    mb m c t (ix3 0 j k) = (argsOf m c).mod (MoeSpec.modRow (tok t r)) j k := by
  rw [mb_at', tileRow_eq t r]

theorem wb_at (c : Dev nD) (t : Fin cfg0.N) (k : Fin 1024) (f : Fin 5504) : wb m c t (ix2 k f) = (argsOf m c).w k f := by
  unfold argsOf wb
  blk_ext! [iblk, V, idx2 t] <;> rfl

theorem h_at (x : Vec Ideal S256x1024 .f32) (M : Vec Ideal S1x6x1024 .f32) (r : Fin 256) (k : Fin 1024) :
    k0_pay1 x (View.ld M r0_1) (View.ld M r0_2) (ix2 r k) = x (ix2 r k) * (1 + M (ix3 0 1 k)) + M (ix3 0 0 k) := by
  pointwise [k0_pay1]

theorem out3_at (x : Vec Ideal S256x1024 .f32) (M : Vec Ideal S1x6x1024 .f32) (w : Vec Ideal S1024x5504 .bf16) (r : Fin 256) (f : Fin 1920) :
    out0_3 x M w (ix2 r f) = ∑ k, (x (ix2 r k) * (1 + M (ix3 0 1 k)) + M (ix3 0 0 k)) * w (ix2 k (col0 f)) := by
  frame_out
  pointwise [k0_pay2, k0_pay1, col0]

theorem out4_at (x : Vec Ideal S256x1024 .f32) (M : Vec Ideal S1x6x1024 .f32) (w : Vec Ideal S1024x5504 .bf16) (r : Fin 256) (f : Fin 1536) :
    out0_4 x M w (ix2 r f) = ∑ k, (x (ix2 r k) * (1 + M (ix3 0 1 k)) + M (ix3 0 0 k)) * w (ix2 k (col1 f)) := by
  frame_out
  pointwise [k0_pay3, k0_pay1, col1]

theorem out5_at (x : Vec Ideal S256x1024 .f32) (M : Vec Ideal S1x6x1024 .f32) (w : Vec Ideal S1024x5504 .bf16) (r : Fin 256) (f : Fin 2048) :
    out0_5 x M w (ix2 r f) = ∑ k, (x (ix2 r k) * (1 + M (ix3 0 1 k)) + M (ix3 0 0 k)) * w (ix2 k (col2 f)) := by
  frame_out
  pointwise [k0_pay4, k0_pay1, col2]

theorem row_at (c : Dev nD) (t : Fin cfg0.N) (r : Fin 256) (f : Fin 5504) :
    ∑ k, (xb m c t (ix2 r k) * (1 + mb m c t (ix3 0 1 k)) + mb m c t (ix3 0 0 k)) * wb m c t (ix2 k f) = out (argsOf m c) (tok t r) f := by
  simp only [xb_at, mb_at m c t r, wb_at]
  rfl

/-- The result arrays. -/
theorem arr3 (c : Dev nD) : ((dats m 0 c).arrAt 3 cfg0.N : Vec Ideal S16384x1920 .f32) = fun ix => out (argsOf m c) (ix 0) (col0 (ix 1)) := by
  refine (dats m 0 c).arrAt_eq_of_covers 3 _ (by decide +kernel) fun t hf y => ?_
  obtain ⟨r, d, rfl⟩ : ∃ (r : Fin 256) (d : Fin 1920), y = ix2 r d := ⟨y 0, y 1, funext fun a => by match a with | ⟨0, _⟩ => rfl | ⟨1, _⟩ => rfl⟩
  blk_simp
  rw [after0_3]
  have he : (win0_3.blk t).view.emb (ix2 r d : S256x1920.Idx) = (ix2 (tok t r) d : S16384x1920.Idx) := by
    blk_ext [idx3 t] <;> rfl
  rw [he]
  exact (out3_at (xb m c t) (mb m c t) (wb m c t) r d).trans (row_at m c t r _)

theorem arr4 (c : Dev nD) : ((dats m 0 c).arrAt 4 cfg0.N : Vec Ideal S16384x1536 .f32) = fun ix => out (argsOf m c) (ix 0) (col1 (ix 1)) := by
  refine (dats m 0 c).arrAt_eq_of_covers 4 _ (by decide +kernel) fun t hf y => ?_
  obtain ⟨r, d, rfl⟩ : ∃ (r : Fin 256) (d : Fin 1536), y = ix2 r d := ⟨y 0, y 1, funext fun a => by match a with | ⟨0, _⟩ => rfl | ⟨1, _⟩ => rfl⟩
  blk_simp
  rw [after0_4]
  have he : (win0_4.blk t).view.emb (ix2 r d : S256x1536.Idx) = (ix2 (tok t r) d : S16384x1536.Idx) := by
    blk_ext [idx4 t] <;> rfl
  rw [he]
  exact (out4_at (xb m c t) (mb m c t) (wb m c t) r d).trans (row_at m c t r _)

theorem arr5 (c : Dev nD) : ((dats m 0 c).arrAt 5 cfg0.N : Vec Ideal S16384x2048 .f32) = fun ix => out (argsOf m c) (ix 0) (col2 (ix 1)) := by
  refine (dats m 0 c).arrAt_eq_of_covers 5 _ (by decide +kernel) fun t hf y => ?_
  obtain ⟨r, d, rfl⟩ : ∃ (r : Fin 256) (d : Fin 2048), y = ix2 r d := ⟨y 0, y 1, funext fun a => by match a with | ⟨0, _⟩ => rfl | ⟨1, _⟩ => rfl⟩
  blk_simp
  rw [after0_5]
  have he : (win0_5.blk t).view.emb (ix2 r d : S256x2048.Idx) = (ix2 (tok t r) d : S16384x2048.Idx) := by
    blk_ext [idx5 t] <;> rfl
  rw [he]
  exact (out5_at (xb m c t) (mb m c t) (wb m c t) r d).trans (row_at m c t r _)

end Cert.Kernel4Ideal.Proj

end
-- ==== Proof.ProjRef.lean ====
module

public import proofs.«01_k».proof.Proof.Gen.Reference4Ideal.Run
public import proofs.«01_k».proof.Proof.ProjSpec
public import Idealize.ShloMosaic.Lib.Pointwise

/-!
What the input projection's reference computes over the extended reals, entry by entry.
-/

@[expose] public section

set_option maxRecDepth 16384

noncomputable section

namespace Cert.Reference4Ideal.Proj

open Cert.Reference4Ideal Cert.Reference4Ideal.Gen Cert.ProjSpec
open Idealize.ShloMosaic Idealize.ShloMosaic.TcCoe

variable (a0 : FVec Ideal S16384x1024 .f32) (a1 : FVec Ideal S16x6x1024 .f32) (a2 : FVec Ideal S1024x5504 .f32)

/-- The projection's arguments, from the arrays. -/
def argsOf : Args where
  x l k := a0 (ix2 l k)
  mod i j k := a1 (ix3 i j k)
  w k f := a2 (ix2 k f)

/-- Every token's row of the modulation table. -/
def tab : FVec Ideal S16384x6x1024 .f32 := concatenate S16384x6x1024 0 [⟨S8192x6x1024, (broadcastInDim S8192x6x1024 ![0, 1, 2] bcast_S1x6x1024_S8192x6x1024_0_1_2 (broadcastInDim S1x6x1024 ![1, 2] bcast_S6x1024_S1x6x1024_1_2 (shapeCast _ (extractStridedSlice S1x6x1024 ![8, 0, 0] a1 slices_S16x6x1024_S1x6x1024_8_0_0) shapeCasts_S1x6x1024_S6x1024)))⟩, ⟨S8192x6x1024, (shapeCast _ (broadcastInDim S8x1024x6x1024 ![0, 1, 2, 3] bcast_S8x1x6x1024_S8x1024x6x1024_0_1_2_3 (broadcastInDim S8x1x6x1024 ![0, 2, 3] bcast_S8x6x1024_S8x1x6x1024_0_2_3 (extractStridedSlice S8x6x1024 ![0, 0, 0] a1 slices_S16x6x1024_S8x6x1024_0_0_0))) shapeCasts_S8x1024x6x1024_S8192x6x1024)⟩] concatenates_S8192x6x1024_S8192x6x1024_S16384x6x1024_d0

theorem tab_at (l : Fin 16384) (j : Fin 6) (k : Fin 1024) : tab a1 (ix3 l j k) = a1 (ix3 (MoeSpec.modRow l) j k) := by
  pointwise [tab]
  unfold MoeSpec.modRow
  by_cases h : l.val < 8192
  · rw [dif_pos h]
    exact congrArg (fun i => a1 (ix3 i j k)) (Fin.ext (if_pos h).symm)
  · rw [dif_neg h]
    exact congrArg (fun i => a1 (ix3 i j k)) (Fin.ext (if_neg h).symm)

/-- The modulated tokens. -/
def hid : FVec Ideal S16384x1024 .f32 := addf (mulf a0 (addf (broadcastInDim S16384x1024 ![] bcast_S_S16384x1024 (constant S_ .f32 0x3F800000#32)) (shapeCast _ (extractStridedSlice S16384x1x1024 ![0, 1, 0] (tab a1) slices_S16384x6x1024_S16384x1x1024_0_1_0) shapeCasts_S16384x1x1024_S16384x1024))) (shapeCast _ (extractStridedSlice S16384x1x1024 ![0, 0, 0] (tab a1) slices_S16384x6x1024_S16384x1x1024_0_0_0) shapeCasts_S16384x1x1024_S16384x1024)

theorem hid_at (l : Fin 16384) (k : Fin 1024) : hid a0 a1 (ix2 l k) = ProjSpec.hid (argsOf a0 a1 a2) l k := by
  refine Eq.trans ?_ (congrArg₂ (fun u v => a0 (ix2 l k) * (1 + u) + v) (tab_at a1 l 1 k) (tab_at a1 l 0 k))
  pointwise [hid]

/-- The whole projection. -/
def prod : FVec Ideal S16384x5504 .f32 := Host.dotGeneral dot_S16384x1024_S1024x5504_S16384x5504_1_0_0_1_n_n none (hid a0 a1) a2

theorem prod_at (l : Fin 16384) (f : Fin 5504) : prod a0 a1 a2 (ix2 l f) = out (argsOf a0 a1 a2) l f := by
  unfold out
  simp only [← hid_at]
  pointwise [prod, argsOf]

/-- The three results. -/
theorem slice0 : (extractStridedSlice S16384x1920 ![0, 0] (prod a0 a1 a2) slices_S16384x5504_S16384x1920_0_0 : FVec Ideal S16384x1920 .f32)
    = fun ix => out (argsOf a0 a1 a2) (ix 0) (col0 (ix 1)) := by
  funext ix
  refine Eq.trans ?_ (prod_at a0 a1 a2 (ix 0) (col0 (ix 1)))
  rw [eq_ix2 ix]
  pointwise [col0]

theorem slice1 : (extractStridedSlice S16384x1536 ![0, 1920] (prod a0 a1 a2) slices_S16384x5504_S16384x1536_0_1920 : FVec Ideal S16384x1536 .f32)
    = fun ix => out (argsOf a0 a1 a2) (ix 0) (col1 (ix 1)) := by
  funext ix
  refine Eq.trans ?_ (prod_at a0 a1 a2 (ix 0) (col1 (ix 1)))
  rw [eq_ix2 ix]
  pointwise [col1]

theorem slice2 : (extractStridedSlice S16384x2048 ![0, 3456] (prod a0 a1 a2) slices_S16384x5504_S16384x2048_0_3456 : FVec Ideal S16384x2048 .f32)
    = fun ix => out (argsOf a0 a1 a2) (ix 0) (col2 (ix 1)) := by
  funext ix
  refine Eq.trans ?_ (prod_at a0 a1 a2 (ix 0) (col2 (ix 1)))
  rw [eq_ix2 ix]
  pointwise [col2]

theorem slice0_of (A : Args) (h : argsOf a0 a1 a2 = A) :
    (extractStridedSlice S16384x1920 ![0, 0] (prod a0 a1 a2) slices_S16384x5504_S16384x1920_0_0 : FVec Ideal S16384x1920 .f32)
      = fun ix => out A (ix 0) (col0 (ix 1)) := by
  rw [← h]; exact slice0 a0 a1 a2

theorem slice1_of (A : Args) (h : argsOf a0 a1 a2 = A) :
    (extractStridedSlice S16384x1536 ![0, 1920] (prod a0 a1 a2) slices_S16384x5504_S16384x1536_0_1920 : FVec Ideal S16384x1536 .f32)
      = fun ix => out A (ix 0) (col1 (ix 1)) := by
  rw [← h]; exact slice1 a0 a1 a2

theorem slice2_of (A : Args) (h : argsOf a0 a1 a2 = A) :
    (extractStridedSlice S16384x2048 ![0, 3456] (prod a0 a1 a2) slices_S16384x5504_S16384x2048_0_3456 : FVec Ideal S16384x2048 .f32)
      = fun ix => out A (ix 0) (col2 (ix 1)) := by
  rw [← h]; exact slice2 a0 a1 a2

end Cert.Reference4Ideal.Proj

end
-- ==== Proof.ProjClaims.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.ProjVal
public import proofs.«01_k».proof.Proof.ProjRef
public import Idealize.ShloMosaic.Lib.Quiescent

/-!
The claims about the input projection: both kernels and the reference run and leave everything else as it was, and over
the extended reals the kernel's three results are the reference's.
-/

@[expose] public section

set_option maxRecDepth 16384

noncomputable section

namespace Cert.ProjClaims

open Idealize.ShloMosaic Idealize.ShloMosaic.TcCoe Idealize.SL.Sem Cert.ProjSpec

theorem kernel_runs : Cert.quiescent_Kernel4 (hKernel4 := Cert.Kernel4.Gen.facts) := fun m ρ _ => Cert.Kernel4.Gen.frame m ρ

theorem ideal_runs : Cert.quiescent_Kernel4Ideal (hKernel4Ideal := Cert.Kernel4Ideal.Gen.facts) := fun m ρ _ => Cert.Kernel4Ideal.Gen.frame m ρ

theorem reference_runs : Cert.quiescent_Reference4Ideal (hReference4Ideal := Cert.Reference4Ideal.Gen.facts) := fun m ρ _ =>
  (θ_run Cert.Reference4Ideal.defs _ _).mono
    (fun r h => ⟨fun c => (h c).2.2.2, sem_eq_zero_of_no_sems (by decide) r.2⟩) (Cert.Reference4Ideal.Value.run (F := Ideal) m ρ)

/-- The kernel computes the projection. -/
theorem values : Cert.algebraic_Kernel4Ideal_Reference4Ideal (hKernel4Ideal := Cert.Kernel4Ideal.Gen.facts)
    (hReference4Ideal := Cert.Reference4Ideal.Gen.facts) := by
  intro m ρ m' ρ' hpre hin
  have hA : ∀ c : Dev Cert.Reference4Ideal.nD, Cert.Reference4Ideal.Proj.argsOf (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)) = Cert.Kernel4Ideal.Proj.argsOf m c := by
    intro c
    obtain ⟨h0, h1, h2⟩ := hin c
    unfold Cert.Kernel4Ideal.Proj.argsOf
    rw [← h0, ← h1, ← h2]
    rfl
  refine ⟨fun c => fun ix => out (Cert.Kernel4Ideal.Proj.argsOf m c) (ix 0) (col0 (ix 1)),
    fun c => fun ix => out (Cert.Kernel4Ideal.Proj.argsOf m c) (ix 0) (col1 (ix 1)),
    fun c => fun ix => out (Cert.Kernel4Ideal.Proj.argsOf m c) (ix 0) (col2 (ix 1)), ?_, ?_⟩
  · exact (θ_run Cert.Kernel4Ideal.defs _ _).mono (fun _ h c =>
      ⟨((h.1 c).1 3).trans (Cert.Kernel4Ideal.Proj.arr3 m c), ((h.1 c).1 4).trans (Cert.Kernel4Ideal.Proj.arr4 m c),
        ((h.1 c).1 5).trans (Cert.Kernel4Ideal.Proj.arr5 m c), h.2 c⟩)
      (θ_run_and (Cert.Kernel4Ideal.Gen.run_main m ρ) (Cert.Kernel4Ideal.Gen.unchanged m ρ))
  · exact (θ_run Cert.Reference4Ideal.defs _ _).mono (fun _ h c =>
      ⟨(h c).1.trans (Cert.Reference4Ideal.Proj.slice0_of _ _ _ _ (hA c)), (h c).2.1.trans (Cert.Reference4Ideal.Proj.slice1_of _ _ _ _ (hA c)),
        (h c).2.2.1.trans (Cert.Reference4Ideal.Proj.slice2_of _ _ _ _ (hA c)), (h c).2.2.2⟩) (Cert.Reference4Ideal.Value.run (F := Ideal) m' ρ')

end Cert.ProjClaims

end
-- ==== Proof.TailSpec.lean ====
module

public import proofs.«01_k».proof.Proof.MoeSpec

/-!
The end of a mixer as mathematics over the extended reals: the group norm of every head of the recurrence's output, its
gates, the output products, the scaled residual and the layer norm. The kernel adds a head's channels by three products
with the matrix that tells whether two channels have the same head; on real rows that is the plain sum.
-/

@[expose] public section

noncomputable section

namespace Cert.TailSpec

open Idealize.ShloMosaic
open Cert.MoeSpec (modRow alpha lnorm word_real sub_self_real)

/-- The call's arguments. -/
structure Args where
  yf : Fin 16384 → Fin 512 → EReal
  yb : Fin 16384 → Fin 512 → EReal
  bonus : Fin 16384 → Fin 512 → EReal
  g : Fin 16384 → Fin 512 → EReal
  yh : Fin 16384 → Fin 512 → EReal
  gates : Fin 16384 → Fin 2048 → EReal
  x : Fin 16384 → Fin 1024 → EReal
  mod : Fin 16 → Fin 6 → Fin 1024 → EReal
  gw : Fin 512 → EReal
  gb : Fin 512 → EReal
  pa : Fin 512 → Fin 1024 → EReal
  pb : Fin 512 → Fin 1024 → EReal
  po : Fin 1024 → Fin 1024 → EReal
  lg : Fin 1024 → EReal
  lb : Fin 1024 → EReal

/-- Channel `i` of head `h`, and a channel's head. -/
def chan (h : Fin 8) (i : Fin 64) : Fin 512 := ⟨h.val * 64 + i.val, by omega⟩
def headOf (q : Fin 512) : Fin 8 := ⟨q.val / 64, by omega⟩
def laneOf (q : Fin 512) : Fin 64 := ⟨q.val % 64, by omega⟩

theorem headOf_chan (h : Fin 8) (i : Fin 64) : headOf (chan h i) = h := Fin.ext (by show (h.val * 64 + i.val) / 64 = h.val; omega)
theorem chan_of (q : Fin 512) : chan (headOf q) (laneOf q) = q := Fin.ext (by show q.val / 64 * 64 + q.val % 64 = q.val; omega)

/-- A head's width, its inverse as the kernel has it, and the group norm's guard. -/
def headWidth : EReal := Ideal.ofBits .f32 0x42800000#32
def headInv : EReal := Ideal.ofBits .f32 0x3C800000#32
def gnEps : EReal := Ideal.ofBits .f32 0x3A27C5AC#32

/-- A head's mean, a row less its heads' means, a head's variance, and the normalised row. -/
def hmean (z : Fin 512 → EReal) (h : Fin 8) : EReal := Ideal.div (∑ i, z (chan h i)) headWidth
def hdev (z : Fin 512 → EReal) (q : Fin 512) : EReal := z q - hmean z (headOf q)
def hvar (z : Fin 512 → EReal) (h : Fin 8) : EReal := hmean (fun p => hdev z p * hdev z p) h
def gnorm (z : Fin 512 → EReal) (q : Fin 512) : EReal := hdev z q * Ideal.rsqrt (hvar z (headOf q) + gnEps)

/-- The logistic function. -/
def sigm (v : EReal) : EReal := Ideal.div 1 (1 + Ideal.exp (-v))

/-- Columns of the two halves of the gates. -/
def colA (k : Fin 1024) : Fin 2048 := ⟨k.val, by omega⟩
def colB (k : Fin 1024) : Fin 2048 := ⟨1024 + k.val, by omega⟩

variable (A : Args)

/-- The recurrence's two directions together. -/
def y (l : Fin 16384) (q : Fin 512) : EReal := A.yf l q + A.yb l q

/-- The rest of the mixer's end from a normalised row `n`. -/
def ya (n : Fin 512 → EReal) (l : Fin 16384) (q : Fin 512) : EReal := (n q * A.gw q + A.gb q + A.bonus l q) * A.g l q
def merged (n : Fin 512 → EReal) (l : Fin 16384) (k : Fin 1024) : EReal :=
  sigm (A.gates l (colA k)) * ∑ q, ya A n l q * A.pa q k + sigm (A.gates l (colB k)) * ∑ q, A.yh l q * A.pb q k
def pre (n : Fin 512 → EReal) (l : Fin 16384) (d : Fin 1024) : EReal :=
  alpha * A.x l d + A.mod (modRow l) 2 d * ∑ k, merged A n l k * A.po k d

/-- The call's result. -/
def out (l : Fin 16384) (d : Fin 1024) : EReal := lnorm (pre A (gnorm (y A l)) l) A.lg A.lb d

/-! ### A head's sum in three products -/

/-- Whether two channels have the same head. -/
def same (p q : Fin 512) : EReal := if headOf p = headOf q then 1 else 0

/-- The sum over a channel's head as the kernel finds it. -/
def ksum (z : Fin 512 → EReal) (q : Fin 512) : EReal :=
  ∑ p, z p * same p q + ∑ p, (z p - z p) * same p q + ∑ p, ((z p - z p) - (z p - z p)) * same p q

theorem sum_heads (f : Fin 512 → EReal) : ∑ p, f p = ∑ h : Fin 8, ∑ i : Fin 64, f (chan h i) := by
  rw [← Fintype.sum_prod_type' (fun h i => f (chan h i))]
  refine (Fintype.sum_equiv (finProdFinEquiv (m := 8) (n := 64)) (fun x => f (chan x.1 x.2)) f fun x => ?_).symm
  refine congrArg f (Fin.ext ?_)
  show x.1.val * 64 + x.2.val = x.2.val + 64 * x.1.val
  omega

theorem sum_same (z : Fin 512 → EReal) (q : Fin 512) : ∑ p, z p * same p q = ∑ i, z (chan (headOf q) i) := by
  rw [sum_heads, Finset.sum_eq_single (headOf q)]
  · refine Finset.sum_congr rfl fun i _ => ?_
    unfold same
    rw [headOf_chan, if_pos rfl, mul_one]
  · intro h _ hne
    refine Finset.sum_eq_zero fun i _ => ?_
    unfold same
    rw [headOf_chan, if_neg hne, mul_zero]
  · intro h
    exact absurd (Finset.mem_univ _) h

theorem ksum_eq (z : Fin 512 → EReal) (hz : ∀ p, ∃ r : ℝ, z p = r) (q : Fin 512) : ksum z q = ∑ i, z (chan (headOf q) i) := by
  unfold ksum
  rw [Finset.sum_eq_zero (f := fun p => (z p - z p) * same p q) fun p _ => by rw [sub_self_real (hz p), zero_mul],
    Finset.sum_eq_zero (f := fun p => ((z p - z p) - (z p - z p)) * same p q) fun p _ => by
      rw [sub_self_real (hz p), sub_zero, zero_mul],
    add_zero, add_zero, sum_same]

theorem headWidth_eq : headWidth = ((64 : ℝ) : EReal) := by
  unfold headWidth
  rw [word_real _ 133 0 (by decide) (by decide) (by decide) (by decide) (by decide)]
  norm_num

theorem headInv_eq : headInv = (((64 : ℝ)⁻¹ : ℝ) : EReal) := by
  unfold headInv
  rw [word_real _ 121 0 (by decide) (by decide) (by decide) (by decide) (by decide)]
  norm_num

theorem div_head (a : EReal) : Ideal.div a headWidth = a * headInv := by
  unfold Ideal.div
  rw [headWidth_eq, headInv_eq, if_neg (by rw [EReal.coe_eq_zero]; norm_num), EReal.coe_inv]

/-- The kernel's mean. -/
theorem kmean_eq (z : Fin 512 → EReal) (hz : ∀ p, ∃ r : ℝ, z p = r) (q : Fin 512) : ksum z q * headInv = hmean z (headOf q) := by
  unfold hmean
  rw [ksum_eq z hz, div_head]

theorem real_sum (f : Fin 64 → EReal) (hf : ∀ i, ∃ r : ℝ, f i = r) : ∃ r : ℝ, ∑ i, f i = r := by
  choose r hr using hf
  exact ⟨∑ i, r i, by simp only [hr]; exact (map_sum (⟨⟨Real.toEReal, rfl⟩, fun a b => EReal.coe_add a b⟩ : ℝ →+ EReal) r Finset.univ).symm⟩

theorem hdev_real (z : Fin 512 → EReal) (hz : ∀ p, ∃ r : ℝ, z p = r) (q : Fin 512) : ∃ r : ℝ, hdev z q = r := by
  obtain ⟨s, hs⟩ := real_sum (fun i => z (chan (headOf q) i)) fun i => hz _
  obtain ⟨r, hr⟩ := hz q
  refine ⟨r - s * (64 : ℝ)⁻¹, ?_⟩
  unfold hdev hmean
  rw [div_head, hs, hr, headInv_eq, EReal.coe_sub, EReal.coe_mul]

/-- The kernel's row less its means, and its variance. -/
theorem kdev_eq (z : Fin 512 → EReal) (hz : ∀ p, ∃ r : ℝ, z p = r) (q : Fin 512) : z q - ksum z q * headInv = hdev z q := by
  rw [kmean_eq z hz]; rfl

theorem kvar_eq (z : Fin 512 → EReal) (hz : ∀ p, ∃ r : ℝ, z p = r) (q : Fin 512) :
    ksum (fun p => hdev z p * hdev z p) q * headInv = hvar z (headOf q) := by
  refine kmean_eq _ (fun p => ?_) q
  obtain ⟨r, hr⟩ := hdev_real z hz p
  exact ⟨r * r, by rw [hr, EReal.coe_mul]⟩

end Cert.TailSpec

end
-- ==== Proof.TailPay.lean ====
module

public import proofs.«01_k».proof.Proof.Gen.Kernel5Ideal.Frame
public import proofs.«01_k».proof.Proof.TailSpec
public import Idealize.ShloMosaic.Lib.Pointwise
public import Idealize.ShloMosaic.Lib.Pipeline.ValueKit

/-!
The values that the kernel of the mixer's end stores, entry by entry over the extended reals.
-/

@[expose] public section

set_option maxRecDepth 16384

noncomputable section

namespace Cert.Kernel5Ideal.Tail

open Cert.Kernel5Ideal Cert.Kernel5Ideal.Gen Cert.TailSpec
open Cert.MoeSpec (modRow alpha lnorm)
open Idealize.ShloMosaic Idealize.ShloMosaic.TcCoe

theorem select_word {α : Type} (a b : BitVec 32) (x y : α) : Scalar.select (IntOp.cmpi .eq a b) x y = if a = b then x else y := by
  unfold Scalar.select IntOp.cmpi
  by_cases h : a = b
  · simp [h]
  · rw [if_neg]
    · exact (if_neg h).symm
    · show ¬ BitVec.ofBool (a == b) = 1#1
      rw [show (a == b) = false from beq_eq_false_iff_ne.mpr h]; decide

/-- The number of a row's head. -/
theorem pay2_at (p q : Fin 512) : k0_pay2 (ix2 p q) = BitVec.ofNat 32 (p.val / 64) := by
  pointwise [k0_pay2]
  revert p
  decide +kernel

/-- The number of a column's head. -/
theorem col_at (p q : Fin 512) :
    Scalar.select (k0_pay4 (ix2 p q) &&& k0_pay5 (ix2 p q)) (k0_pay3 (ix2 p q) - 1#32) (k0_pay3 (ix2 p q)) = BitVec.ofNat 32 (q.val / 64) := by
  pointwise [k0_pay3, k0_pay4, k0_pay5]
  revert q
  decide +kernel

theorem head_word (p q : Fin 512) : (BitVec.ofNat 32 (p.val / 64) = BitVec.ofNat 32 (q.val / 64)) ↔ headOf p = headOf q := by
  constructor
  · intro h
    have h' := congrArg BitVec.toNat h
    rw [BitVec.toNat_ofNat, BitVec.toNat_ofNat] at h'
    refine Fin.ext ?_
    show p.val / 64 = q.val / 64
    omega
  · intro h
    have h' : p.val / 64 = q.val / 64 := congrArg Fin.val h
    rw [h']

/-- The matrix of the channels with the same head. -/
abbrev ones : FVec Ideal S512x512 .bf16 := k0_pay6 k0_pay2 k0_pay3 k0_pay4 k0_pay5

theorem ones_at (p q : Fin 512) : ones (ix2 p q) = same p q := by
  have h : ones (ix2 p q) = Scalar.select (IntOp.cmpi .eq (k0_pay2 (ix2 p q))
      (Scalar.select (k0_pay4 (ix2 p q) &&& k0_pay5 (ix2 p q)) (k0_pay3 (ix2 p q) - 1#32) (k0_pay3 (ix2 p q)))) 1 0 := by
    pointwise [ones, k0_pay6]
    rfl
  rw [h, pay2_at, col_at, select_word]
  exact if_congr (head_word p q) rfl rfl

theorem pay7_at (y0 y1 : Vec Ideal S256x512 .f32) (r : Fin 256) (q : Fin 512) :
    k0_pay7 k0_pay2 k0_pay3 k0_pay4 k0_pay5 y0 y1 (ix2 r q)
      = (y0 (ix2 r q) + y1 (ix2 r q)) - ksum (fun p => y0 (ix2 r p) + y1 (ix2 r p)) q * headInv := by
  unfold ksum headInv
  simp only [← ones_at]
  pointwise [k0_pay7]

theorem pay8_at (y0 y1 : Vec Ideal S256x512 .f32) (r : Fin 256) (q : Fin 512) (D : Fin 512 → EReal)
    (hD : ∀ p, k0_pay7 k0_pay2 k0_pay3 k0_pay4 k0_pay5 y0 y1 (ix2 r p) = D p) :
    k0_pay8 k0_pay2 k0_pay3 k0_pay4 k0_pay5 y0 y1 (ix2 r q) = ksum (fun p => D p * D p) q * headInv + gnEps := by
  unfold ksum headInv gnEps
  simp only [← ones_at, ← hD]
  pointwise [k0_pay8]

theorem pay9_at (d v : FVec Ideal S256x512 .f32) (gw gb : Vec Ideal S1x512 .f32) (bonus g : Vec Ideal S256x512 .f32) (ga : Vec Ideal S256x1024 .f32)
    (w : Vec Ideal S512x1024 .bf16) (r : Fin 256) (k : Fin 1024) :
    k0_pay9 d v gw gb bonus g ga w (ix2 r k) = sigm (ga (ix2 r k)) * ∑ q, ((d (ix2 r q) * Ideal.rsqrt (v (ix2 r q)) * gw (ix2 0 q) + gb (ix2 0 q)
      + bonus (ix2 r q)) * g (ix2 r q)) * w (ix2 q k) := by
  unfold sigm
  simp only [← zero_sub]
  pointwise [k0_pay9]

theorem pay10_at (ga : Vec Ideal S256x1024 .f32) (r : Fin 256) (k : Fin 1024) : k0_pay10 ga (ix2 r k) = sigm (ga (ix2 r k)) := by
  unfold sigm
  simp only [← zero_sub]
  pointwise [k0_pay10]

theorem pay11_at (yh : Vec Ideal S256x512 .f32) (r : Fin 256) (q : Fin 512) : k0_pay11 yh (ix2 r q) = yh (ix2 r q) := by
  pointwise [k0_pay11]

theorem pay13_at (u s : FVec Ideal S256x1024 .f32) (yh : FVec Ideal S256x512 .bf16) (pb : Vec Ideal S512x1024 .bf16) (po : Vec Ideal S1024x1024 .bf16)
    (x : Vec Ideal S256x1024 .f32) (gate : Vec Ideal S1x1x1024 .f32) (lg lb : Vec Ideal S1x1024 .f32) (r : Fin 256) (d : Fin 1024) :
    k0_pay1 (k0_pay12 lb) (k0_pay13 u s yh pb po x gate lg) (ix2 r d)
      = lnorm (fun d => alpha * x (ix2 r d) + gate (ix3 0 0 d) * ∑ k, (u (ix2 r k) + s (ix2 r k) * ∑ q, yh (ix2 r q) * pb (ix2 q k)) * po (ix2 k d))
          (fun d => lg (ix2 0 d)) (fun d => lb (ix2 0 d)) d := by
  pointwise [k0_pay1, k0_pay12, k0_pay13]
  rfl

end Cert.Kernel5Ideal.Tail

end
-- ==== Proof.TailVal.lean ====
module

public import proofs.«01_k».proof.Proof.TailPay

/-!
What the kernel of the mixer's end computes over the extended reals: the blocks of a point, and the result array.
-/

@[expose] public section

set_option maxRecDepth 16384

noncomputable section

namespace Cert.Kernel5Ideal.Tail

open Cert.Kernel5Ideal Cert.Kernel5Ideal.Gen Cert.TailSpec
open Cert.MoeSpec (modRow alpha lnorm)
open Idealize.ShloMosaic Idealize.ShloMosaic.TcCoe
open Idealize.ShloMosaic.Pipeline (Dat)

variable (m : (ℓ : Loc nD τ sig) → Buf (Elt Ideal) ℓ)

/-- The call's arguments, as the arrays hold them. -/
def argsOf (c : Dev nD) : Args where
  yf l q := (m ((c.tc : Thread nD τ).loc main_arg0) : Vec Ideal S16384x512 .f32) (ix2 l q)
  yb l q := (m ((c.tc : Thread nD τ).loc main_arg1) : Vec Ideal S16384x512 .f32) (ix2 l q)
  bonus l q := (m ((c.tc : Thread nD τ).loc main_arg2) : Vec Ideal S16384x512 .f32) (ix2 l q)
  g l q := (m ((c.tc : Thread nD τ).loc main_arg3) : Vec Ideal S16384x512 .f32) (ix2 l q)
  yh l q := (m ((c.tc : Thread nD τ).loc main_arg4) : Vec Ideal S16384x512 .f32) (ix2 l q)
  gates l q := (m ((c.tc : Thread nD τ).loc main_arg5) : Vec Ideal S16384x2048 .f32) (ix2 l q)
  x l q := (m ((c.tc : Thread nD τ).loc main_arg6) : Vec Ideal S16384x1024 .f32) (ix2 l q)
  mod i j k := (m ((c.tc : Thread nD τ).loc main_arg7) : Vec Ideal S16x6x1024 .f32) (ix3 i j k)
  gw q := (m ((c.tc : Thread nD τ).loc main_arg8) : Vec Ideal S512 .f32) (ix1 q)
  gb q := (m ((c.tc : Thread nD τ).loc main_arg9) : Vec Ideal S512 .f32) (ix1 q)
  pa l q := (m ((c.tc : Thread nD τ).loc main_arg10) : Vec Ideal S512x1024 .f32) (ix2 l q)
  pb l q := (m ((c.tc : Thread nD τ).loc main_arg11) : Vec Ideal S512x1024 .f32) (ix2 l q)
  po l q := (m ((c.tc : Thread nD τ).loc main_arg12) : Vec Ideal S1024x1024 .f32) (ix2 l q)
  lg q := (m ((c.tc : Thread nD τ).loc main_arg13) : Vec Ideal S1024 .f32) (ix1 q)
  lb q := (m ((c.tc : Thread nD τ).loc main_arg14) : Vec Ideal S1024 .f32) (ix1 q)

theorem tlt (t : Fin cfg0.N) : t.val < 64 := t.isLt
/-- The token that row `r` of point `t`'s tile stands for. -/
def tok (t : Fin cfg0.N) (r : Fin 256) : Fin 16384 := ⟨t.val * 256 + r.val, by have := tlt t; omega⟩
/-- The tile's row of the modulation table. -/
def tileRow (t : Fin cfg0.N) : Fin 16 := ⟨if t.val < 32 then 8 else (t.val - 32) / 4, by have := tlt t; split <;> omega⟩

theorem tileRow_eq (t : Fin cfg0.N) (r : Fin 256) : tileRow t = modRow (tok t r) := by
  have := tlt t
  refine Fin.ext ?_
  show (if t.val < 32 then 8 else (t.val - 32) / 4) = if t.val * 256 + r.val < 8192 then 8 else (t.val * 256 + r.val - 8192) / 1024
  have hr := r.isLt
  split <;> split <;> omega

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![t.val, 0] := by decide +kernel
theorem idx6 : ∀ t : Fin cfg0.N, (cfg0.win 6).index t = ![t.val, 0] := by decide +kernel
theorem idx7 : ∀ t : Fin cfg0.N, (cfg0.win 7).index t = ![if t.val < 32 then 8 else (t.val - 32) / 4, 0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![0, 0] := by decide +kernel
theorem idx11 : ∀ t : Fin cfg0.N, (cfg0.win 11).index t = ![0, 0] := by decide +kernel
theorem idx12 : ∀ t : Fin cfg0.N, (cfg0.win 12).index t = ![0, 0] := by decide +kernel
theorem idx13 : ∀ t : Fin cfg0.N, (cfg0.win 13).index t = ![0, 0] := by decide +kernel
theorem idx14 : ∀ t : Fin cfg0.N, (cfg0.win 14).index t = ![0, 0] := by decide +kernel
theorem idx15 : ∀ t : Fin cfg0.N, (cfg0.win 15).index t = ![t.val, 0] := by decide +kernel

/-- The blocks of a point. -/
abbrev yfB (c : Dev nD) (t : Fin cfg0.N) : Vec Ideal S256x512 .f32 := iblk m c 0 t
abbrev ybB (c : Dev nD) (t : Fin cfg0.N) : Vec Ideal S256x512 .f32 := iblk m c 1 t
abbrev bonusB (c : Dev nD) (t : Fin cfg0.N) : Vec Ideal S256x512 .f32 := iblk m c 2 t
abbrev gB (c : Dev nD) (t : Fin cfg0.N) : Vec Ideal S256x512 .f32 := iblk m c 3 t
abbrev yhB (c : Dev nD) (t : Fin cfg0.N) : Vec Ideal S256x512 .f32 := iblk m c 4 t
abbrev gatesB (c : Dev nD) (t : Fin cfg0.N) : Vec Ideal S256x2048 .f32 := iblk m c 5 t
abbrev xB (c : Dev nD) (t : Fin cfg0.N) : Vec Ideal S256x1024 .f32 := iblk m c 6 t
abbrev modB (c : Dev nD) (t : Fin cfg0.N) : Vec Ideal S1x6x1024 .f32 := iblk m c 7 t
abbrev gwB (c : Dev nD) (t : Fin cfg0.N) : Vec Ideal S1x512 .f32 := iblk m c 8 t
abbrev gbB (c : Dev nD) (t : Fin cfg0.N) : Vec Ideal S1x512 .f32 := iblk m c 9 t
abbrev paB (c : Dev nD) (t : Fin cfg0.N) : Vec Ideal S512x1024 .bf16 := iblk m c 10 t
abbrev pbB (c : Dev nD) (t : Fin cfg0.N) : Vec Ideal S512x1024 .bf16 := iblk m c 11 t
abbrev poB (c : Dev nD) (t : Fin cfg0.N) : Vec Ideal S1024x1024 .bf16 := iblk m c 12 t
abbrev lgB (c : Dev nD) (t : Fin cfg0.N) : Vec Ideal S1x1024 .f32 := iblk m c 13 t
abbrev lbB (c : Dev nD) (t : Fin cfg0.N) : Vec Ideal S1x1024 .f32 := iblk m c 14 t

theorem yf_at (c : Dev nD) (t : Fin cfg0.N) (r : Fin 256) (k : Fin 512) : yfB m c t (ix2 r k) = (argsOf m c).yf (tok t r) k := by
  unfold argsOf yfB
  blk_ext [iblk, V, idx0 t] <;> rfl

theorem yb_at (c : Dev nD) (t : Fin cfg0.N) (r : Fin 256) (k : Fin 512) : ybB m c t (ix2 r k) = (argsOf m c).yb (tok t r) k := by
  unfold argsOf ybB
  blk_ext [iblk, V, idx1 t] <;> rfl

theorem bonus_at (c : Dev nD) (t : Fin cfg0.N) (r : Fin 256) (k : Fin 512) : bonusB m c t (ix2 r k) = (argsOf m c).bonus (tok t r) k := by
  unfold argsOf bonusB
  blk_ext [iblk, V, idx2 t] <;> rfl

theorem g_at (c : Dev nD) (t : Fin cfg0.N) (r : Fin 256) (k : Fin 512) : gB m c t (ix2 r k) = (argsOf m c).g (tok t r) k := by
  unfold argsOf gB
  blk_ext [iblk, V, idx3 t] <;> rfl

theorem yh_at (c : Dev nD) (t : Fin cfg0.N) (r : Fin 256) (k : Fin 512) : yhB m c t (ix2 r k) = (argsOf m c).yh (tok t r) k := by
  unfold argsOf yhB
  blk_ext [iblk, V, idx4 t] <;> rfl

theorem gates_at (c : Dev nD) (t : Fin cfg0.N) (r : Fin 256) (k : Fin 2048) : gatesB m c t (ix2 r k) = (argsOf m c).gates (tok t r) k := by
  unfold argsOf gatesB
  blk_ext [iblk, V, idx5 t] <;> rfl

theorem x_at (c : Dev nD) (t : Fin cfg0.N) (r : Fin 256) (k : Fin 1024) : xB m c t (ix2 r k) = (argsOf m c).x (tok t r) k := by
  unfold argsOf xB
  blk_ext [iblk, V, idx6 t] <;> rfl

theorem pa_at (c : Dev nD) (t : Fin cfg0.N) (q : Fin 512) (k : Fin 1024) : paB m c t (ix2 q k) = (argsOf m c).pa q k := by
  unfold argsOf paB
  blk_ext! [iblk, V, idx10 t] <;> rfl

theorem pb_at (c : Dev nD) (t : Fin cfg0.N) (q : Fin 512) (k : Fin 1024) : pbB m c t (ix2 q k) = (argsOf m c).pb q k := by
  unfold argsOf pbB
  blk_ext! [iblk, V, idx11 t] <;> rfl

theorem po_at (c : Dev nD) (t : Fin cfg0.N) (q : Fin 1024) (k : Fin 1024) : poB m c t (ix2 q k) = (argsOf m c).po q k := by
  unfold argsOf poB
  blk_ext! [iblk, V, idx12 t] <;> rfl

theorem V0 (c : Dev nD) : (V m c main_v0 : Vec Ideal S1x512 .f32) = broadcastInDim S1x512 ![1] bcast_S512_S1x512_1 (m ((c.tc : Thread nD τ).loc main_arg8) : Vec Ideal S512 .f32) := by
  unfold_abbrev_sides
  simp only [List.flatten_cons, List.flatten_nil, List.cons_append, List.nil_append, hostOps0]
  after_results_simp

theorem gw_at (c : Dev nD) (t : Fin cfg0.N) (d : Fin 512) : gwB m c t (ix2 0 d) = (argsOf m c).gw d := by
  show (V m c main_v0 : Vec Ideal S1x512 .f32) ((win0_8.blk t).view.emb (ix2 0 d)) = _
  have he : (win0_8.blk t).view.emb (ix2 0 d : S1x512.Idx) = (ix2 0 d : S1x512.Idx) := by
    blk_ext [idx8 t]
  rw [he, V0]
  pointwise
  rfl

theorem V1 (c : Dev nD) : (V m c main_v1 : Vec Ideal S1x512 .f32) = broadcastInDim S1x512 ![1] bcast_S512_S1x512_1 (m ((c.tc : Thread nD τ).loc main_arg9) : Vec Ideal S512 .f32) := by
  unfold_abbrev_sides
  simp only [List.flatten_cons, List.flatten_nil, List.cons_append, List.nil_append, hostOps0]
  after_results_simp

theorem gb_at (c : Dev nD) (t : Fin cfg0.N) (d : Fin 512) : gbB m c t (ix2 0 d) = (argsOf m c).gb d := by
  show (V m c main_v1 : Vec Ideal S1x512 .f32) ((win0_9.blk t).view.emb (ix2 0 d)) = _
  have he : (win0_9.blk t).view.emb (ix2 0 d : S1x512.Idx) = (ix2 0 d : S1x512.Idx) := by
    blk_ext [idx9 t]
  rw [he, V1]
  pointwise
  rfl

theorem V5 (c : Dev nD) : (V m c main_v5 : Vec Ideal S1x1024 .f32) = broadcastInDim S1x1024 ![1] bcast_S1024_S1x1024_1 (m ((c.tc : Thread nD τ).loc main_arg13) : Vec Ideal S1024 .f32) := by
  unfold_abbrev_sides
  simp only [List.flatten_cons, List.flatten_nil, List.cons_append, List.nil_append, hostOps0]
  after_results_simp

theorem lg_at (c : Dev nD) (t : Fin cfg0.N) (d : Fin 1024) : lgB m c t (ix2 0 d) = (argsOf m c).lg d := by
  show (V m c main_v5 : Vec Ideal S1x1024 .f32) ((win0_13.blk t).view.emb (ix2 0 d)) = _
  have he : (win0_13.blk t).view.emb (ix2 0 d : S1x1024.Idx) = (ix2 0 d : S1x1024.Idx) := by
    blk_ext [idx13 t]
  rw [he, V5]
  pointwise
  rfl

theorem V6 (c : Dev nD) : (V m c main_v6 : Vec Ideal S1x1024 .f32) = broadcastInDim S1x1024 ![1] bcast_S1024_S1x1024_1 (m ((c.tc : Thread nD τ).loc main_arg14) : Vec Ideal S1024 .f32) := by
  unfold_abbrev_sides
  simp only [List.flatten_cons, List.flatten_nil, List.cons_append, List.nil_append, hostOps0]
  after_results_simp

theorem lb_at (c : Dev nD) (t : Fin cfg0.N) (d : Fin 1024) : lbB m c t (ix2 0 d) = (argsOf m c).lb d := by
  show (V m c main_v6 : Vec Ideal S1x1024 .f32) ((win0_14.blk t).view.emb (ix2 0 d)) = _
  have he : (win0_14.blk t).view.emb (ix2 0 d : S1x1024.Idx) = (ix2 0 d : S1x1024.Idx) := by
    blk_ext [idx14 t]
  rw [he, V6]
  pointwise
  rfl

theorem mod_at' (c : Dev nD) (t : Fin cfg0.N) (j : Fin 6) (k : Fin 1024) : modB m c t (ix3 0 j k) = (argsOf m c).mod (tileRow t) j k := by
  unfold argsOf modB
  blk_ext [iblk, V, idx7 t] <;> rfl

/-- The gate's row of the modulation block, and the halves of the gates' block. -/
abbrev gateR (c : Dev nD) (t : Fin cfg0.N) : Vec Ideal S1x1x1024 .f32 := View.ld (modB m c t) r0_7
abbrev gatesA (c : Dev nD) (t : Fin cfg0.N) : Vec Ideal S256x1024 .f32 := View.ld (gatesB m c t) r0_2
abbrev gatesH (c : Dev nD) (t : Fin cfg0.N) : Vec Ideal S256x1024 .f32 := View.ld (gatesB m c t) r0_4

theorem gateR_at (c : Dev nD) (t : Fin cfg0.N) (r : Fin 256) (k : Fin 1024) : gateR m c t (ix3 0 0 k) = (argsOf m c).mod (modRow (tok t r)) 2 k := by
  rw [← tileRow_eq t r, ← mod_at' m c t 2 k]
  pointwise [gateR]
theorem gatesA_at (c : Dev nD) (t : Fin cfg0.N) (r : Fin 256) (k : Fin 1024) : gatesA m c t (ix2 r k) = (argsOf m c).gates (tok t r) (colA k) := by
  rw [← gates_at m c t r (colA k)]
  pointwise [gatesA, colA]
theorem gatesH_at (c : Dev nD) (t : Fin cfg0.N) (r : Fin 256) (k : Fin 1024) : gatesH m c t (ix2 r k) = (argsOf m c).gates (tok t r) (colB k) := by
  rw [← gates_at m c t r (colB k)]
  pointwise [gatesH, colB]

/-- The row that is normalised over the heads, centred. -/
theorem dev_at (c : Dev nD) (t : Fin cfg0.N) (r : Fin 256) (hz : ∀ q, ∃ v : ℝ, y (argsOf m c) (tok t r) q = v) (q : Fin 512) :
    k0_pay7 k0_pay2 k0_pay3 k0_pay4 k0_pay5 (yfB m c t) (ybB m c t) (ix2 r q) = hdev (y (argsOf m c) (tok t r)) q := by
  rw [pay7_at]
  simp only [yf_at, yb_at]
  exact kdev_eq _ hz q

/-- The heads' variances. -/
theorem var_at (c : Dev nD) (t : Fin cfg0.N) (r : Fin 256) (hz : ∀ q, ∃ v : ℝ, y (argsOf m c) (tok t r) q = v) (q : Fin 512) :
    k0_pay8 k0_pay2 k0_pay3 k0_pay4 k0_pay5 (yfB m c t) (ybB m c t) (ix2 r q) = hvar (y (argsOf m c) (tok t r)) (headOf q) + gnEps := by
  rw [pay8_at _ _ r q _ (fun p => dev_at m c t r hz p), kvar_eq _ hz q]

/-- The gated product of the first branch. -/
theorem fst_at (c : Dev nD) (t : Fin cfg0.N) (r : Fin 256) (hz : ∀ q, ∃ v : ℝ, y (argsOf m c) (tok t r) q = v) (k : Fin 1024) :
    k0_pay9 (k0_pay7 k0_pay2 k0_pay3 k0_pay4 k0_pay5 (yfB m c t) (ybB m c t)) (k0_pay8 k0_pay2 k0_pay3 k0_pay4 k0_pay5 (yfB m c t) (ybB m c t))
        (gwB m c t) (gbB m c t) (bonusB m c t) (gB m c t) (gatesA m c t) (paB m c t) (ix2 r k)
      = sigm ((argsOf m c).gates (tok t r) (colA k)) * ∑ q, ya (argsOf m c) (gnorm (y (argsOf m c) (tok t r))) (tok t r) q * (argsOf m c).pa q k := by
  rw [pay9_at]
  simp only [dev_at m c t r hz, var_at m c t r hz, gw_at, gb_at, bonus_at, g_at, gatesA_at, pa_at]
  rfl

/-- The block written. -/
theorem block (c : Dev nD) (t : Fin cfg0.N) (r : Fin 256) (hz : ∀ q, ∃ v : ℝ, y (argsOf m c) (tok t r) q = v) (d : Fin 1024) :
    out0_15 (yfB m c t) (ybB m c t) (bonusB m c t) (gB m c t) (yhB m c t) (gatesB m c t) (xB m c t) (modB m c t) (gwB m c t) (gbB m c t) (paB m c t) (pbB m c t) (poB m c t) (lgB m c t) (lbB m c t) (ix2 r d) = out (argsOf m c) (tok t r) d := by
  frame_out
  refine (pay13_at _ _ _ (pbB m c t) (poB m c t) (xB m c t) (gateR m c t) (lgB m c t) (lbB m c t) r d).trans ?_
  have hm : ∀ k, k0_pay9 (k0_pay7 k0_pay2 k0_pay3 k0_pay4 k0_pay5 (yfB m c t) (ybB m c t)) (k0_pay8 k0_pay2 k0_pay3 k0_pay4 k0_pay5 (yfB m c t) (ybB m c t))
        (gwB m c t) (gbB m c t) (bonusB m c t) (gB m c t) (gatesA m c t) (paB m c t) (ix2 r k)
        + k0_pay10 (gatesH m c t) (ix2 r k) * ∑ q, k0_pay11 (yhB m c t) (ix2 r q) * pbB m c t (ix2 q k)
      = merged (argsOf m c) (gnorm (y (argsOf m c) (tok t r))) (tok t r) k := fun k => by
    rw [fst_at m c t r hz, pay10_at, gatesH_at]
    simp only [pay11_at, yh_at, pb_at]
    rfl
  refine Eq.trans (congrFun (congr (congr (congrArg lnorm (a₂ := pre (argsOf m c) (gnorm (y (argsOf m c) (tok t r))) (tok t r)) (funext fun d => ?_))
    (funext fun d => lg_at m c t d)) (funext fun d => lb_at m c t d)) d) rfl
  rw [gateR_at m c t r, x_at]
  refine congrArg (fun w => alpha * _ + _ * w) (Finset.sum_congr rfl fun k _ => ?_)
  rw [← hm k, ← po_at m c t k d]
  rfl

/-- The result array, where the directions' sums are reals. -/
theorem arr (c : Dev nD) (hz : ∀ l q, ∃ v : ℝ, y (argsOf m c) l q = v) :
    ((dats m 0 c).arrAt 15 cfg0.N : Vec Ideal S16384x1024 .f32) = fun ix => out (argsOf m c) (ix 0) (ix 1) := by
  refine (dats m 0 c).arrAt_eq_of_covers 15 _ (by decide +kernel) fun t hf y => ?_
  obtain ⟨r, d, rfl⟩ : ∃ (r : Fin 256) (d : Fin 1024), y = ix2 r d := ⟨y 0, y 1, funext fun a => by match a with | ⟨0, _⟩ => rfl | ⟨1, _⟩ => rfl⟩
  blk_simp
  rw [after0_15]
  have he : (win0_15.blk t).view.emb (ix2 r d : S256x1024.Idx) = (ix2 (tok t r) d : S16384x1024.Idx) := by
    blk_ext [idx15 t] <;> rfl
  rw [he]
  exact block m c t r (fun q => hz (tok t r) q) d

end Cert.Kernel5Ideal.Tail

end
-- ==== Proof.TailRef.lean ====
module

public import proofs.«01_k».proof.Proof.Gen.Reference5Ideal.Run
public import proofs.«01_k».proof.Proof.TailSpec
public import Idealize.ShloMosaic.Lib.Pointwise

/-!
What the reference of the mixer's end computes over the extended reals, entry by entry.
-/

@[expose] public section

set_option maxRecDepth 16384

noncomputable section

namespace Cert.Reference5Ideal.Tail

open Cert.Reference5Ideal Cert.Reference5Ideal.Gen Cert.TailSpec
open Cert.MoeSpec (modRow alpha lnorm mean)
open Idealize.ShloMosaic Idealize.ShloMosaic.TcCoe

variable (a0 a1 a2 a3 a4 : FVec Ideal S16384x512 .f32) (a5 : FVec Ideal S16384x2048 .f32) (a6 : FVec Ideal S16384x1024 .f32) (a7 : FVec Ideal S16x6x1024 .f32)
  (a8 a9 : FVec Ideal S512 .f32) (a10 a11 : FVec Ideal S512x1024 .f32) (a12 : FVec Ideal S1024x1024 .f32) (a13 a14 : FVec Ideal S1024 .f32)

/-- The call's arguments, from the arrays. -/
def argsOf : Args where
  yf l q := a0 (ix2 l q)
  yb l q := a1 (ix2 l q)
  bonus l q := a2 (ix2 l q)
  g l q := a3 (ix2 l q)
  yh l q := a4 (ix2 l q)
  gates l k := a5 (ix2 l k)
  x l k := a6 (ix2 l k)
  mod i j k := a7 (ix3 i j k)
  gw q := a8 (ix1 q)
  gb q := a9 (ix1 q)
  pa q k := a10 (ix2 q k)
  pb q k := a11 (ix2 q k)
  po k d := a12 (ix2 k d)
  lg d := a13 (ix1 d)
  lb d := a14 (ix1 d)

/-- Every token's row of the modulation table. -/
def tab : FVec Ideal S16384x6x1024 .f32 := concatenate S16384x6x1024 0 [⟨S8192x6x1024, (broadcastInDim S8192x6x1024 ![0, 1, 2] bcast_S1x6x1024_S8192x6x1024_0_1_2 (broadcastInDim S1x6x1024 ![1, 2] bcast_S6x1024_S1x6x1024_1_2 (shapeCast _ (extractStridedSlice S1x6x1024 ![8, 0, 0] a7 slices_S16x6x1024_S1x6x1024_8_0_0) shapeCasts_S1x6x1024_S6x1024)))⟩, ⟨S8192x6x1024, (shapeCast _ (broadcastInDim S8x1024x6x1024 ![0, 1, 2, 3] bcast_S8x1x6x1024_S8x1024x6x1024_0_1_2_3 (broadcastInDim S8x1x6x1024 ![0, 2, 3] bcast_S8x6x1024_S8x1x6x1024_0_2_3 (extractStridedSlice S8x6x1024 ![0, 0, 0] a7 slices_S16x6x1024_S8x6x1024_0_0_0))) shapeCasts_S8x1024x6x1024_S8192x6x1024)⟩] concatenates_S8192x6x1024_S8192x6x1024_S16384x6x1024_d0

theorem tab_at (l : Fin 16384) (j : Fin 6) (k : Fin 1024) : tab a7 (ix3 l j k) = a7 (ix3 (modRow l) j k) := by
  pointwise [tab]
  unfold modRow
  by_cases h : l.val < 8192
  · rw [dif_pos h]
    exact congrArg (fun i => a7 (ix3 i j k)) (Fin.ext (if_pos h).symm)
  · rw [dif_neg h]
    exact congrArg (fun i => a7 (ix3 i j k)) (Fin.ext (if_neg h).symm)

/-- The two directions' sum, a head's channels apart. -/
def seg : FVec Ideal S16384x8x64 .f32 := shapeCast _ (addf a0 a1) shapeCasts_S16384x512_S16384x8x64

theorem seg_at (l : Fin 16384) (h : Fin 8) (i : Fin 64) : seg a0 a1 (ix3 l h i) = a0 (ix2 l (chan h i)) + a1 (ix2 l (chan h i)) := by
  pointwise [seg, chan]

/-- The heads' means, and the channels less them. -/
def hm (y : FVec Ideal S16384x8x64 .f32) : FVec Ideal S16384x8x1 .f32 := Host.divf (broadcastInDim S16384x8x1 ![0, 1] bcast_S16384x8_S16384x8x1_0_1 (Host.reduceAdd y (constant S_ .f32 0x00000000#32) reducesTo_S16384x8x64_S16384x8_d2 h_S_)) (broadcastInDim S16384x8x1 ![] bcast_S_S16384x8x1 (constant S_ .f32 0x42800000#32))

theorem hm_at (y : FVec Ideal S16384x8x64 .f32) (l : Fin 16384) (h : Fin 8) : hm y (ix3 l h 0) = Ideal.div (∑ i, y (ix3 l h i)) headWidth := by
  pointwise [hm, headWidth]

def cen8 (y : FVec Ideal S16384x8x64 .f32) : FVec Ideal S16384x8x64 .f32 := subf y (broadcastInDim S16384x8x64 ![0, 1, 2] bcast_S16384x8x1_S16384x8x64_0_1_2 (hm y))

theorem cen8_at (y : FVec Ideal S16384x8x64 .f32) (l : Fin 16384) (h : Fin 8) (i : Fin 64) : cen8 y (ix3 l h i) = y (ix3 l h i) - hm y (ix3 l h 0) := by
  pointwise [cen8]

/-- The normalised rows. -/
def gn (y : FVec Ideal S16384x8x64 .f32) : FVec Ideal S16384x512 .f32 := shapeCast _ (mulf (cen8 y) (broadcastInDim S16384x8x64 ![0, 1, 2] bcast_S16384x8x1_S16384x8x64_0_1_2 (Host.rsqrt (addf (hm (mulf (cen8 y) (cen8 y))) (broadcastInDim S16384x8x1 ![] bcast_S_S16384x8x1 (constant S_ .f32 0x3A27C5AC#32)))))) shapeCasts_S16384x8x64_S16384x512

theorem gn_at (y : FVec Ideal S16384x8x64 .f32) (l : Fin 16384) (q : Fin 512) : gn y (ix2 l q)
    = cen8 y (ix3 l (headOf q) (laneOf q)) * Ideal.rsqrt (hm (mulf (cen8 y) (cen8 y)) (ix3 l (headOf q) 0) + gnEps) := by
  pointwise [gn, headOf, laneOf, gnEps]

theorem dev_at (z : Fin 512 → EReal) (y : FVec Ideal S16384x8x64 .f32) (l : Fin 16384) (hz : ∀ h i, y (ix3 l h i) = z (chan h i)) (h : Fin 8) (i : Fin 64) :
    cen8 y (ix3 l h i) = hdev z (chan h i) := by
  rw [cen8_at, hm_at]
  simp only [hz]
  unfold hdev hmean
  rw [headOf_chan]

theorem gnorm_at (z : Fin 512 → EReal) (y : FVec Ideal S16384x8x64 .f32) (l : Fin 16384) (hz : ∀ h i, y (ix3 l h i) = z (chan h i)) (q : Fin 512) :
    gn y (ix2 l q) = gnorm z q := by
  have hs : ∀ i, mulf (cen8 y) (cen8 y) (ix3 l (headOf q) i) = hdev z (chan (headOf q) i) * hdev z (chan (headOf q) i) := fun i => by
    rw [← dev_at z y l hz]; rfl
  rw [gn_at, hm_at, dev_at z y l hz, chan_of]
  simp only [hs]
  rfl

/-- The normalised rows' affine map, bonus and gate. -/
def ya (n : FVec Ideal S16384x512 .f32) : FVec Ideal S16384x512 .f32 := mulf (addf (addf (mulf n (broadcastInDim S16384x512 ![0, 1] bcast_S1x512_S16384x512_0_1 (broadcastInDim S1x512 ![1] bcast_S512_S1x512_1 a8))) (broadcastInDim S16384x512 ![0, 1] bcast_S1x512_S16384x512_0_1 (broadcastInDim S1x512 ![1] bcast_S512_S1x512_1 a9))) a2) a3

theorem ya_at (n : FVec Ideal S16384x512 .f32) (l : Fin 16384) (q : Fin 512) :
    ya a2 a3 a8 a9 n (ix2 l q) = (n (ix2 l q) * a8 (ix1 q) + a9 (ix1 q) + a2 (ix2 l q)) * a3 (ix2 l q) := by
  pointwise [ya]

/-- The two gated products together. -/
def merged (v : FVec Ideal S16384x512 .f32) : FVec Ideal S16384x1024 .f32 := addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 0] a5 slices_S16384x2048_S16384x1024_0_0))))) (Host.dotGeneral dot_S16384x512_S512x1024_S16384x1024_1_0_0_1_n_n none v a10)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] a5 slices_S16384x2048_S16384x1024_0_1024))))) (Host.dotGeneral dot_S16384x512_S512x1024_S16384x1024_1_0_0_1_n_n none a4 a11))

theorem merged_at (v : FVec Ideal S16384x512 .f32) (l : Fin 16384) (k : Fin 1024) : merged a4 a5 a10 a11 v (ix2 l k)
    = sigm (a5 (ix2 l (colA k))) * ∑ q, v (ix2 l q) * a10 (ix2 q k) + sigm (a5 (ix2 l (colB k))) * ∑ q, a4 (ix2 l q) * a11 (ix2 q k) := by
  unfold merged sigm
  pointwise [colA, colB]

/-- What is normalised last. -/
def pre (u : FVec Ideal S16384x1024 .f32) : FVec Ideal S16384x1024 .f32 := addf (mulf (broadcastInDim S16384x1024 ![] bcast_S_S16384x1024 (constant S_ .f32 0x3FD744FD#32)) a6) (mulf (shapeCast _ (extractStridedSlice S16384x1x1024 ![0, 2, 0] (tab a7) slices_S16384x6x1024_S16384x1x1024_0_2_0) shapeCasts_S16384x1x1024_S16384x1024) (Host.dotGeneral dot_S16384x1024_S1024x1024_S16384x1024_1_0_0_1_n_n none u a12))

theorem pre_at (u : FVec Ideal S16384x1024 .f32) (l : Fin 16384) (d : Fin 1024) : pre a6 a7 a12 u (ix2 l d)
    = alpha * a6 (ix2 l d) + a7 (ix3 (modRow l) 2 d) * ∑ k, u (ix2 l k) * a12 (ix2 k d) := by
  refine Eq.trans ?_ (congrArg (fun w => alpha * a6 (ix2 l d) + w * ∑ k, u (ix2 l k) * a12 (ix2 k d)) (tab_at a7 l 2 d))
  pointwise [pre]
  rfl

/-- The mean of every row, and the rows less their means. -/
def mid (z : FVec Ideal S16384x1024 .f32) : FVec Ideal S16384x1 .f32 := Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

theorem mid_at (z : FVec Ideal S16384x1024 .f32) (l : Fin 16384) : mid z (ix2 l 0) = mean fun k => z (ix2 l k) := by
  unfold mean
  pointwise [mid]
  rfl

def cen (z : FVec Ideal S16384x1024 .f32) : FVec Ideal S16384x1024 .f32 := subf z (broadcastInDim S16384x1024 ![0, 1] bcast_S16384x1_S16384x1024_0_1 (mid z))

theorem cen_at (z : FVec Ideal S16384x1024 .f32) (l : Fin 16384) (k : Fin 1024) : cen z (ix2 l k) = z (ix2 l k) - mean fun k => z (ix2 l k) := by
  rw [← mid_at]
  pointwise [cen]

/-- The layer norm of every row. -/
def norm (z : FVec Ideal S16384x1024 .f32) : FVec Ideal S16384x1024 .f32 := addf (mulf (mulf (cen z) (broadcastInDim S16384x1024 ![0, 1] bcast_S16384x1_S16384x1024_0_1 (Host.rsqrt (addf (Host.divf (broadcastInDim S16384x1 ![0] bcast_S16384_S16384x1_0 (Host.reduceAdd (mulf (cen z) (cen z)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 a13))) (broadcastInDim S16384x1024 ![0, 1] bcast_S1x1024_S16384x1024_0_1 (broadcastInDim S1x1024 ![1] bcast_S1024_S1x1024_1 a14))

theorem norm_at (z : FVec Ideal S16384x1024 .f32) (l : Fin 16384) (d : Fin 1024) :
    norm a13 a14 z (ix2 l d) = lnorm (fun k => z (ix2 l k)) (fun k => a13 (ix1 k)) (fun k => a14 (ix1 k)) d := by
  unfold lnorm
  rw [show (fun k => (z (ix2 l k) - mean fun k => z (ix2 l k)) * (z (ix2 l k) - mean fun k => z (ix2 l k)))
      = fun k => cen z (ix2 l k) * cen z (ix2 l k) from funext fun k => by rw [cen_at]]
  rw [← cen_at]
  unfold norm mean
  pointwise
  rfl

/-- The whole. -/
def result : FVec Ideal S16384x1024 .f32 := norm a13 a14 (pre a6 a7 a12 (merged a4 a5 a10 a11 (ya a2 a3 a8 a9 (gn (seg a0 a1)))))

theorem result_at (l : Fin 16384) (d : Fin 1024) : result a0 a1 a2 a3 a4 a5 a6 a7 a8 a9 a10 a11 a12 a13 a14 (ix2 l d) = out (argsOf a0 a1 a2 a3 a4 a5 a6 a7 a8 a9 a10 a11 a12 a13 a14) l d := by
  have hn : ∀ q, gn (seg a0 a1) (ix2 l q) = gnorm (y (argsOf a0 a1 a2 a3 a4 a5 a6 a7 a8 a9 a10 a11 a12 a13 a14) l) q := fun q => gnorm_at _ _ l (fun h i => seg_at a0 a1 l h i) q
  have hy : ∀ q, ya a2 a3 a8 a9 (gn (seg a0 a1)) (ix2 l q) = TailSpec.ya (argsOf a0 a1 a2 a3 a4 a5 a6 a7 a8 a9 a10 a11 a12 a13 a14) (gnorm (y (argsOf a0 a1 a2 a3 a4 a5 a6 a7 a8 a9 a10 a11 a12 a13 a14) l)) l q := fun q => by
    rw [ya_at, hn]; rfl
  have hm : ∀ k, merged a4 a5 a10 a11 (ya a2 a3 a8 a9 (gn (seg a0 a1))) (ix2 l k)
      = TailSpec.merged (argsOf a0 a1 a2 a3 a4 a5 a6 a7 a8 a9 a10 a11 a12 a13 a14) (gnorm (y (argsOf a0 a1 a2 a3 a4 a5 a6 a7 a8 a9 a10 a11 a12 a13 a14) l)) l k := fun k => by
    rw [merged_at]
    simp only [hy]
    rfl
  have hp : (fun d => pre a6 a7 a12 (merged a4 a5 a10 a11 (ya a2 a3 a8 a9 (gn (seg a0 a1)))) (ix2 l d)) = TailSpec.pre (argsOf a0 a1 a2 a3 a4 a5 a6 a7 a8 a9 a10 a11 a12 a13 a14) (gnorm (y (argsOf a0 a1 a2 a3 a4 a5 a6 a7 a8 a9 a10 a11 a12 a13 a14) l)) l := funext fun d => by
    rw [pre_at]
    simp only [hm]
    rfl
  unfold result
  rw [norm_at, hp]
  rfl

/-- The result array. -/
theorem result_eq : result a0 a1 a2 a3 a4 a5 a6 a7 a8 a9 a10 a11 a12 a13 a14 = fun ix => out (argsOf a0 a1 a2 a3 a4 a5 a6 a7 a8 a9 a10 a11 a12 a13 a14) (ix 0) (ix 1) := by
  funext ix
  rw [eq_ix2 ix]
  exact result_at a0 a1 a2 a3 a4 a5 a6 a7 a8 a9 a10 a11 a12 a13 a14 _ _

theorem result_of (B : Args) (h : argsOf a0 a1 a2 a3 a4 a5 a6 a7 a8 a9 a10 a11 a12 a13 a14 = B) : result a0 a1 a2 a3 a4 a5 a6 a7 a8 a9 a10 a11 a12 a13 a14 = fun ix => out B (ix 0) (ix 1) := by
  rw [← h]; exact result_eq a0 a1 a2 a3 a4 a5 a6 a7 a8 a9 a10 a11 a12 a13 a14

end Cert.Reference5Ideal.Tail

end
-- ==== Proof.TailClaims.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Pre_finite_scan
public import proofs.«01_k».proof.Proof.MoeClaims
public import proofs.«01_k».proof.Proof.TailVal
public import proofs.«01_k».proof.Proof.TailRef
public import Idealize.ShloMosaic.Lib.Quiescent

/-!
The claims about the mixer's end: both kernels and the reference run and leave everything else as it was, and over the
extended reals, where the two directions' rows are reals, the kernel's result is the reference's.
-/

@[expose] public section

set_option maxRecDepth 16384

noncomputable section

namespace Cert.TailClaims

open Idealize.ShloMosaic Idealize.ShloMosaic.TcCoe Idealize.SL.Sem Cert.TailSpec

theorem kernel_runs : Cert.quiescent_Kernel5 (hKernel5 := Cert.Kernel5.Gen.facts) := fun m ρ _ => Cert.Kernel5.Gen.frame m ρ

theorem ideal_runs : Cert.quiescent_Kernel5Ideal (hKernel5Ideal := Cert.Kernel5Ideal.Gen.facts) := fun m ρ _ => Cert.Kernel5Ideal.Gen.frame m ρ

theorem ideal_runs_pre : Cert.quiescent_Kernel5Ideal_pre_finite_scan (hKernel5Ideal := Cert.Kernel5Ideal.Gen.facts)
    (hPre_finite_scan := Cert.Pre_finite_scan.Gen.facts) := fun m ρ _ => Cert.Kernel5Ideal.Gen.frame m ρ

theorem reference_runs : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

theorem reference_runs_pre : Cert.quiescent_Reference5Ideal_pre_finite_scan (hReference5Ideal := Cert.Reference5Ideal.Gen.facts)
    (hPre_finite_scan := Cert.Pre_finite_scan.Gen.facts) := fun m ρ _ => reference_runs m ρ trivial

theorem pre_fwd (a0 a1 a2 a3 a4 a5 a6 a7 a8 a9 a10 a11 a12 a13 a14) (l : Fin 16384) (q : Fin 512) :
    (Cert.Pre_finite_scan.fn (F := Ideal) a0 a1 a2 a3 a4 a5 a6 a7 a8 a9 a10 a11 a12 a13 a14).1 (ix2 l q) = 1#1 → ∃ r : ℝ, a0 (ix2 l q) = r := by
  unfold Cert.Pre_finite_scan.fn
  pointwise
  intro h
  exact Cert.MoeClaims.real_of_lt _ h

theorem pre_bwd (a0 a1 a2 a3 a4 a5 a6 a7 a8 a9 a10 a11 a12 a13 a14) (l : Fin 16384) (q : Fin 512) :
    (Cert.Pre_finite_scan.fn (F := Ideal) a0 a1 a2 a3 a4 a5 a6 a7 a8 a9 a10 a11 a12 a13 a14).2 (ix2 l q) = 1#1 → ∃ r : ℝ, a1 (ix2 l q) = r := by
  unfold Cert.Pre_finite_scan.fn
  pointwise
  intro h
  exact Cert.MoeClaims.real_of_lt _ h

/-- The directions' sum is real where the precondition says that both are. -/
theorem finite (m : (ℓ : Loc Cert.Kernel5Ideal.nD Cert.Kernel5Ideal.τ Cert.Kernel5Ideal.sig) → Buf (Elt Ideal) ℓ)
    (h : Cert.Pre_Kernel5Ideal_finite_scan (hPre_finite_scan := Cert.Pre_finite_scan.Gen.facts) m) (c : Dev Cert.Kernel5Ideal.nD)
    (l : Fin 16384) (q : Fin 512) : ∃ v : ℝ, y (Cert.Kernel5Ideal.Tail.argsOf m c) l q = v := by
  obtain ⟨u, hu⟩ := pre_fwd _ _ _ _ _ _ _ _ _ _ _ _ _ _ _ l q (congrFun (h c).1 _)
  obtain ⟨w, hw⟩ := pre_bwd _ _ _ _ _ _ _ _ _ _ _ _ _ _ _ l q (congrFun (h c).2 _)
  exact ⟨u + w, (congrArg₂ (· + ·) hu hw).trans (EReal.coe_add u w).symm⟩

/-- The kernel computes the mixer's end. -/
theorem values : Cert.algebraic_Kernel5Ideal_Reference5Ideal_pre_finite_scan (hKernel5Ideal := Cert.Kernel5Ideal.Gen.facts)
    (hReference5Ideal := Cert.Reference5Ideal.Gen.facts) (hPre_finite_scan := Cert.Pre_finite_scan.Gen.facts) := by
  intro m ρ m' ρ' hpre hin
  have hA : ∀ c : Dev Cert.Reference5Ideal.nD, Cert.Reference5Ideal.Tail.argsOf (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11)) (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13)) (m' ((c.tc : Thread Cert.Reference5Ideal.nD Cert.Reference5Ideal.τ).loc Cert.Reference5Ideal.main_arg14)) = Cert.Kernel5Ideal.Tail.argsOf m c := by
    intro c
    obtain ⟨h0, h1, h2, h3, h4, h5, h6, h7, h8, h9, h10, h11, h12, h13, h14⟩ := hin c
    unfold Cert.Kernel5Ideal.Tail.argsOf
    rw [← h0, ← h1, ← h2, ← h3, ← h4, ← h5, ← h6, ← h7, ← h8, ← h9, ← h10, ← h11, ← h12, ← h13, ← h14]
    rfl
  refine ⟨fun c => fun ix => out (Cert.Kernel5Ideal.Tail.argsOf m c) (ix 0) (ix 1), ?_, ?_⟩
  · exact (θ_run Cert.Kernel5Ideal.defs _ _).mono (fun _ h c =>
      ⟨((h.1 c).1 15).trans (Cert.Kernel5Ideal.Tail.arr m c (finite m hpre c)), h.2 c⟩)
      (θ_run_and (Cert.Kernel5Ideal.Gen.run_main m ρ) (Cert.Kernel5Ideal.Gen.unchanged m ρ))
  · exact (θ_run Cert.Reference5Ideal.defs _ _).mono (fun _ h c =>
      ⟨(h c).1.trans (Cert.Reference5Ideal.Tail.result_of _ _ _ _ _ _ _ _ _ _ _ _ _ _ _ _ (hA c)), (h c).2⟩)
      (Cert.Reference5Ideal.Value.run (F := Ideal) m' ρ')

end Cert.TailClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Frame
public import proofs.«01_k».proof.Proof.Gen.Pre_finite_router
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_scan
public import proofs.«01_k».proof.Proof.ScanClaims
public import proofs.«01_k».proof.Proof.MoeClaims
public import proofs.«01_k».proof.Proof.DenseClaims
public import proofs.«01_k».proof.Proof.ProjClaims
public import proofs.«01_k».proof.Proof.TailClaims
public import Idealize.ShloMosaic.Adequacy
public import Idealize.ShloMosaic.Init

/-! Every claim of the certificate, from the modules that prove them. -/

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts, Cert.Pre_finite_router.Gen.facts, Cert.Pre_finite_scan.Gen.facts,
   Cert.ScanClaims.kernel_runs, Cert.ScanClaims.ideal_runs, Cert.ScanClaims.reference_runs,
   Cert.MoeClaims.kernel_runs, Cert.MoeClaims.ideal_runs, Cert.MoeClaims.ideal_runs_pre, Cert.MoeClaims.reference_runs, Cert.MoeClaims.reference_runs_pre,
   Cert.DenseClaims.kernel_runs, Cert.DenseClaims.ideal_runs, Cert.DenseClaims.reference_runs,
   Cert.ProjClaims.kernel_runs, Cert.ProjClaims.ideal_runs, Cert.ProjClaims.reference_runs,
   Cert.TailClaims.kernel_runs, Cert.TailClaims.ideal_runs, Cert.TailClaims.ideal_runs_pre, Cert.TailClaims.reference_runs, Cert.TailClaims.reference_runs_pre,
   trivial, Cert.ScanClaims.values, trivial, Cert.MoeClaims.values, trivial, Cert.DenseClaims.values, trivial, Cert.ProjClaims.values,
   trivial, Cert.TailClaims.values⟩

end Cert.Proof

end
